-- ==== Defs.lean ====
def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnRefIdeal (m : (ℓ : Loc Cert.LnRefIdeal.nD Cert.LnRefIdeal.τ Cert.LnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttRefIdeal (m : (ℓ : Loc Cert.AttRefIdeal.nD Cert.AttRefIdeal.τ Cert.AttRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1)
      ∧ r.2.mem ((c.tc : Thread Cert.Att.nD Cert.Att.τ).loc Cert.Att.main_arg2) = m ((c.tc : Thread Cert.Att.nD Cert.Att.τ).loc Cert.Att.main_arg2)
      ∧ r.2.mem ((c.tc : Thread Cert.Att.nD Cert.Att.τ).loc Cert.Att.main_arg3) = m ((c.tc : Thread Cert.Att.nD Cert.Att.τ).loc Cert.Att.main_arg3)
      ∧ r.2.mem ((c.tc : Thread Cert.Att.nD Cert.Att.τ).loc Cert.Att.main_arg4) = m ((c.tc : Thread Cert.Att.nD Cert.Att.τ).loc Cert.Att.main_arg4))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
      ∧ r.2.mem ((c.tc : Thread Cert.AttIdeal.nD Cert.AttIdeal.τ).loc Cert.AttIdeal.main_arg3) = m ((c.tc : Thread Cert.AttIdeal.nD Cert.AttIdeal.τ).loc Cert.AttIdeal.main_arg3)
      ∧ r.2.mem ((c.tc : Thread Cert.AttIdeal.nD Cert.AttIdeal.τ).loc Cert.AttIdeal.main_arg4) = m ((c.tc : Thread Cert.AttIdeal.nD Cert.AttIdeal.τ).loc Cert.AttIdeal.main_arg4))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2)
      ∧ r.2.mem ((c.tc : Thread Cert.AttRefIdeal.nD Cert.AttRefIdeal.τ).loc Cert.AttRefIdeal.main_arg3) = m ((c.tc : Thread Cert.AttRefIdeal.nD Cert.AttRefIdeal.τ).loc Cert.AttRefIdeal.main_arg3)
      ∧ r.2.mem ((c.tc : Thread Cert.AttRefIdeal.nD Cert.AttRefIdeal.τ).loc Cert.AttRefIdeal.main_arg4) = m ((c.tc : Thread Cert.AttRefIdeal.nD Cert.AttRefIdeal.τ).loc Cert.AttRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def preserves_Ln_LnIdeal : Prop :=
  True

def algebraic_LnIdeal_LnRefIdeal [hLnIdeal : Cert.LnIdeal.Facts] [hLnRefIdeal : Cert.LnRefIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)
      ∧ m' ((c.tc : Thread Cert.LnRefIdeal.nD Cert.LnRefIdeal.τ).loc Cert.LnRefIdeal.main_arg3) = m ((c.tc : Thread Cert.LnIdeal.nD Cert.LnIdeal.τ).loc Cert.LnIdeal.main_arg3)) →
    ∃ (v0 : (c : Dev Cert.LnIdeal.nD) → Buf (Elt Ideal) ((c.tc : Thread Cert.LnIdeal.nD Cert.LnIdeal.τ).loc Cert.LnIdeal.main_v2)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v2) = v0 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v0) = v0 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2)
          ∧ r.2.mem ((c.tc : Thread Cert.LnRefIdeal.nD Cert.LnRefIdeal.τ).loc Cert.LnRefIdeal.main_arg3) = m' ((c.tc : Thread Cert.LnRefIdeal.nD Cert.LnRefIdeal.τ).loc Cert.LnRefIdeal.main_arg3))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)) →
    ∃ (v0 : (c : Dev Cert.QkvIdeal.nD) → Buf (Elt Ideal) ((c.tc : Thread Cert.QkvIdeal.nD Cert.QkvIdeal.τ).loc Cert.QkvIdeal.main_v0_0)) (v1 : (c : Dev Cert.QkvIdeal.nD) → Buf (Elt Ideal) ((c.tc : Thread Cert.QkvIdeal.nD Cert.QkvIdeal.τ).loc Cert.QkvIdeal.main_v0_1)) (v2 : (c : Dev Cert.QkvIdeal.nD) → Buf (Elt Ideal) ((c.tc : Thread Cert.QkvIdeal.nD Cert.QkvIdeal.τ).loc Cert.QkvIdeal.main_v0_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0_0) = v0 c
          ∧ r.2.mem ((c.tc : Thread Cert.QkvIdeal.nD Cert.QkvIdeal.τ).loc Cert.QkvIdeal.main_v0_1) = v1 c
          ∧ r.2.mem ((c.tc : Thread Cert.QkvIdeal.nD Cert.QkvIdeal.τ).loc Cert.QkvIdeal.main_v0_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v81) = v0 c
          ∧ r.2.mem ((c.tc : Thread Cert.QkvRefIdeal.nD Cert.QkvRefIdeal.τ).loc Cert.QkvRefIdeal.main_v82) = v1 c
          ∧ r.2.mem ((c.tc : Thread Cert.QkvRefIdeal.nD Cert.QkvRefIdeal.τ).loc Cert.QkvRefIdeal.main_v83) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8))

def preserves_Mlp_MlpIdeal : Prop :=
  IdealRules.named_const.Statement Cert.MlpIdeal.κ "gelu_cubic" .f32 0x3D122279#32 ((80338380498831 / 2251799813685248 : ℝ) : EReal)

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v2_0)) (v1 : (c : Dev Cert.MlpIdeal.nD) → Buf (Elt Ideal) ((c.tc : Thread Cert.MlpIdeal.nD Cert.MlpIdeal.τ).loc Cert.MlpIdeal.main_v2_1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v2_0) = v0 c
          ∧ r.2.mem ((c.tc : Thread Cert.MlpIdeal.nD Cert.MlpIdeal.τ).loc Cert.MlpIdeal.main_v2_1) = v1 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v0_0) = v0 c
          ∧ r.2.mem ((c.tc : Thread Cert.MlpRefIdeal.nD Cert.MlpRefIdeal.τ).loc Cert.MlpRefIdeal.main_v0_1) = v1 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Att_AttIdeal : Prop :=
  IdealRules.named_const.Statement Cert.AttIdeal.κ "score_scale" .f32 0x3E0293EE#32 ((143571859112449 / 1125899906842624 : ℝ) : EReal)

def algebraic_AttIdeal_AttRefIdeal [hAttIdeal : Cert.AttIdeal.Facts] [hAttRefIdeal : Cert.AttRefIdeal.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttIdeal m →
    (∀ c : Dev Cert.AttIdeal.nD,
      m' ((c.tc : Thread Cert.AttRefIdeal.nD Cert.AttRefIdeal.τ).loc Cert.AttRefIdeal.main_arg0) = m ((c.tc : Thread Cert.AttIdeal.nD Cert.AttIdeal.τ).loc Cert.AttIdeal.main_arg0)
      ∧ m' ((c.tc : Thread Cert.AttRefIdeal.nD Cert.AttRefIdeal.τ).loc Cert.AttRefIdeal.main_arg1) = m ((c.tc : Thread Cert.AttIdeal.nD Cert.AttIdeal.τ).loc Cert.AttIdeal.main_arg1)
      ∧ m' ((c.tc : Thread Cert.AttRefIdeal.nD Cert.AttRefIdeal.τ).loc Cert.AttRefIdeal.main_arg2) = m ((c.tc : Thread Cert.AttIdeal.nD Cert.AttIdeal.τ).loc Cert.AttIdeal.main_arg2)
      ∧ m' ((c.tc : Thread Cert.AttRefIdeal.nD Cert.AttRefIdeal.τ).loc Cert.AttRefIdeal.main_arg3) = m ((c.tc : Thread Cert.AttIdeal.nD Cert.AttIdeal.τ).loc Cert.AttIdeal.main_arg3)
      ∧ m' ((c.tc : Thread Cert.AttRefIdeal.nD Cert.AttRefIdeal.τ).loc Cert.AttRefIdeal.main_arg4) = m ((c.tc : Thread Cert.AttIdeal.nD Cert.AttIdeal.τ).loc Cert.AttIdeal.main_arg4)) →
    ∃ (v0 : (c : Dev Cert.AttIdeal.nD) → Buf (Elt Ideal) ((c.tc : Thread Cert.AttIdeal.nD Cert.AttIdeal.τ).loc Cert.AttIdeal.main_v0_0)) (v1 : (c : Dev Cert.AttIdeal.nD) → Buf (Elt Ideal) ((c.tc : Thread Cert.AttIdeal.nD Cert.AttIdeal.τ).loc Cert.AttIdeal.main_v0_1)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v0_0) = v0 c
          ∧ r.2.mem ((c.tc : Thread Cert.AttIdeal.nD Cert.AttIdeal.τ).loc Cert.AttIdeal.main_v0_1) = v1 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
          ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
          ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
          ∧ r.2.mem ((c.tc : Thread Cert.AttIdeal.nD Cert.AttIdeal.τ).loc Cert.AttIdeal.main_arg3) = m ((c.tc : Thread Cert.AttIdeal.nD Cert.AttIdeal.τ).loc Cert.AttIdeal.main_arg3)
          ∧ r.2.mem ((c.tc : Thread Cert.AttIdeal.nD Cert.AttIdeal.τ).loc Cert.AttIdeal.main_arg4) = m ((c.tc : Thread Cert.AttIdeal.nD Cert.AttIdeal.τ).loc Cert.AttIdeal.main_arg4))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v45) = v0 c
          ∧ r.2.mem ((c.tc : Thread Cert.AttRefIdeal.nD Cert.AttRefIdeal.τ).loc Cert.AttRefIdeal.main_v39) = v1 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0)
          ∧ r.2.mem ((c.tc : Thread Cert.AttRefIdeal.nD Cert.AttRefIdeal.τ).loc Cert.AttRefIdeal.main_arg1) = m' ((c.tc : Thread Cert.AttRefIdeal.nD Cert.AttRefIdeal.τ).loc Cert.AttRefIdeal.main_arg1)
          ∧ r.2.mem ((c.tc : Thread Cert.AttRefIdeal.nD Cert.AttRefIdeal.τ).loc Cert.AttRefIdeal.main_arg2) = m' ((c.tc : Thread Cert.AttRefIdeal.nD Cert.AttRefIdeal.τ).loc Cert.AttRefIdeal.main_arg2)
          ∧ r.2.mem ((c.tc : Thread Cert.AttRefIdeal.nD Cert.AttRefIdeal.τ).loc Cert.AttRefIdeal.main_arg3) = m' ((c.tc : Thread Cert.AttRefIdeal.nD Cert.AttRefIdeal.τ).loc Cert.AttRefIdeal.main_arg3)
          ∧ r.2.mem ((c.tc : Thread Cert.AttRefIdeal.nD Cert.AttRefIdeal.τ).loc Cert.AttRefIdeal.main_arg4) = m' ((c.tc : Thread Cert.AttRefIdeal.nD Cert.AttRefIdeal.τ).loc Cert.AttRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v0) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7))

def Claim : Prop :=
  ∃ (hLn : Cert.Ln.Facts) (hLnIdeal : Cert.LnIdeal.Facts) (hLnRefIdeal : Cert.LnRefIdeal.Facts) (hQkv : Cert.Qkv.Facts) (hQkvIdeal : Cert.QkvIdeal.Facts) (hQkvRefIdeal : Cert.QkvRefIdeal.Facts) (hMlp : Cert.Mlp.Facts) (hMlpIdeal : Cert.MlpIdeal.Facts) (hMlpRefIdeal : Cert.MlpRefIdeal.Facts) (hAtt : Cert.Att.Facts) (hAttIdeal : Cert.AttIdeal.Facts) (hAttRefIdeal : Cert.AttRefIdeal.Facts) (hOut : Cert.Out.Facts) (hOutIdeal : Cert.OutIdeal.Facts) (hOutRefIdeal : Cert.OutRefIdeal.Facts),
    quiescent_Ln (hLn := hLn)
    ∧ quiescent_LnIdeal (hLnIdeal := hLnIdeal)
    ∧ quiescent_LnRefIdeal (hLnRefIdeal := hLnRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Att (hAtt := hAtt)
    ∧ quiescent_AttIdeal (hAttIdeal := hAttIdeal)
    ∧ quiescent_AttRefIdeal (hAttRefIdeal := hAttRefIdeal)
    ∧ quiescent_Out (hOut := hOut)
    ∧ quiescent_OutIdeal (hOutIdeal := hOutIdeal)
    ∧ quiescent_OutRefIdeal (hOutRefIdeal := hOutRefIdeal)
    ∧ preserves_Ln_LnIdeal
    ∧ algebraic_LnIdeal_LnRefIdeal (hLnIdeal := hLnIdeal) (hLnRefIdeal := hLnRefIdeal)
    ∧ preserves_Qkv_QkvIdeal
    ∧ algebraic_QkvIdeal_QkvRefIdeal (hQkvIdeal := hQkvIdeal) (hQkvRefIdeal := hQkvRefIdeal)
    ∧ preserves_Mlp_MlpIdeal
    ∧ algebraic_MlpIdeal_MlpRefIdeal (hMlpIdeal := hMlpIdeal) (hMlpRefIdeal := hMlpRefIdeal)
    ∧ preserves_Att_AttIdeal
    ∧ algebraic_AttIdeal_AttRefIdeal (hAttIdeal := hAttIdeal) (hAttRefIdeal := hAttRefIdeal)
    ∧ preserves_Out_OutIdeal
    ∧ algebraic_OutIdeal_OutRefIdeal (hOutIdeal := hOutIdeal) (hOutRefIdeal := hOutRefIdeal)
-- ==== Ln.lean ====
abbrev S8704x3072 : Shape := ⟨2, ![8704, 3072]⟩
abbrev S2x3072 : Shape := ⟨2, ![2, 3072]⟩
abbrev S1 : Shape := ⟨1, ![1]⟩
abbrev S2x1x3072 : Shape := ⟨3, ![2, 1, 3072]⟩
abbrev S256x3072 : Shape := ⟨2, ![256, 3072]⟩
abbrev S1x1x3072 : Shape := ⟨3, ![1, 1, 3072]⟩
abbrev S256 : Shape := ⟨1, ![256]⟩
abbrev S256x1 : Shape := ⟨2, ![256, 1]⟩
abbrev S1x3072 : Shape := ⟨2, ![1, 3072]⟩

abbrev nBuf : Space → Nat
  | .hbm => 7
  | .vmem => 8
  | .smem => 1
  | _ => 0

abbrev bufTy : (tb : Table) → Fin (tcTables nBuf tb) → BufTy
  | .hbm, ⟨0, _⟩ => ⟨S8704x3072, .bf16⟩
  | .hbm, ⟨1, _⟩ => ⟨S2x3072, .f32⟩
  | .hbm, ⟨2, _⟩ => ⟨S2x3072, .f32⟩
  | .hbm, ⟨3, _⟩ => ⟨S1, .f32⟩
  | .hbm, ⟨4, _⟩ => ⟨S2x1x3072, .f32⟩
  | .hbm, ⟨5, _⟩ => ⟨S2x1x3072, .f32⟩
  | .hbm, ⟨6, _⟩ => ⟨S8704x3072, .fp8e4m3⟩
  | .local _ .vmem, ⟨0, _⟩ => ⟨S256x3072, .bf16⟩
  | .local _ .vmem, ⟨1, _⟩ => ⟨S256x3072, .bf16⟩
  | .local _ .vmem, ⟨2, _⟩ => ⟨S1x1x3072, .f32⟩
  | .local _ .vmem, ⟨3, _⟩ => ⟨S1x1x3072, .f32⟩
  | .local _ .vmem, ⟨4, _⟩ => ⟨S1x1x3072, .f32⟩
  | .local _ .vmem, ⟨5, _⟩ => ⟨S1x1x3072, .f32⟩
  | .local _ .vmem, ⟨6, _⟩ => ⟨S256x3072, .fp8e4m3⟩
  | .local _ .vmem, ⟨7, _⟩ => ⟨S256x3072, .fp8e4m3⟩
  | .local _ .smem, ⟨0, _⟩ => ⟨S1, .f32⟩
  | _, _ => ⟨S8704x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![34], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LnRefIdeal.lean ====
abbrev S8704x3072 : Shape := ⟨2, ![8704, 3072]⟩
abbrev S2x3072 : Shape := ⟨2, ![2, 3072]⟩
abbrev S1 : Shape := ⟨1, ![1]⟩
abbrev S2x4352x3072 : Shape := ⟨3, ![2, 4352, 3072]⟩
abbrev S2x4352 : Shape := ⟨2, ![2, 4352]⟩
abbrev S2x4352x1 : Shape := ⟨3, ![2, 4352, 1]⟩
abbrev S2x1x3072 : Shape := ⟨3, ![2, 1, 3072]⟩

abbrev nBuf : Space → Nat
  | .hbm => 5
  | .vmem => 4
  | .smem => 1
  | _ => 0

abbrev bufTy : (tb : Table) → Fin (tcTables nBuf tb) → BufTy
  | .hbm, ⟨0, _⟩ => ⟨S8704x3072, .bf16⟩
  | .hbm, ⟨1, _⟩ => ⟨S2x3072, .f32⟩
  | .hbm, ⟨2, _⟩ => ⟨S2x3072, .f32⟩
  | .hbm, ⟨3, _⟩ => ⟨S1, .f32⟩
  | .hbm, ⟨4, _⟩ => ⟨S8704x3072, .fp8e4m3⟩
  | .local _ .vmem, ⟨0, _⟩ => ⟨S8704x3072, .bf16⟩
  | .local _ .vmem, ⟨1, _⟩ => ⟨S2x3072, .f32⟩
  | .local _ .vmem, ⟨2, _⟩ => ⟨S2x3072, .f32⟩
  | .local _ .vmem, ⟨3, _⟩ => ⟨S8704x3072, .fp8e4m3⟩
  | .local _ .smem, ⟨0, _⟩ => ⟨S1, .f32⟩
  | _, _ => ⟨S8704x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8704x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8704x3072 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Qkv.lean ====
abbrev S8704x3072 : Shape := ⟨2, ![8704, 3072]⟩
abbrev S3072x10752 : Shape := ⟨2, ![3072, 10752]⟩
abbrev S1x10752 : Shape := ⟨2, ![1, 10752]⟩
abbrev S1x128 : Shape := ⟨2, ![1, 128]⟩
abbrev S8704x64 : Shape := ⟨2, ![8704, 64]⟩
abbrev S1 : Shape := ⟨1, ![1]⟩
abbrev S2x12x4352x128 : Shape := ⟨4, ![2, 12, 4352, 128]⟩
abbrev S1536x8704 : Shape := ⟨2, ![1536, 8704]⟩
abbrev S256x3072 : Shape := ⟨2, ![256, 3072]⟩
abbrev S3072x4608 : Shape := ⟨2, ![3072, 4608]⟩
abbrev S1x4608 : Shape := ⟨2, ![1, 4608]⟩
abbrev S256x64 : Shape := ⟨2, ![256, 64]⟩
abbrev S1x12x256x128 : Shape := ⟨4, ![1, 12, 256, 128]⟩
abbrev S1536x256 : Shape := ⟨2, ![1536, 256]⟩
abbrev S256x128 : Shape := ⟨2, ![256, 128]⟩
abbrev S256x128x1 : Shape := ⟨3, ![256, 128, 1]⟩
abbrev S3072x256 : Shape := ⟨2, ![3072, 256]⟩
abbrev S256x256 : Shape := ⟨2, ![256, 256]⟩
abbrev S1x256 : Shape := ⟨2, ![1, 256]⟩
abbrev S256 : Shape := ⟨1, ![256]⟩
abbrev S256x1 : Shape := ⟨2, ![256, 1]⟩
abbrev S1x1x256x128 : Shape := ⟨4, ![1, 1, 256, 128]⟩

abbrev nBuf : Space → Nat
  | .hbm => 12
  | .vmem => 17
  | .smem => 1
  | _ => 0

abbrev bufTy : (tb : Table) → Fin (tcTables nBuf tb) → BufTy
  | .hbm, ⟨0, _⟩ => ⟨S8704x3072, .fp8e4m3⟩
  | .hbm, ⟨1, _⟩ => ⟨S3072x10752, .fp8e4m3⟩
  | .hbm, ⟨2, _⟩ => ⟨S1x10752, .f32⟩
  | .hbm, ⟨3, _⟩ => ⟨S1x10752, .f32⟩
  | .hbm, ⟨4, _⟩ => ⟨S1x128, .f32⟩
  | .hbm, ⟨5, _⟩ => ⟨S1x128, .f32⟩
  | .hbm, ⟨6, _⟩ => ⟨S8704x64, .f32⟩
  | .hbm, ⟨7, _⟩ => ⟨S8704x64, .f32⟩
  | .hbm, ⟨8, _⟩ => ⟨S1, .f32⟩
  | .hbm, ⟨9, _⟩ => ⟨S2x12x4352x128, .bf16⟩
  | .hbm, ⟨10, _⟩ => ⟨S2x12x4352x128, .bf16⟩
  | .hbm, ⟨11, _⟩ => ⟨S1536x8704, .bf16⟩
  | .local _ .vmem, ⟨0, _⟩ => ⟨S256x3072, .fp8e4m3⟩
  | .local _ .vmem, ⟨1, _⟩ => ⟨S256x3072, .fp8e4m3⟩
  | .local _ .vmem, ⟨2, _⟩ => ⟨S3072x4608, .fp8e4m3⟩
  | .local _ .vmem, ⟨3, _⟩ => ⟨S1x4608, .f32⟩
  | .local _ .vmem, ⟨4, _⟩ => ⟨S1x4608, .f32⟩
  | .local _ .vmem, ⟨5, _⟩ => ⟨S1x128, .f32⟩
  | .local _ .vmem, ⟨6, _⟩ => ⟨S1x128, .f32⟩
  | .local _ .vmem, ⟨7, _⟩ => ⟨S256x64, .f32⟩
  | .local _ .vmem, ⟨8, _⟩ => ⟨S256x64, .f32⟩
  | .local _ .vmem, ⟨9, _⟩ => ⟨S256x64, .f32⟩
  | .local _ .vmem, ⟨10, _⟩ => ⟨S256x64, .f32⟩
  | .local _ .vmem, ⟨11, _⟩ => ⟨S1x12x256x128, .bf16⟩
  | .local _ .vmem, ⟨12, _⟩ => ⟨S1x12x256x128, .bf16⟩
  | .local _ .vmem, ⟨13, _⟩ => ⟨S1x12x256x128, .bf16⟩
  | .local _ .vmem, ⟨14, _⟩ => ⟨S1x12x256x128, .bf16⟩
  | .local _ .vmem, ⟨15, _⟩ => ⟨S1536x256, .bf16⟩
  | .local _ .vmem, ⟨16, _⟩ => ⟨S1536x256, .bf16⟩
  | .local _ .smem, ⟨0, _⟩ => ⟨S1, .f32⟩
  | _, _ => ⟨S8704x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![34], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32_4 : BitVec 32 := 17#32
  let c0_i32_5 : BitVec 32 := 0#32
  let v17 : BitVec 1 := Scalar.cmpi .eq c17_i32_4 c0_i32_5
  let c1_i32_6 : BitVec 32 := 1#32
  let v18 : BitVec 32 := Scalar.select v17 c1_i32_6 c17_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 4 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32_4 : BitVec 32 := 17#32
  let c0_i32_5 : BitVec 32 := 0#32
  let v17 : BitVec 1 := Scalar.cmpi .eq c17_i32_4 c0_i32_5
  let c1_i32_6 : BitVec 32 := 1#32
  let v18 : BitVec 32 := Scalar.select v17 c1_i32_6 c17_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x3072 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3072x4608 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x12x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x12x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1536x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== QkvRefIdeal.lean ====
abbrev S8704x3072 : Shape := ⟨2, ![8704, 3072]⟩
abbrev S3072x10752 : Shape := ⟨2, ![3072, 10752]⟩
abbrev S1x10752 : Shape := ⟨2, ![1, 10752]⟩
abbrev S1x128 : Shape := ⟨2, ![1, 128]⟩
abbrev S8704x64 : Shape := ⟨2, ![8704, 64]⟩
abbrev S1 : Shape := ⟨1, ![1]⟩
abbrev S8704x10752 : Shape := ⟨2, ![8704, 10752]⟩
abbrev S8704x1536 : Shape := ⟨2, ![8704, 1536]⟩
abbrev S2x4352x12x128 : Shape := ⟨4, ![2, 4352, 12, 128]⟩
abbrev S2x4352x64 : Shape := ⟨3, ![2, 4352, 64]⟩
abbrev S128 : Shape := ⟨1, ![128]⟩
abbrev S_ : Shape := ⟨0, ![]⟩
abbrev S2x4352x12 : Shape := ⟨3, ![2, 4352, 12]⟩
abbrev S2x4352x12x1 : Shape := ⟨4, ![2, 4352, 12, 1]⟩
abbrev S1x1x1x128 : Shape := ⟨4, ![1, 1, 1, 128]⟩
abbrev S2x4352x12x64x2 : Shape := ⟨5, ![2, 4352, 12, 64, 2]⟩
abbrev S2x4352x12x64x1 : Shape := ⟨5, ![2, 4352, 12, 64, 1]⟩
abbrev S2x4352x12x64 : Shape := ⟨4, ![2, 4352, 12, 64]⟩
abbrev S2x4352x1x64 : Shape := ⟨4, ![2, 4352, 1, 64]⟩
abbrev S2x12x4352x128 : Shape := ⟨4, ![2, 12, 4352, 128]⟩
abbrev S1536x8704 : Shape := ⟨2, ![1536, 8704]⟩

abbrev nBuf : Space → Nat
  | .hbm => 99
  | .vmem => 5
  | .smem => 1
  | _ => 0

abbrev bufTy : (tb : Table) → Fin (tcTables nBuf tb) → BufTy
  | .hbm, ⟨0, _⟩ => ⟨S8704x3072, .fp8e4m3⟩
  | .hbm, ⟨1, _⟩ => ⟨S3072x10752, .fp8e4m3⟩
  | .hbm, ⟨2, _⟩ => ⟨S1x10752, .f32⟩
  | .hbm, ⟨3, _⟩ => ⟨S1x10752, .f32⟩
  | .hbm, ⟨4, _⟩ => ⟨S1x128, .f32⟩
  | .hbm, ⟨5, _⟩ => ⟨S1x128, .f32⟩
  | .hbm, ⟨6, _⟩ => ⟨S8704x64, .f32⟩
  | .hbm, ⟨7, _⟩ => ⟨S8704x64, .f32⟩
  | .hbm, ⟨8, _⟩ => ⟨S1, .f32⟩
  | .hbm, ⟨9, _⟩ => ⟨S8704x10752, .f32⟩
  | .hbm, ⟨10, _⟩ => ⟨S8704x1536, .f32⟩
  | .hbm, ⟨11, _⟩ => ⟨S2x4352x12x128, .f32⟩
  | .hbm, ⟨12, _⟩ => ⟨S8704x1536, .f32⟩
  | .hbm, ⟨13, _⟩ => ⟨S2x4352x12x128, .f32⟩
  | .hbm, ⟨14, _⟩ => ⟨S8704x1536, .f32⟩
  | .hbm, ⟨15, _⟩ => ⟨S8704x1536, .bf16⟩
  | .hbm, ⟨16, _⟩ => ⟨S2x4352x64, .f32⟩
  | .hbm, ⟨17, _⟩ => ⟨S2x4352x64, .f32⟩
  | .hbm, ⟨18, _⟩ => ⟨S128, .f32⟩
  | .hbm, ⟨19, _⟩ => ⟨S2x4352x12x128, .f32⟩
  | .hbm, ⟨20, _⟩ => ⟨S_, .f32⟩
  | .hbm, ⟨21, _⟩ => ⟨S2x4352x12, .f32⟩
  | .hbm, ⟨22, _⟩ => ⟨S2x4352x12x1, .f32⟩
  | .hbm, ⟨23, _⟩ => ⟨S_, .f32⟩
  | .hbm, ⟨24, _⟩ => ⟨S2x4352x12x1, .f32⟩
  | .hbm, ⟨25, _⟩ => ⟨S2x4352x12x1, .f32⟩
  | .hbm, ⟨26, _⟩ => ⟨S_, .f32⟩
  | .hbm, ⟨27, _⟩ => ⟨S2x4352x12x1, .f32⟩
  | .hbm, ⟨28, _⟩ => ⟨S2x4352x12x1, .f32⟩
  | .hbm, ⟨29, _⟩ => ⟨S2x4352x12x1, .f32⟩
  | .hbm, ⟨30, _⟩ => ⟨S2x4352x12x128, .f32⟩
  | .hbm, ⟨31, _⟩ => ⟨S2x4352x12x128, .f32⟩
  | .hbm, ⟨32, _⟩ => ⟨S1x1x1x128, .f32⟩
  | .hbm, ⟨33, _⟩ => ⟨S2x4352x12x128, .f32⟩
  | .hbm, ⟨34, _⟩ => ⟨S2x4352x12x128, .f32⟩
  | .hbm, ⟨35, _⟩ => ⟨S2x4352x12x64x2, .f32⟩
  | .hbm, ⟨36, _⟩ => ⟨S2x4352x12x64x1, .f32⟩
  | .hbm, ⟨37, _⟩ => ⟨S2x4352x12x64, .f32⟩
  | .hbm, ⟨38, _⟩ => ⟨S2x4352x12x64x1, .f32⟩
  | .hbm, ⟨39, _⟩ => ⟨S2x4352x12x64, .f32⟩
  | .hbm, ⟨40, _⟩ => ⟨S2x4352x1x64, .f32⟩
  | .hbm, ⟨41, _⟩ => ⟨S2x4352x1x64, .f32⟩
  | .hbm, ⟨42, _⟩ => ⟨S2x4352x12x64, .f32⟩
  | .hbm, ⟨43, _⟩ => ⟨S2x4352x12x64, .f32⟩
  | .hbm, ⟨44, _⟩ => ⟨S2x4352x12x64, .f32⟩
  | .hbm, ⟨45, _⟩ => ⟨S2x4352x12x64, .f32⟩
  | .hbm, ⟨46, _⟩ => ⟨S2x4352x12x64, .f32⟩
  | .hbm, ⟨47, _⟩ => ⟨S2x4352x12x64, .f32⟩
  | .hbm, ⟨48, _⟩ => ⟨S2x4352x12x64, .f32⟩
  | .hbm, ⟨49, _⟩ => ⟨S2x4352x12x64, .f32⟩
  | .hbm, ⟨50, _⟩ => ⟨S2x4352x12x64, .f32⟩
  | .hbm, ⟨51, _⟩ => ⟨S2x4352x12x64, .f32⟩
  | .hbm, ⟨52, _⟩ => ⟨S2x4352x12x64x1, .f32⟩
  | .hbm, ⟨53, _⟩ => ⟨S2x4352x12x64x1, .f32⟩
  | .hbm, ⟨54, _⟩ => ⟨S2x4352x12x64x2, .f32⟩
  | .hbm, ⟨55, _⟩ => ⟨S2x4352x12x128, .f32⟩
  | .hbm, ⟨56, _⟩ => ⟨S2x4352x12x128, .bf16⟩
  | .hbm, ⟨57, _⟩ => ⟨S128, .f32⟩
  | .hbm, ⟨58, _⟩ => ⟨S2x4352x12x128, .f32⟩
  | .hbm, ⟨59, _⟩ => ⟨S_, .f32⟩
  | .hbm, ⟨60, _⟩ => ⟨S2x4352x12, .f32⟩
  | .hbm, ⟨61, _⟩ => ⟨S2x4352x12x1, .f32⟩
  | .hbm, ⟨62, _⟩ => ⟨S_, .f32⟩
  | .hbm, ⟨63, _⟩ => ⟨S2x4352x12x1, .f32⟩
  | .hbm, ⟨64, _⟩ => ⟨S2x4352x12x1, .f32⟩
  | .hbm, ⟨65, _⟩ => ⟨S_, .f32⟩
  | .hbm, ⟨66, _⟩ => ⟨S2x4352x12x1, .f32⟩
  | .hbm, ⟨67, _⟩ => ⟨S2x4352x12x1, .f32⟩
  | .hbm, ⟨68, _⟩ => ⟨S2x4352x12x1, .f32⟩
  | .hbm, ⟨69, _⟩ => ⟨S2x4352x12x128, .f32⟩
  | .hbm, ⟨70, _⟩ => ⟨S2x4352x12x128, .f32⟩
  | .hbm, ⟨71, _⟩ => ⟨S1x1x1x128, .f32⟩
  | .hbm, ⟨72, _⟩ => ⟨S2x4352x12x128, .f32⟩
  | .hbm, ⟨73, _⟩ => ⟨S2x4352x12x128, .f32⟩
  | .hbm, ⟨74, _⟩ => ⟨S2x4352x12x64x2, .f32⟩
  | .hbm, ⟨75, _⟩ => ⟨S2x4352x12x64x1, .f32⟩
  | .hbm, ⟨76, _⟩ => ⟨S2x4352x12x64, .f32⟩
  | .hbm, ⟨77, _⟩ => ⟨S2x4352x12x64x1, .f32⟩
  | .hbm, ⟨78, _⟩ => ⟨S2x4352x12x64, .f32⟩
  | .hbm, ⟨79, _⟩ => ⟨S2x4352x1x64, .f32⟩
  | .hbm, ⟨80, _⟩ => ⟨S2x4352x1x64, .f32⟩
  | .hbm, ⟨81, _⟩ => ⟨S2x4352x12x64, .f32⟩
  | .hbm, ⟨82, _⟩ => ⟨S2x4352x12x64, .f32⟩
  | .hbm, ⟨83, _⟩ => ⟨S2x4352x12x64, .f32⟩
  | .hbm, ⟨84, _⟩ => ⟨S2x4352x12x64, .f32⟩
  | .hbm, ⟨85, _⟩ => ⟨S2x4352x12x64, .f32⟩
  | .hbm, ⟨86, _⟩ => ⟨S2x4352x12x64, .f32⟩
  | .hbm, ⟨87, _⟩ => ⟨S2x4352x12x64, .f32⟩
  | .hbm, ⟨88, _⟩ => ⟨S2x4352x12x64, .f32⟩
  | .hbm, ⟨89, _⟩ => ⟨S2x4352x12x64, .f32⟩
  | .hbm, ⟨90, _⟩ => ⟨S2x4352x12x64, .f32⟩
  | .hbm, ⟨91, _⟩ => ⟨S2x4352x12x64x1, .f32⟩
  | .hbm, ⟨92, _⟩ => ⟨S2x4352x12x64x1, .f32⟩
  | .hbm, ⟨93, _⟩ => ⟨S2x4352x12x64x2, .f32⟩
  | .hbm, ⟨94, _⟩ => ⟨S2x4352x12x128, .f32⟩
  | .hbm, ⟨95, _⟩ => ⟨S2x4352x12x128, .bf16⟩
  | .hbm, ⟨96, _⟩ => ⟨S2x12x4352x128, .bf16⟩
  | .hbm, ⟨97, _⟩ => ⟨S2x12x4352x128, .bf16⟩
  | .hbm, ⟨98, _⟩ => ⟨S1536x8704, .bf16⟩
  | .local _ .vmem, ⟨0, _⟩ => ⟨S8704x3072, .fp8e4m3⟩
  | .local _ .vmem, ⟨1, _⟩ => ⟨S3072x10752, .fp8e4m3⟩
  | .local _ .vmem, ⟨2, _⟩ => ⟨S1x10752, .f32⟩
  | .local _ .vmem, ⟨3, _⟩ => ⟨S1x10752, .f32⟩
  | .local _ .vmem, ⟨4, _⟩ => ⟨S8704x10752, .f32⟩
  | .local _ .smem, ⟨0, _⟩ => ⟨S1, .f32⟩
  | _, _ => ⟨S8704x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_2 : Ref sig .tc := ⟨.hbm, 59, rfl⟩
abbrev main_v47 : Ref sig .tc := ⟨.hbm, 60, rfl⟩
abbrev main_v48 : Ref sig .tc := ⟨.hbm, 61, rfl⟩
abbrev main_cst_3 : Ref sig .tc := ⟨.hbm, 62, rfl⟩
abbrev main_v49 : Ref sig .tc := ⟨.hbm, 63, rfl⟩
abbrev main_v50 : Ref sig .tc := ⟨.hbm, 64, rfl⟩
abbrev main_cst_4 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg5_0 : Ref sig .tc := ⟨.vmem, 4, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8704x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x10752 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x10752 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x10752 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8704x10752 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Mlp.lean ====
abbrev S8704x3072 : Shape := ⟨2, ![8704, 3072]⟩
abbrev S3072x10752 : Shape := ⟨2, ![3072, 10752]⟩
abbrev S1x10752 : Shape := ⟨2, ![1, 10752]⟩
abbrev S2 : Shape := ⟨1, ![2]⟩
abbrev S1x6144 : Shape := ⟨2, ![1, 6144]⟩
abbrev S8704x6144 : Shape := ⟨2, ![8704, 6144]⟩
abbrev S1x1 : Shape := ⟨2, ![1, 1]⟩
abbrev S512x3072 : Shape := ⟨2, ![512, 3072]⟩
abbrev S3072x6144 : Shape := ⟨2, ![3072, 6144]⟩
abbrev S512x6144 : Shape := ⟨2, ![512, 6144]⟩
abbrev S8x256 : Shape := ⟨2, ![8, 256]⟩
abbrev S1 : Shape := ⟨1, ![1]⟩
abbrev S3072x256 : Shape := ⟨2, ![3072, 256]⟩
abbrev S512x256 : Shape := ⟨2, ![512, 256]⟩
abbrev S1x256 : Shape := ⟨2, ![1, 256]⟩
abbrev S64x8x256 : Shape := ⟨3, ![64, 8, 256]⟩
abbrev S1x8x256 : Shape := ⟨3, ![1, 8, 256]⟩
abbrev S1x1x1 : Shape := ⟨3, ![1, 1, 1]⟩

abbrev nBuf : Space → Nat
  | .hbm => 9
  | .vmem => 8
  | .smem => 2
  | _ => 0

abbrev bufTy : (tb : Table) → Fin (tcTables nBuf tb) → BufTy
  | .hbm, ⟨0, _⟩ => ⟨S8704x3072, .fp8e4m3⟩
  | .hbm, ⟨1, _⟩ => ⟨S3072x10752, .fp8e4m3⟩
  | .hbm, ⟨2, _⟩ => ⟨S1x10752, .f32⟩
  | .hbm, ⟨3, _⟩ => ⟨S1x10752, .f32⟩
  | .hbm, ⟨4, _⟩ => ⟨S2, .f32⟩
  | .hbm, ⟨5, _⟩ => ⟨S1x6144, .f32⟩
  | .hbm, ⟨6, _⟩ => ⟨S1x6144, .f32⟩
  | .hbm, ⟨7, _⟩ => ⟨S8704x6144, .fp8e4m3⟩
  | .hbm, ⟨8, _⟩ => ⟨S1x1, .f32⟩
  | .local _ .vmem, ⟨0, _⟩ => ⟨S512x3072, .fp8e4m3⟩
  | .local _ .vmem, ⟨1, _⟩ => ⟨S512x3072, .fp8e4m3⟩
  | .local _ .vmem, ⟨2, _⟩ => ⟨S3072x6144, .fp8e4m3⟩
  | .local _ .vmem, ⟨3, _⟩ => ⟨S1x6144, .f32⟩
  | .local _ .vmem, ⟨4, _⟩ => ⟨S1x6144, .f32⟩
  | .local _ .vmem, ⟨5, _⟩ => ⟨S512x6144, .fp8e4m3⟩
  | .local _ .vmem, ⟨6, _⟩ => ⟨S512x6144, .fp8e4m3⟩
  | .local _ .vmem, ⟨7, _⟩ => ⟨S8x256, .f32⟩
  | .local _ .smem, ⟨0, _⟩ => ⟨S2, .f32⟩
  | .local _ .smem, ⟨1, _⟩ => ⟨S1x1, .f32⟩
  | _, _ => ⟨S8704x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_scratch0 : Ref sig .tc := ⟨.vmem, 7, rfl⟩
abbrev cc0_stg0_0 : Ref sig .tc := ⟨.smem, 0, rfl⟩
abbrev cc0_stg6_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32 : BitVec 32 := 16#32
  let v873 : BitVec 1 := Scalar.cmpi .eq arg0 c16_i32
  let v874 : BitVec 32 := Scalar.extui v873
  let c0_i32_389 : BitVec 32 := 0#32
  let v875 : BitVec 1 := Scalar.cmpi .ne v874 c0_i32_389
  v875

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c4608_i32 : BitVec 32 := 4608#32
  let c0_i32_0 : BitVec 32 := 0#32
  ![c0_i32.toNat, c4608_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x3072 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3072x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x6144 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MlpIdeal.lean ====
variable {F : FTy → Type} [FloatOps F] [Named F]
def κ : String → Option EReal := fun
  | "gelu_cubic" => some ((80338380498831 / 2251799813685248 : ℝ) : EReal)
  | _ => none
-- ==== MlpRefIdeal.lean ====
abbrev S8704x3072 : Shape := ⟨2, ![8704, 3072]⟩
abbrev S3072x10752 : Shape := ⟨2, ![3072, 10752]⟩
abbrev S1x10752 : Shape := ⟨2, ![1, 10752]⟩
abbrev S2 : Shape := ⟨1, ![2]⟩
abbrev S8704x6144 : Shape := ⟨2, ![8704, 6144]⟩
abbrev S1x1 : Shape := ⟨2, ![1, 1]⟩
abbrev S3072x6144 : Shape := ⟨2, ![3072, 6144]⟩
abbrev S1 : Shape := ⟨1, ![1]⟩
abbrev S1x6144 : Shape := ⟨2, ![1, 6144]⟩
abbrev S1x8704x6144 : Shape := ⟨3, ![1, 8704, 6144]⟩
abbrev S1x1x1 : Shape := ⟨3, ![1, 1, 1]⟩

abbrev nBuf : Space → Nat
  | .hbm => 7
  | .vmem => 5
  | .smem => 2
  | _ => 0

abbrev bufTy : (tb : Table) → Fin (tcTables nBuf tb) → BufTy
  | .hbm, ⟨0, _⟩ => ⟨S8704x3072, .fp8e4m3⟩
  | .hbm, ⟨1, _⟩ => ⟨S3072x10752, .fp8e4m3⟩
  | .hbm, ⟨2, _⟩ => ⟨S1x10752, .f32⟩
  | .hbm, ⟨3, _⟩ => ⟨S1x10752, .f32⟩
  | .hbm, ⟨4, _⟩ => ⟨S2, .f32⟩
  | .hbm, ⟨5, _⟩ => ⟨S8704x6144, .fp8e4m3⟩
  | .hbm, ⟨6, _⟩ => ⟨S1x1, .f32⟩
  | .local _ .vmem, ⟨0, _⟩ => ⟨S8704x3072, .fp8e4m3⟩
  | .local _ .vmem, ⟨1, _⟩ => ⟨S3072x10752, .fp8e4m3⟩
  | .local _ .vmem, ⟨2, _⟩ => ⟨S1x10752, .f32⟩
  | .local _ .vmem, ⟨3, _⟩ => ⟨S1x10752, .f32⟩
  | .local _ .vmem, ⟨4, _⟩ => ⟨S8704x6144, .fp8e4m3⟩
  | .local _ .smem, ⟨0, _⟩ => ⟨S2, .f32⟩
  | .local _ .smem, ⟨1, _⟩ => ⟨S1x1, .f32⟩
  | _, _ => ⟨S8704x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg5_0 : Ref sig .tc := ⟨.vmem, 4, rfl⟩
abbrev cc0_stg4_0 : Ref sig .tc := ⟨.smem, 0, rfl⟩
abbrev cc0_stg6_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8704x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x10752 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x10752 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x10752 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8704x6144 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Att.lean ====
abbrev S2x12x4352x128 : Shape := ⟨4, ![2, 12, 4352, 128]⟩
abbrev S1536x8704 : Shape := ⟨2, ![1536, 8704]⟩
abbrev S2 : Shape := ⟨1, ![2]⟩
abbrev S1 : Shape := ⟨1, ![1]⟩
abbrev S8704x1536 : Shape := ⟨2, ![8704, 1536]⟩
abbrev S1x1 : Shape := ⟨2, ![1, 1]⟩
abbrev S1x1x4352x128 : Shape := ⟨4, ![1, 1, 4352, 128]⟩
abbrev S128x4352 : Shape := ⟨2, ![128, 4352]⟩
abbrev S4352x128 : Shape := ⟨2, ![4352, 128]⟩
abbrev S4352x256 : Shape := ⟨2, ![4352, 256]⟩
abbrev S8x256 : Shape := ⟨2, ![8, 256]⟩
abbrev S256x256 : Shape := ⟨2, ![256, 256]⟩
abbrev S1x1x256x128 : Shape := ⟨4, ![1, 1, 256, 128]⟩
abbrev S256x128 : Shape := ⟨2, ![256, 128]⟩
abbrev S32x8x256 : Shape := ⟨3, ![32, 8, 256]⟩
abbrev S256 : Shape := ⟨1, ![256]⟩
abbrev S1x256 : Shape := ⟨2, ![1, 256]⟩
abbrev S128x256 : Shape := ⟨2, ![128, 256]⟩
abbrev S16x8x256 : Shape := ⟨3, ![16, 8, 256]⟩
abbrev S1x8x256 : Shape := ⟨3, ![1, 8, 256]⟩
abbrev S1x1x1 : Shape := ⟨3, ![1, 1, 1]⟩

abbrev nBuf : Space → Nat
  | .hbm => 7
  | .vmem => 10
  | .smem => 3
  | _ => 0

abbrev bufTy : (tb : Table) → Fin (tcTables nBuf tb) → BufTy
  | .hbm, ⟨0, _⟩ => ⟨S2x12x4352x128, .bf16⟩
  | .hbm, ⟨1, _⟩ => ⟨S2x12x4352x128, .bf16⟩
  | .hbm, ⟨2, _⟩ => ⟨S1536x8704, .bf16⟩
  | .hbm, ⟨3, _⟩ => ⟨S2, .i32⟩
  | .hbm, ⟨4, _⟩ => ⟨S1, .f32⟩
  | .hbm, ⟨5, _⟩ => ⟨S8704x1536, .fp8e4m3⟩
  | .hbm, ⟨6, _⟩ => ⟨S1x1, .f32⟩
  | .local _ .vmem, ⟨0, _⟩ => ⟨S1x1x4352x128, .bf16⟩
  | .local _ .vmem, ⟨1, _⟩ => ⟨S1x1x4352x128, .bf16⟩
  | .local _ .vmem, ⟨2, _⟩ => ⟨S1x1x4352x128, .bf16⟩
  | .local _ .vmem, ⟨3, _⟩ => ⟨S1x1x4352x128, .bf16⟩
  | .local _ .vmem, ⟨4, _⟩ => ⟨S128x4352, .bf16⟩
  | .local _ .vmem, ⟨5, _⟩ => ⟨S128x4352, .bf16⟩
  | .local _ .vmem, ⟨6, _⟩ => ⟨S4352x128, .fp8e4m3⟩
  | .local _ .vmem, ⟨7, _⟩ => ⟨S4352x128, .fp8e4m3⟩
  | .local _ .vmem, ⟨8, _⟩ => ⟨S4352x256, .f32⟩
  | .local _ .vmem, ⟨9, _⟩ => ⟨S8x256, .f32⟩
  | .local _ .smem, ⟨0, _⟩ => ⟨S2, .i32⟩
  | .local _ .smem, ⟨1, _⟩ => ⟨S1, .f32⟩
  | .local _ .smem, ⟨2, _⟩ => ⟨S1x1, .f32⟩
  | _, _ => ⟨S2x12x4352x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg1_0 : Ref sig .tc := ⟨.smem, 1, rfl⟩
abbrev cc0_stg6_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![2, 12], ![false, false]⟩

def k0_off1 (i : grid0.Coords) : Fin 1 → Nat :=
  let arg0 : BitVec 32 := BitVec.ofNat 32 (i 0).val
  let v6 : Index := Scalar.indexCast arg0
  ![v6.toNat]
@[reducible] def k0_t1_loop : Scf.Loop 32 :=
  let c0_i32_2 : BitVec 32 := 0#32
  let c17_i32 : BitVec 32 := 17#32
  let v16 : BitVec 32 := Scalar.addi c0_i32_2 c17_i32
  let c1_i32_3 : BitVec 32 := 1#32
  ⟨c0_i32_2, v16, c1_i32_3⟩
def k0_mult1 (k0_t1 : Fin k0_t1_loop.trips) : BitVec 32 :=
  let c0_i32_2 : BitVec 32 := 0#32
  let c1_i32_3 : BitVec 32 := 1#32
  let arg11 : BitVec 32 := Scf.iv c0_i32_2 c1_i32_3 k0_t1
  let c256_i32_6 : BitVec 32 := 256#32
  let v19 : BitVec 32 := Scalar.muli arg11 c256_i32_6
  v19
def k0_off2 (k0_t1 : Fin k0_t1_loop.trips) : Fin 4 → Nat :=
  let c0 : Index := 0#32
  let c0_7 : Index := 0#32
  let c0_i32_2 : BitVec 32 := 0#32
  let c1_i32_3 : BitVec 32 := 1#32
  let arg11 : BitVec 32 := Scf.iv c0_i32_2 c1_i32_3 k0_t1
  let c256_i32_6 : BitVec 32 := 256#32
  let v19 : BitVec 32 := Scalar.muli arg11 c256_i32_6
  let v20 : BitVec 32 := v19
  let v21 : Index := Scalar.indexCast v20
  let c0_8 : Index := 0#32
  ![0, 0, v21.toNat, 0]
def k0_mult2 (k0_t1 : Fin k0_t1_loop.trips) : BitVec 32 :=
  let c0_i32_2 : BitVec 32 := 0#32
  let c1_i32_3 : BitVec 32 := 1#32
  let arg11 : BitVec 32 := Scf.iv c0_i32_2 c1_i32_3 k0_t1
  let c256_i32_262 : BitVec 32 := 256#32
  let v429 : BitVec 32 := Scalar.muli arg11 c256_i32_262
  v429
def k0_off3 (k0_t1 : Fin k0_t1_loop.trips) : Fin 2 → Nat :=
  let c0_i32_2 : BitVec 32 := 0#32
  let c1_i32_3 : BitVec 32 := 1#32
  let arg11 : BitVec 32 := Scf.iv c0_i32_2 c1_i32_3 k0_t1
  let c256_i32_262 : BitVec 32 := 256#32
  let v429 : BitVec 32 := Scalar.muli arg11 c256_i32_262
  let v430 : BitVec 32 := v429
  let v431 : Index := Scalar.indexCast v430
  let c0_263 : Index := 0#32
  ![v431.toNat, 0]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let arg1 : BitVec 32 := BitVec.ofNat 32 (i 1).val
  let c11_i32 : BitVec 32 := 11#32
  let v4 : BitVec 1 := Scalar.cmpi .eq arg1 c11_i32
  let v5 : BitVec 1 := Scalar.andi v3 v4
  let v17 : BitVec 32 := Scalar.extui v5
  let c0_i32_5 : BitVec 32 := 0#32
  let v18 : BitVec 1 := Scalar.cmpi .ne v17 c0_i32_5
  v18

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x4352 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4352x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== AttIdeal.lean ====
variable {F : FTy → Type} [FloatOps F] [Named F]
def κ : String → Option EReal := fun
  | "score_scale" => some ((143571859112449 / 1125899906842624 : ℝ) : EReal)
  | _ => none
-- ==== AttRefIdeal.lean ====
abbrev S2x12x4352x128 : Shape := ⟨4, ![2, 12, 4352, 128]⟩
abbrev S1536x8704 : Shape := ⟨2, ![1536, 8704]⟩
abbrev S2 : Shape := ⟨1, ![2]⟩
abbrev S1 : Shape := ⟨1, ![1]⟩
abbrev S8704x1536 : Shape := ⟨2, ![8704, 1536]⟩
abbrev S2x4352x12x128 : Shape := ⟨4, ![2, 4352, 12, 128]⟩
abbrev S4352 : Shape := ⟨1, ![4352]⟩
abbrev S1x4352 : Shape := ⟨2, ![1, 4352]⟩
abbrev S2x1 : Shape := ⟨2, ![2, 1]⟩
abbrev S2x4352 : Shape := ⟨2, ![2, 4352]⟩
abbrev S_ : Shape := ⟨0, ![]⟩
abbrev S2x1x1x4352 : Shape := ⟨4, ![2, 1, 1, 4352]⟩
abbrev S2x12x4352x4352 : Shape := ⟨4, ![2, 12, 4352, 4352]⟩
abbrev S2x12x4352 : Shape := ⟨3, ![2, 12, 4352]⟩
abbrev S2x12x4352x1 : Shape := ⟨4, ![2, 12, 4352, 1]⟩
abbrev S2x12x128x4352 : Shape := ⟨4, ![2, 12, 128, 4352]⟩
abbrev S2x4352x12 : Shape := ⟨3, ![2, 4352, 12]⟩
abbrev S2x4352x12x1 : Shape := ⟨4, ![2, 4352, 12, 1]⟩
abbrev S1x1 : Shape := ⟨2, ![1, 1]⟩

abbrev nBuf : Space → Nat
  | .hbm => 66
  | .vmem => 0
  | .smem => 0
  | _ => 0

abbrev bufTy : (tb : Table) → Fin (tcTables nBuf tb) → BufTy
  | .hbm, ⟨0, _⟩ => ⟨S2x12x4352x128, .bf16⟩
  | .hbm, ⟨1, _⟩ => ⟨S2x12x4352x128, .bf16⟩
  | .hbm, ⟨2, _⟩ => ⟨S1536x8704, .bf16⟩
  | .hbm, ⟨3, _⟩ => ⟨S2, .i32⟩
  | .hbm, ⟨4, _⟩ => ⟨S1, .f32⟩
  | .hbm, ⟨5, _⟩ => ⟨S8704x1536, .bf16⟩
  | .hbm, ⟨6, _⟩ => ⟨S2x4352x12x128, .bf16⟩
  | .hbm, ⟨7, _⟩ => ⟨S4352, .i32⟩
  | .hbm, ⟨8, _⟩ => ⟨S1x4352, .i32⟩
  | .hbm, ⟨9, _⟩ => ⟨S2x1, .i32⟩
  | .hbm, ⟨10, _⟩ => ⟨S2x4352, .i32⟩
  | .hbm, ⟨11, _⟩ => ⟨S2x4352, .i32⟩
  | .hbm, ⟨12, _⟩ => ⟨S2x4352, .i1⟩
  | .hbm, ⟨13, _⟩ => ⟨S1x4352, .i32⟩
  | .hbm, ⟨14, _⟩ => ⟨S_, .i32⟩
  | .hbm, ⟨15, _⟩ => ⟨S1x4352, .i32⟩
  | .hbm, ⟨16, _⟩ => ⟨S1x4352, .i1⟩
  | .hbm, ⟨17, _⟩ => ⟨S2x4352, .i1⟩
  | .hbm, ⟨18, _⟩ => ⟨S2x4352, .i1⟩
  | .hbm, ⟨19, _⟩ => ⟨S2x1x1x4352, .i1⟩
  | .hbm, ⟨20, _⟩ => ⟨S2x12x4352x4352, .f32⟩
  | .hbm, ⟨21, _⟩ => ⟨S_, .f32⟩
  | .hbm, ⟨22, _⟩ => ⟨S2x12x4352x4352, .f32⟩
  | .hbm, ⟨23, _⟩ => ⟨S2x12x4352x4352, .f32⟩
  | .hbm, ⟨24, _⟩ => ⟨S2x12x4352x4352, .i1⟩
  | .hbm, ⟨25, _⟩ => ⟨S_, .f32⟩
  | .hbm, ⟨26, _⟩ => ⟨S2x12x4352x4352, .f32⟩
  | .hbm, ⟨27, _⟩ => ⟨S2x12x4352x4352, .f32⟩
  | .hbm, ⟨28, _⟩ => ⟨S_, .f32⟩
  | .hbm, ⟨29, _⟩ => ⟨S2x12x4352x4352, .f32⟩
  | .hbm, ⟨30, _⟩ => ⟨S2x12x4352x4352, .f32⟩
  | .hbm, ⟨31, _⟩ => ⟨S_, .f32⟩
  | .hbm, ⟨32, _⟩ => ⟨S2x12x4352, .f32⟩
  | .hbm, ⟨33, _⟩ => ⟨S2x12x4352x1, .f32⟩
  | .hbm, ⟨34, _⟩ => ⟨S2x12x4352x1, .f32⟩
  | .hbm, ⟨35, _⟩ => ⟨S2x12x4352x4352, .f32⟩
  | .hbm, ⟨36, _⟩ => ⟨S2x12x4352x4352, .f32⟩
  | .hbm, ⟨37, _⟩ => ⟨S_, .f32⟩
  | .hbm, ⟨38, _⟩ => ⟨S2x12x4352x4352, .f32⟩
  | .hbm, ⟨39, _⟩ => ⟨S2x12x4352x4352, .f32⟩
  | .hbm, ⟨40, _⟩ => ⟨S_, .f32⟩
  | .hbm, ⟨41, _⟩ => ⟨S2x12x4352, .f32⟩
  | .hbm, ⟨42, _⟩ => ⟨S2x12x4352x4352, .bf16⟩
  | .hbm, ⟨43, _⟩ => ⟨S2x12x128x4352, .f32⟩
  | .hbm, ⟨44, _⟩ => ⟨S2x4352x12x128, .f32⟩
  | .hbm, ⟨45, _⟩ => ⟨S2x4352x12, .f32⟩
  | .hbm, ⟨46, _⟩ => ⟨S2x4352x12x1, .f32⟩
  | .hbm, ⟨47, _⟩ => ⟨S2x4352x12x128, .f32⟩
  | .hbm, ⟨48, _⟩ => ⟨S2x4352x12x128, .f32⟩
  | .hbm, ⟨49, _⟩ => ⟨S2x4352x12x128, .f32⟩
  | .hbm, ⟨50, _⟩ => ⟨S_, .f32⟩
  | .hbm, ⟨51, _⟩ => ⟨S_, .f32⟩
  | .hbm, ⟨52, _⟩ => ⟨S1x1, .f32⟩
  | .hbm, ⟨53, _⟩ => ⟨S8704x1536, .f32⟩
  | .hbm, ⟨54, _⟩ => ⟨S_, .f32⟩
  | .hbm, ⟨55, _⟩ => ⟨S8704x1536, .f32⟩
  | .hbm, ⟨56, _⟩ => ⟨S8704x1536, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S8704x1536, .f32⟩
  | .hbm, ⟨61, _⟩ => ⟨S8704x1536, .f32⟩
  | .hbm, ⟨62, _⟩ => ⟨S_, .f32⟩
  | .hbm, ⟨63, _⟩ => ⟨S8704x1536, .f32⟩
  | .hbm, ⟨64, _⟩ => ⟨S8704x1536, .f32⟩
  | .hbm, ⟨65, _⟩ => ⟨S8704x1536, .fp8e4m3⟩
  | _, _ => ⟨S2x12x4352x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_cst_7 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]
-- ==== Out.lean ====
abbrev S8704x1536 : Shape := ⟨2, ![8704, 1536]⟩
abbrev S8704x6144 : Shape := ⟨2, ![8704, 6144]⟩
abbrev S7680x3072 : Shape := ⟨2, ![7680, 3072]⟩
abbrev S1x3072 : Shape := ⟨2, ![1, 3072]⟩
abbrev S2x3072 : Shape := ⟨2, ![2, 3072]⟩
abbrev S8704x3072 : Shape := ⟨2, ![8704, 3072]⟩
abbrev S2 : Shape := ⟨1, ![2]⟩
abbrev S2x1x3072 : Shape := ⟨3, ![2, 1, 3072]⟩
abbrev S256x1536 : Shape := ⟨2, ![256, 1536]⟩
abbrev S256x6144 : Shape := ⟨2, ![256, 6144]⟩
abbrev S1x1x3072 : Shape := ⟨3, ![1, 1, 3072]⟩
abbrev S256x3072 : Shape := ⟨2, ![256, 3072]⟩
abbrev S1 : Shape := ⟨1, ![1]⟩
abbrev S1536x256 : Shape := ⟨2, ![1536, 256]⟩
abbrev S256x256 : Shape := ⟨2, ![256, 256]⟩
abbrev S6144x256 : Shape := ⟨2, ![6144, 256]⟩
abbrev S1x256 : Shape := ⟨2, ![1, 256]⟩
abbrev S1x1x256 : Shape := ⟨3, ![1, 1, 256]⟩

abbrev nBuf : Space → Nat
  | .hbm => 10
  | .vmem => 13
  | .smem => 1
  | _ => 0

abbrev bufTy : (tb : Table) → Fin (tcTables nBuf tb) → BufTy
  | .hbm, ⟨0, _⟩ => ⟨S8704x1536, .fp8e4m3⟩
  | .hbm, ⟨1, _⟩ => ⟨S8704x6144, .fp8e4m3⟩
  | .hbm, ⟨2, _⟩ => ⟨S7680x3072, .fp8e4m3⟩
  | .hbm, ⟨3, _⟩ => ⟨S1x3072, .f32⟩
  | .hbm, ⟨4, _⟩ => ⟨S1x3072, .f32⟩
  | .hbm, ⟨5, _⟩ => ⟨S2x3072, .f32⟩
  | .hbm, ⟨6, _⟩ => ⟨S8704x3072, .bf16⟩
  | .hbm, ⟨7, _⟩ => ⟨S2, .f32⟩
  | .hbm, ⟨8, _⟩ => ⟨S2x1x3072, .f32⟩
  | .hbm, ⟨9, _⟩ => ⟨S8704x3072, .bf16⟩
  | .local _ .vmem, ⟨0, _⟩ => ⟨S256x1536, .fp8e4m3⟩
  | .local _ .vmem, ⟨1, _⟩ => ⟨S256x1536, .fp8e4m3⟩
  | .local _ .vmem, ⟨2, _⟩ => ⟨S256x6144, .fp8e4m3⟩
  | .local _ .vmem, ⟨3, _⟩ => ⟨S256x6144, .fp8e4m3⟩
  | .local _ .vmem, ⟨4, _⟩ => ⟨S7680x3072, .fp8e4m3⟩
  | .local _ .vmem, ⟨5, _⟩ => ⟨S1x3072, .f32⟩
  | .local _ .vmem, ⟨6, _⟩ => ⟨S1x3072, .f32⟩
  | .local _ .vmem, ⟨7, _⟩ => ⟨S1x1x3072, .f32⟩
  | .local _ .vmem, ⟨8, _⟩ => ⟨S1x1x3072, .f32⟩
  | .local _ .vmem, ⟨9, _⟩ => ⟨S256x3072, .bf16⟩
  | .local _ .vmem, ⟨10, _⟩ => ⟨S256x3072, .bf16⟩
  | .local _ .vmem, ⟨11, _⟩ => ⟨S256x3072, .bf16⟩
  | .local _ .vmem, ⟨12, _⟩ => ⟨S256x3072, .bf16⟩
  | .local _ .smem, ⟨0, _⟩ => ⟨S2, .f32⟩
  | _, _ => ⟨S8704x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![34], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1536 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x6144 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S7680x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutRefIdeal.lean ====
abbrev S8704x1536 : Shape := ⟨2, ![8704, 1536]⟩
abbrev S8704x6144 : Shape := ⟨2, ![8704, 6144]⟩
abbrev S7680x3072 : Shape := ⟨2, ![7680, 3072]⟩
abbrev S1x3072 : Shape := ⟨2, ![1, 3072]⟩
abbrev S2x3072 : Shape := ⟨2, ![2, 3072]⟩
abbrev S8704x3072 : Shape := ⟨2, ![8704, 3072]⟩
abbrev S2 : Shape := ⟨1, ![2]⟩
abbrev S1536x3072 : Shape := ⟨2, ![1536, 3072]⟩
abbrev S6144x3072 : Shape := ⟨2, ![6144, 3072]⟩
abbrev S1 : Shape := ⟨1, ![1]⟩
abbrev S2x4352x3072 : Shape := ⟨3, ![2, 4352, 3072]⟩
abbrev S2x1x3072 : Shape := ⟨3, ![2, 1, 3072]⟩

abbrev nBuf : Space → Nat
  | .hbm => 9
  | .vmem => 8
  | .smem => 1
  | _ => 0

abbrev bufTy : (tb : Table) → Fin (tcTables nBuf tb) → BufTy
  | .hbm, ⟨0, _⟩ => ⟨S8704x1536, .fp8e4m3⟩
  | .hbm, ⟨1, _⟩ => ⟨S8704x6144, .fp8e4m3⟩
  | .hbm, ⟨2, _⟩ => ⟨S7680x3072, .fp8e4m3⟩
  | .hbm, ⟨3, _⟩ => ⟨S1x3072, .f32⟩
  | .hbm, ⟨4, _⟩ => ⟨S1x3072, .f32⟩
  | .hbm, ⟨5, _⟩ => ⟨S2x3072, .f32⟩
  | .hbm, ⟨6, _⟩ => ⟨S8704x3072, .bf16⟩
  | .hbm, ⟨7, _⟩ => ⟨S2, .f32⟩
  | .hbm, ⟨8, _⟩ => ⟨S8704x3072, .bf16⟩
  | .local _ .vmem, ⟨0, _⟩ => ⟨S8704x1536, .fp8e4m3⟩
  | .local _ .vmem, ⟨1, _⟩ => ⟨S8704x6144, .fp8e4m3⟩
  | .local _ .vmem, ⟨2, _⟩ => ⟨S7680x3072, .fp8e4m3⟩
  | .local _ .vmem, ⟨3, _⟩ => ⟨S1x3072, .f32⟩
  | .local _ .vmem, ⟨4, _⟩ => ⟨S1x3072, .f32⟩
  | .local _ .vmem, ⟨5, _⟩ => ⟨S2x3072, .f32⟩
  | .local _ .vmem, ⟨6, _⟩ => ⟨S8704x3072, .bf16⟩
  | .local _ .vmem, ⟨7, _⟩ => ⟨S8704x3072, .bf16⟩
  | .local _ .smem, ⟨0, _⟩ => ⟨S2, .f32⟩
  | _, _ => ⟨S8704x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg8_0 : Ref sig .tc := ⟨.vmem, 7, rfl⟩
abbrev cc0_stg7_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8704x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8704x6144 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7680x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8704x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8704x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.AttPieces.lean ====
/- The attention's loop: what a trip writes does not depend on what it finds in the buffers it overwrites. -/
module

public import proofs.«01_k».proof.Proof.Gen.Att.Frame.Runs

@[expose] public section

-- membership in a rectangle of production extents (`View.cover_of_tiled`): the elaborator's structural look
-- recurses once per coordinate of the long axes
set_option maxRecDepth 16384

noncomputable section

namespace Cert.Att.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A trip's pieces of the block of codes do not depend on what the trip finds in the block or in the scores' scratch. -/
theorem trip7_eq (𝒱 : Variants) (c : Dev nD) (bd : Option 𝒱.V) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (v7 : Elt F .i32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (f7 f7' : BufTy.Contents (Elt F) arg7.view.ty) (f9 f9' : BufTy.Contents (Elt F) arg9.view.ty) (f10 : BufTy.Contents (Elt F) arg10.view.ty) :
    (trip_k0_t1 (F := F) 𝒱 c bd i arg2 harg2 arg3 harg3 arg4 harg4 arg5 harg5 arg6 harg6 arg7 harg7 arg8 harg8 arg9 harg9 arg10 harg10 v7 X_arg3 X_arg4 X_arg5 X_arg6 k).1 f7 f9 f10 = (trip_k0_t1 (F := F) 𝒱 c bd i arg2 harg2 arg3 harg3 arg4 harg4 arg5 harg5 arg6 harg6 arg7 harg7 arg8 harg8 arg9 harg9 arg10 harg10 v7 X_arg3 X_arg4 X_arg5 X_arg6 k).1 f7' f9' f10 := by
  unfold trip_k0_t1
  dsimp only

/-- Nor do its pieces of the running maximum. -/
theorem trip10_eq (𝒱 : Variants) (c : Dev nD) (bd : Option 𝒱.V) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (v7 : Elt F .i32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (f7 f7' : BufTy.Contents (Elt F) arg7.view.ty) (f9 f9' : BufTy.Contents (Elt F) arg9.view.ty) (f10 : BufTy.Contents (Elt F) arg10.view.ty) :
    (trip_k0_t1 (F := F) 𝒱 c bd i arg2 harg2 arg3 harg3 arg4 harg4 arg5 harg5 arg6 harg6 arg7 harg7 arg8 harg8 arg9 harg9 arg10 harg10 v7 X_arg3 X_arg4 X_arg5 X_arg6 k).2.2.1 f7 f9 f10 = (trip_k0_t1 (F := F) 𝒱 c bd i arg2 harg2 arg3 harg3 arg4 harg4 arg5 harg5 arg6 harg6 arg7 harg7 arg8 harg8 arg9 harg9 arg10 harg10 v7 X_arg3 X_arg4 X_arg5 X_arg6 k).2.2.1 f7' f9' f10 := by
  unfold trip_k0_t1
  dsimp only

/-- So neither do the pieces of all the trips before `n`. -/
theorem pb_indep (𝒱 : Variants) (c : Dev nD) (bd : Option 𝒱.V) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (v7 : Elt F .i32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (f7 f7' : BufTy.Contents (Elt F) arg7.view.ty) (f9 f9' : BufTy.Contents (Elt F) arg9.view.ty) (f10 : BufTy.Contents (Elt F) arg10.view.ty) (n : ℕ) :
    (pb_k0_t1 (F := F) 𝒱 c bd i arg2 harg2 arg3 harg3 arg4 harg4 arg5 harg5 arg6 harg6 arg7 harg7 arg8 harg8 arg9 harg9 arg10 harg10 v7 X_arg3 X_arg4 X_arg5 X_arg6 f7 f9 f10 n).1 = (pb_k0_t1 (F := F) 𝒱 c bd i arg2 harg2 arg3 harg3 arg4 harg4 arg5 harg5 arg6 harg6 arg7 harg7 arg8 harg8 arg9 harg9 arg10 harg10 v7 X_arg3 X_arg4 X_arg5 X_arg6 f7' f9' f10 n).1
      ∧ (pb_k0_t1 (F := F) 𝒱 c bd i arg2 harg2 arg3 harg3 arg4 harg4 arg5 harg5 arg6 harg6 arg7 harg7 arg8 harg8 arg9 harg9 arg10 harg10 v7 X_arg3 X_arg4 X_arg5 X_arg6 f7 f9 f10 n).2.2 = (pb_k0_t1 (F := F) 𝒱 c bd i arg2 harg2 arg3 harg3 arg4 harg4 arg5 harg5 arg6 harg6 arg7 harg7 arg8 harg8 arg9 harg9 arg10 harg10 v7 X_arg3 X_arg4 X_arg5 X_arg6 f7' f9' f10 n).2.2 := by
  induction n with
  | zero => exact ⟨rfl, rfl⟩
  | succ n ih =>
    rw [pb_k0_t1.eq_2, pb_k0_t1.eq_2]
    unfold pb_k0_t1Step
    by_cases h : n < k0_t1_loop.trips
    · rw [dif_pos h, dif_pos h]
      dsimp only
      rw [ih.1, ih.2]
      exact ⟨congrArg (· ++ _) (trip7_eq (F := F) 𝒱 c bd i arg2 harg2 arg3 harg3 arg4 harg4 arg5 harg5 arg6 harg6 arg7 harg7 arg8 harg8 arg9 harg9 arg10 harg10 v7 X_arg3 X_arg4 X_arg5 X_arg6 ⟨n, h⟩ _ _ _ _ _), congrArg (· ++ _) (trip10_eq (F := F) 𝒱 c bd i arg2 harg2 arg3 harg3 arg4 harg4 arg5 harg5 arg6 harg6 arg7 harg7 arg8 harg8 arg9 harg9 arg10 harg10 v7 X_arg3 X_arg4 X_arg5 X_arg6 ⟨n, h⟩ _ _ _ _ _)⟩
    · rw [dif_neg h, dif_neg h]
      exact ih

end Cert.Att.Gen

end
-- ==== Proof.AttRunA.lean ====
/- The attention's body at the grid points of case A of its frame: its run, with the pieces it writes. -/
module

public import proofs.«01_k».proof.Proof.AttPieces

@[expose] public section

-- membership in a rectangle of production extents (`View.cover_of_tiled`): the elaborator's structural look
-- recurses once per coordinate of the long axes
set_option maxRecDepth 16384

noncomputable section

namespace Cert.Att.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (6: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : cond0_0 i) (hc1 : ¬cond0_1 i)
    (x0 : Vec F S2 .i32) (x1 : Vec F S1 .f32) (x2 : Vec F S1x1x4352x128 .bf16) (x3 : Vec F S1x1x4352x128 .bf16) (x4 : Vec F S128x4352 .bf16) :
    Σ' (L5 : List (View.Piece (Elt F) S4352x128 .fp8e4m3)), Σ' (L6 : List (View.Piece (Elt F) S1x1 .f32)), { LS1 : List (View.Piece (Elt F) S8x256 .f32) //
      ∀ (xi6 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ d, owns (c : Thread nD τ) arg9 fullShare d) ∗ (∃ f, arg10.view.loc (c : Thread nD τ) ↦[arg10.view.set]{fullShare} arg10.view.writes (Elt F) f LS1)) -∗ K ⟨⟩))
          ⊢ wp frame (wpE (defs₀ (F := F)) Variants.none c none) E (cc0_attention i arg2 harg2 arg3 harg3 arg4 harg4 arg5 harg5 arg6 harg6 arg7 harg7 arg8 harg8 arg9 harg9 arg10 harg10) K } := by
  refine ⟨?_, [], ?_, fun xi6 E K => ?run⟩
  case run =>
    simp only [cc0_attention_eq_skeleton]; unfold cc0_attention_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | sl_exact hc0 | sl_exact hc1)
    sl_step
    rw [(pb_indep (F := F) (f7 := f5) (f7' := arg7.view.junk) (f9 := fs0) (f9' := arg9.view.junk) ..).1, (pb_indep (F := F) (f7 := f5) (f7' := arg7.view.junk) (f9 := fs0) (f9' := arg9.view.junk) ..).2]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [HS0]
    · iexists _, _; isplitr; swap; · iexact HS0
      ipureintro; rfl
    iexists _; iexact HS1

end Cert.Att.Gen

end
-- ==== Proof.AttRunB.lean ====
/- The attention's body at the grid points of case B of its frame: its run, with the pieces it writes. -/
module

public import proofs.«01_k».proof.Proof.AttRunA

@[expose] public section

-- membership in a rectangle of production extents (`View.cover_of_tiled`): the elaborator's structural look
-- recurses once per coordinate of the long axes
set_option maxRecDepth 16384

noncomputable section

namespace Cert.Att.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 22: 22 of 24), WITH the
    proof that on whole staging memrefs — the inputs' at their contents, the outputs it leaves idle (6: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : ¬cond0_0 i) (hc1 : ¬cond0_1 i)
    (x0 : Vec F S2 .i32) (x1 : Vec F S1 .f32) (x2 : Vec F S1x1x4352x128 .bf16) (x3 : Vec F S1x1x4352x128 .bf16) (x4 : Vec F S128x4352 .bf16) (xs1 : Vec F S8x256 .f32) :
    Σ' (L5 : List (View.Piece (Elt F) S4352x128 .fp8e4m3)), Σ' (L6 : List (View.Piece (Elt F) S1x1 .f32)), { LS1 : List (View.Piece (Elt F) S8x256 .f32) //
      ∀ (xi6 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d) ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ d, owns (c : Thread nD τ) arg9 fullShare d) ∗ (∃ f, arg10.view.loc (c : Thread nD τ) ↦[arg10.view.set]{fullShare} arg10.view.writes (Elt F) f LS1)) -∗ K ⟨⟩))
          ⊢ wp frame (wpE (defs₀ (F := F)) Variants.none c none) E (cc0_attention i arg2 harg2 arg3 harg3 arg4 harg4 arg5 harg5 arg6 harg6 arg7 harg7 arg8 harg8 arg9 harg9 arg10 harg10) K } := by
  refine ⟨?_, [], ?_, fun xi6 E K => ?run⟩
  case run =>
    simp only [cc0_attention_eq_skeleton]; unfold cc0_attention_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg10.eq_unread hfs1
    sl_exec (disch := first | sl_exact hc0 | sl_exact hc1)
    sl_step
    rw [(pb_indep (F := F) (f7 := f5) (f7' := arg7.view.junk) (f9 := fs0) (f9' := arg9.view.junk) ..).1, (pb_indep (F := F) (f7 := f5) (f7' := arg7.view.junk) (f9 := fs0) (f9' := arg9.view.junk) ..).2]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [HS0]
    · iexists _, _; isplitr; swap; · iexact HS0
      ipureintro; rfl
    iexists _; iexact HS1

end Cert.Att.Gen

end
-- ==== Proof.AttRunC.lean ====
/- The attention's body at the grid points of case C of its frame: its run, with the pieces it writes. -/
module

public import proofs.«01_k».proof.Proof.AttRunB

@[expose] public section

-- membership in a rectangle of production extents (`View.cover_of_tiled`): the elaborator's structural look
-- recurses once per coordinate of the long axes
set_option maxRecDepth 16384

noncomputable section

namespace Cert.Att.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 23), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : ¬cond0_0 i) (hc1 : cond0_1 i)
    (x0 : Vec F S2 .i32) (x1 : Vec F S1 .f32) (x2 : Vec F S1x1x4352x128 .bf16) (x3 : Vec F S1x1x4352x128 .bf16) (x4 : Vec F S128x4352 .bf16) (xs1 : Vec F S8x256 .f32) :
    Σ' (L5 : List (View.Piece (Elt F) S4352x128 .fp8e4m3)), Σ' (L6 : List (View.Piece (Elt F) S1x1 .f32)), { LS1 : List (View.Piece (Elt F) S8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ d, owns (c : Thread nD τ) arg9 fullShare d) ∗ (∃ f, arg10.view.loc (c : Thread nD τ) ↦[arg10.view.set]{fullShare} arg10.view.writes (Elt F) f LS1)) -∗ K ⟨⟩))
          ⊢ wp frame (wpE (defs₀ (F := F)) Variants.none c none) E (cc0_attention i arg2 harg2 arg3 harg3 arg4 harg4 arg5 harg5 arg6 harg6 arg7 harg7 arg8 harg8 arg9 harg9 arg10 harg10) K } := by
  refine ⟨?_, ?_, ?_, fun E K => ?run⟩
  case run =>
    simp only [cc0_attention_eq_skeleton]; unfold cc0_attention_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs1
    sl_exec (disch := first | sl_exact hc0 | sl_exact hc1)
    sl_step
    unfold _root_.Cert.Att.Gen.kernelRun0_C.sl.v19
    rw [(pb_indep (F := F) (f7 := f5) (f7' := arg7.view.junk) (f9 := fs0) (f9' := arg9.view.junk) ..).1, (pb_indep (F := F) (f7 := f5) (f7' := arg7.view.junk) (f9 := fs0) (f9' := arg9.view.junk) ..).2]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]
    · iexists _, _; isplitr; swap; · iexact HS0
      ipureintro; rfl
    iexists _; iexact HS1

end Cert.Att.Gen

end
-- ==== Proof.AttFrame.lean ====
/- The attention's frame: the blocks after each grid point, the body's obligation there, and the run. -/
module

public import proofs.«01_k».proof.Proof.AttRunC
public import Idealize.ShloMosaic.Lib.Claim

@[expose] public section

-- membership in a rectangle of production extents (`View.cover_of_tiled`): the elaborator's structural look
-- recurses once per coordinate of the long axes
set_option maxRecDepth 16384

noncomputable section

namespace Cert.Att.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 5 tile its block (17 stores of `S256x128`, checked by the kernel's evaluation: Lib/Ring.lean `Piece.tiledL`, linear in the pieces, through a loop's `@[irreducible]` trip theorem too), so they cover it. -/
theorem cover0_A_5 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : cond0_0 i) (hc1 : ¬cond0_1 i)
    (x0 : Vec F S2 .i32) (x1 : Vec F S1 .f32) (x2 : Vec F S1x1x4352x128 .bf16) (x3 : Vec F S1x1x4352x128 .bf16) (x4 : Vec F S128x4352 .bf16) (y : S4352x128.Idx) :
    ∃ pc ∈ (kernelRun0_A c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).1 S256x128.size (by sl_kernel_rfl) y

/-- What case A leaves in output 5's staging buffer: its pieces read back over junk. -/
def out0_A_5 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : cond0_0 i) (hc1 : ¬cond0_1 i)
    (x0 : Vec F S2 .i32) (x1 : Vec F S1 .f32) (x2 : Vec F S1x1x4352x128 .bf16) (x3 : Vec F S1x1x4352x128 .bf16) (x4 : Vec F S128x4352 .bf16) : Vec F S4352x128 .fp8e4m3 :=
  VO0_5.read (Elt F) (VO0_5.writes (Elt F) VO0_5.junk (kernelRun0_A c i arg2 harg2 arg3 harg3 arg4 harg4 arg5 harg5 arg6 harg6 arg7 harg7 arg8 harg8 arg9 harg9 arg10 harg10 hc0 hc1 x0 x1 x2 x3 x4).1)

/-- Case A stores nothing into output 6 (the window is idle at its points and not written back there):
    no pieces — a placeholder (junk read back) that nothing consults, since at these points the window is neither
    written back nor read at the next point (Lib/Pipeline.lean "Idle points"). -/
def out0_A_6 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : cond0_0 i) (hc1 : ¬cond0_1 i)
    (x0 : Vec F S2 .i32) (x1 : Vec F S1 .f32) (x2 : Vec F S1x1x4352x128 .bf16) (x3 : Vec F S1x1x4352x128 .bf16) (x4 : Vec F S128x4352 .bf16) : Vec F S1x1 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4).2.1)

/-- Case A's pieces for scratch `arg10`, which the kernel carries between points, cover it: 18 pieces of `S8x256` tiling it (Lib/Ring.lean `Piece.tiledL`). -/
theorem scover0_A_1 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : cond0_0 i) (hc1 : ¬cond0_1 i)
    (x0 : Vec F S2 .i32) (x1 : Vec F S1 .f32) (x2 : Vec F S1x1x4352x128 .bf16) (x3 : Vec F S1x1x4352x128 .bf16) (x4 : Vec F S128x4352 .bf16) (y : S8x256.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.2.1 S8x256.size (by sl_kernel_rfl) y

/-- What case A leaves in scratch `arg10`: its pieces read back over junk. -/
def sout0_A_1 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : cond0_0 i) (hc1 : ¬cond0_1 i)
    (x0 : Vec F S2 .i32) (x1 : Vec F S1 .f32) (x2 : Vec F S1x1x4352x128 .bf16) (x3 : Vec F S1x1x4352x128 .bf16) (x4 : Vec F S128x4352 .bf16) : Vec F S8x256 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3 x4).2.2.1)

/-- Case B's pieces for output 5 tile its block (17 stores of `S256x128`, checked by the kernel's evaluation: Lib/Ring.lean `Piece.tiledL`, linear in the pieces, through a loop's `@[irreducible]` trip theorem too), so they cover it. -/
theorem cover0_B_5 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : ¬cond0_0 i) (hc1 : ¬cond0_1 i)
    (x0 : Vec F S2 .i32) (x1 : Vec F S1 .f32) (x2 : Vec F S1x1x4352x128 .bf16) (x3 : Vec F S1x1x4352x128 .bf16) (x4 : Vec F S128x4352 .bf16) (xs1 : Vec F S8x256 .f32) (y : S4352x128.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs1).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs1).1 S256x128.size (by sl_kernel_rfl) y

/-- What case B leaves in output 5's staging buffer: its pieces read back over junk. -/
def out0_B_5 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : ¬cond0_0 i) (hc1 : ¬cond0_1 i)
    (x0 : Vec F S2 .i32) (x1 : Vec F S1 .f32) (x2 : Vec F S1x1x4352x128 .bf16) (x3 : Vec F S1x1x4352x128 .bf16) (x4 : Vec F S128x4352 .bf16) (xs1 : Vec F S8x256 .f32) : Vec F S4352x128 .fp8e4m3 :=
  VO0_5.read (Elt F) (VO0_5.writes (Elt F) VO0_5.junk (kernelRun0_B c i arg2 harg2 arg3 harg3 arg4 harg4 arg5 harg5 arg6 harg6 arg7 harg7 arg8 harg8 arg9 harg9 arg10 harg10 hc0 hc1 x0 x1 x2 x3 x4 xs1).1)

/-- Case B stores nothing into output 6 (the window is idle at its points and not written back there):
    no pieces — a placeholder (junk read back) that nothing consults, since at these points the window is neither
    written back nor read at the next point (Lib/Pipeline.lean "Idle points"). -/
def out0_B_6 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : ¬cond0_0 i) (hc1 : ¬cond0_1 i)
    (x0 : Vec F S2 .i32) (x1 : Vec F S1 .f32) (x2 : Vec F S1x1x4352x128 .bf16) (x3 : Vec F S1x1x4352x128 .bf16) (x4 : Vec F S128x4352 .bf16) (xs1 : Vec F S8x256 .f32) : Vec F S1x1 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 xs1).2.1)

/-- Case B's pieces for scratch `arg10`, which the kernel carries between points, cover it: 17 pieces of `S8x256` tiling it (Lib/Ring.lean `Piece.tiledL`). -/
theorem scover0_B_1 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : ¬cond0_0 i) (hc1 : ¬cond0_1 i)
    (x0 : Vec F S2 .i32) (x1 : Vec F S1 .f32) (x2 : Vec F S1x1x4352x128 .bf16) (x3 : Vec F S1x1x4352x128 .bf16) (x4 : Vec F S128x4352 .bf16) (xs1 : Vec F S8x256 .f32) (y : S8x256.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs1).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs1).2.2.1 S8x256.size (by sl_kernel_rfl) y

/-- What case B leaves in scratch `arg10`: its pieces read back over junk. -/
def sout0_B_1 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : ¬cond0_0 i) (hc1 : ¬cond0_1 i)
    (x0 : Vec F S2 .i32) (x1 : Vec F S1 .f32) (x2 : Vec F S1x1x4352x128 .bf16) (x3 : Vec F S1x1x4352x128 .bf16) (x4 : Vec F S128x4352 .bf16) (xs1 : Vec F S8x256 .f32) : Vec F S8x256 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 x3 x4 xs1).2.2.1)

/-- Case C's pieces for output 5 tile its block (17 stores of `S256x128`, checked by the kernel's evaluation: Lib/Ring.lean `Piece.tiledL`, linear in the pieces, through a loop's `@[irreducible]` trip theorem too), so they cover it. -/
theorem cover0_C_5 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : ¬cond0_0 i) (hc1 : cond0_1 i)
    (x0 : Vec F S2 .i32) (x1 : Vec F S1 .f32) (x2 : Vec F S1x1x4352x128 .bf16) (x3 : Vec F S1x1x4352x128 .bf16) (x4 : Vec F S128x4352 .bf16) (xs1 : Vec F S8x256 .f32) (y : S4352x128.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs1).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs1).1 S256x128.size (by sl_kernel_rfl) y

/-- What case C leaves in output 5's staging buffer: its pieces read back over junk. -/
def out0_C_5 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : ¬cond0_0 i) (hc1 : cond0_1 i)
    (x0 : Vec F S2 .i32) (x1 : Vec F S1 .f32) (x2 : Vec F S1x1x4352x128 .bf16) (x3 : Vec F S1x1x4352x128 .bf16) (x4 : Vec F S128x4352 .bf16) (xs1 : Vec F S8x256 .f32) : Vec F S4352x128 .fp8e4m3 :=
  VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 x3 x4 xs1).1)

/-- Case C's pieces for output 6 tile its block (1 store of `S1x1`, checked by the kernel's evaluation: Lib/Ring.lean `Piece.tiledL`, linear in the pieces, through a loop's `@[irreducible]` trip theorem too), so they cover it. -/
theorem cover0_C_6 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : ¬cond0_0 i) (hc1 : cond0_1 i)
    (x0 : Vec F S2 .i32) (x1 : Vec F S1 .f32) (x2 : Vec F S1x1x4352x128 .bf16) (x3 : Vec F S1x1x4352x128 .bf16) (x4 : Vec F S128x4352 .bf16) (xs1 : Vec F S8x256 .f32) (y : S1x1.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs1).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs1).2.1 S1x1.size (by sl_kernel_rfl) y

/-- What case C leaves in output 6's staging buffer: its pieces read back over junk. -/
def out0_C_6 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : ¬cond0_0 i) (hc1 : cond0_1 i)
    (x0 : Vec F S2 .i32) (x1 : Vec F S1 .f32) (x2 : Vec F S1x1x4352x128 .bf16) (x3 : Vec F S1x1x4352x128 .bf16) (x4 : Vec F S128x4352 .bf16) (xs1 : Vec F S8x256 .f32) : Vec F S1x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 xs1).2.1)

/-- Case C's pieces for scratch `arg10`, which the kernel carries between points, cover it: 17 pieces of `S8x256` tiling it (Lib/Ring.lean `Piece.tiledL`). -/
theorem scover0_C_1 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : ¬cond0_0 i) (hc1 : cond0_1 i)
    (x0 : Vec F S2 .i32) (x1 : Vec F S1 .f32) (x2 : Vec F S1x1x4352x128 .bf16) (x3 : Vec F S1x1x4352x128 .bf16) (x4 : Vec F S128x4352 .bf16) (xs1 : Vec F S8x256 .f32) (y : S8x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs1).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs1).2.2.1 S8x256.size (by sl_kernel_rfl) y

/-- What case C leaves in scratch `arg10`: its pieces read back over junk. -/
def sout0_C_1 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : ¬cond0_0 i) (hc1 : cond0_1 i)
    (x0 : Vec F S2 .i32) (x1 : Vec F S1 .f32) (x2 : Vec F S1x1x4352x128 .bf16) (x3 : Vec F S1x1x4352x128 .bf16) (x4 : Vec F S128x4352 .bf16) (xs1 : Vec F S8x256 .f32) : Vec F S8x256 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 x4 xs1).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S4352x128 .fp8e4m3 × Vec F S1x1 .f32 × Vec F S8x256 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 24 = 0 then
      if h1 : (n + 1) % 24 = 23 then
        False.elim (by have hN : n + 1 < 24 := lt_of_lt_of_eq hn (show cfg0.N = 24 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 24 = 23 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2)

/-- `outsAt0` at a point of case A: that case's contents. -/
theorem outsAt0_A (c : Dev nD) (t : Fin cfg0.N) (h0 : t.val % 24 = 0) (h1 : ¬t.val % 24 = 23) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 24 = 0) (h1 : ¬t.val % 24 = 23) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 24 = 0) (h1 : t.val % 24 = 23) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 24 := lt_of_lt_of_eq t.isLt (show cfg0.N = 24 from N_0)
  by_cases h0 : t.val % 24 = 0
  · by_cases h1 : t.val % 24 = 23
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_5 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS0]; · iexact HS0
        isplitl [HS1]; · iexact HS1
        iintro ⟨H0, H1, H2, H3, H4, ⟨%e5, H5⟩, H6, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_A_1 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _)
        iexists _; iexact H6
      · exfalso; have hN : t.val < 24 := lt_of_lt_of_eq t.isLt (show cfg0.N = 24 from N_0); omega
  · by_cases h1 : t.val % 24 = 23
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1)], after0_6]
      by_cases hz : t.val = 0
      · exfalso; have hN : t.val < 24 := lt_of_lt_of_eq t.isLt (show cfg0.N = 24 from N_0); omega
      · rw [PhiS_castSucc m c t, PhiS_pos m c _ _ hz]
        rw [outsAt0_C m c t h0 h1]
        unfold out0_C_5 out0_C_6 sout0_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        isplitl [HS1]; · iexact HS1
        iintro ⟨H0, H1, H2, H3, H4, ⟨%e5, H5⟩, ⟨%e6, H6⟩, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_C_1 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _ _ _)
        unfold owns; iexists _; isplitr
        swap; · iexact H6
        ipureintro; exact View.read_writes_of_cover _ _ _ _ _ (cover0_C_6 c _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      by_cases hz : t.val = 0
      · exfalso; have hN : t.val < 24 := lt_of_lt_of_eq t.isLt (show cfg0.N = 24 from N_0); omega
      · rw [PhiS_castSucc m c t, PhiS_pos m c _ _ hz]
        rw [outsAt0_B m c t h0 h1]
        unfold out0_B_5 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _).2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS0]; · iexact HS0
        isplitl [HS1]; · iexact HS1
        iintro ⟨H0, H1, H2, H3, H4, ⟨%e5, H5⟩, H6, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_B_1 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _ _ _ _ _)
        iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 24 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Att`'s statement (Defs.lean) at any `F` — Proof.lean cites it at `Bits`:
    `theorem Cert.Proof.claim : Cert.Claim := ⟨Cert.Att.Gen.facts, fun m ρ _ => Cert.Att.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Att.Gen

end
-- ==== Proof.AttIdealPieces.lean ====
/- The attention's loop: what a trip writes does not depend on what it finds in the buffers it overwrites. -/
module

public import proofs.«01_k».proof.Proof.Gen.AttIdeal.Frame.Runs

@[expose] public section

-- membership in a rectangle of production extents (`View.cover_of_tiled`): the elaborator's structural look
-- recurses once per coordinate of the long axes
set_option maxRecDepth 16384

noncomputable section

namespace Cert.AttIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A trip's pieces of the block of codes do not depend on what the trip finds in the block or in the scores' scratch. -/
theorem trip7_eq (𝒱 : Variants) (c : Dev nD) (bd : Option 𝒱.V) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (v7 : Elt F .i32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (f7 f7' : BufTy.Contents (Elt F) arg7.view.ty) (f9 f9' : BufTy.Contents (Elt F) arg9.view.ty) (f10 : BufTy.Contents (Elt F) arg10.view.ty) :
    (trip_k0_t1 (F := F) 𝒱 c bd i arg2 harg2 arg3 harg3 arg4 harg4 arg5 harg5 arg6 harg6 arg7 harg7 arg8 harg8 arg9 harg9 arg10 harg10 v7 X_arg3 X_arg4 X_arg5 X_arg6 k).1 f7 f9 f10 = (trip_k0_t1 (F := F) 𝒱 c bd i arg2 harg2 arg3 harg3 arg4 harg4 arg5 harg5 arg6 harg6 arg7 harg7 arg8 harg8 arg9 harg9 arg10 harg10 v7 X_arg3 X_arg4 X_arg5 X_arg6 k).1 f7' f9' f10 := by
  unfold trip_k0_t1
  dsimp only

/-- Nor do its pieces of the running maximum. -/
theorem trip10_eq (𝒱 : Variants) (c : Dev nD) (bd : Option 𝒱.V) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (v7 : Elt F .i32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (f7 f7' : BufTy.Contents (Elt F) arg7.view.ty) (f9 f9' : BufTy.Contents (Elt F) arg9.view.ty) (f10 : BufTy.Contents (Elt F) arg10.view.ty) :
    (trip_k0_t1 (F := F) 𝒱 c bd i arg2 harg2 arg3 harg3 arg4 harg4 arg5 harg5 arg6 harg6 arg7 harg7 arg8 harg8 arg9 harg9 arg10 harg10 v7 X_arg3 X_arg4 X_arg5 X_arg6 k).2.2.1 f7 f9 f10 = (trip_k0_t1 (F := F) 𝒱 c bd i arg2 harg2 arg3 harg3 arg4 harg4 arg5 harg5 arg6 harg6 arg7 harg7 arg8 harg8 arg9 harg9 arg10 harg10 v7 X_arg3 X_arg4 X_arg5 X_arg6 k).2.2.1 f7' f9' f10 := by
  unfold trip_k0_t1
  dsimp only

/-- So neither do the pieces of all the trips before `n`. -/
theorem pb_indep (𝒱 : Variants) (c : Dev nD) (bd : Option 𝒱.V) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (v7 : Elt F .i32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (f7 f7' : BufTy.Contents (Elt F) arg7.view.ty) (f9 f9' : BufTy.Contents (Elt F) arg9.view.ty) (f10 : BufTy.Contents (Elt F) arg10.view.ty) (n : ℕ) :
    (pb_k0_t1 (F := F) 𝒱 c bd i arg2 harg2 arg3 harg3 arg4 harg4 arg5 harg5 arg6 harg6 arg7 harg7 arg8 harg8 arg9 harg9 arg10 harg10 v7 X_arg3 X_arg4 X_arg5 X_arg6 f7 f9 f10 n).1 = (pb_k0_t1 (F := F) 𝒱 c bd i arg2 harg2 arg3 harg3 arg4 harg4 arg5 harg5 arg6 harg6 arg7 harg7 arg8 harg8 arg9 harg9 arg10 harg10 v7 X_arg3 X_arg4 X_arg5 X_arg6 f7' f9' f10 n).1
      ∧ (pb_k0_t1 (F := F) 𝒱 c bd i arg2 harg2 arg3 harg3 arg4 harg4 arg5 harg5 arg6 harg6 arg7 harg7 arg8 harg8 arg9 harg9 arg10 harg10 v7 X_arg3 X_arg4 X_arg5 X_arg6 f7 f9 f10 n).2.2 = (pb_k0_t1 (F := F) 𝒱 c bd i arg2 harg2 arg3 harg3 arg4 harg4 arg5 harg5 arg6 harg6 arg7 harg7 arg8 harg8 arg9 harg9 arg10 harg10 v7 X_arg3 X_arg4 X_arg5 X_arg6 f7' f9' f10 n).2.2 := by
  induction n with
  | zero => exact ⟨rfl, rfl⟩
  | succ n ih =>
    rw [pb_k0_t1.eq_2, pb_k0_t1.eq_2]
    unfold pb_k0_t1Step
    by_cases h : n < k0_t1_loop.trips
    · rw [dif_pos h, dif_pos h]
      dsimp only
      rw [ih.1, ih.2]
      exact ⟨congrArg (· ++ _) (trip7_eq (F := F) 𝒱 c bd i arg2 harg2 arg3 harg3 arg4 harg4 arg5 harg5 arg6 harg6 arg7 harg7 arg8 harg8 arg9 harg9 arg10 harg10 v7 X_arg3 X_arg4 X_arg5 X_arg6 ⟨n, h⟩ _ _ _ _ _), congrArg (· ++ _) (trip10_eq (F := F) 𝒱 c bd i arg2 harg2 arg3 harg3 arg4 harg4 arg5 harg5 arg6 harg6 arg7 harg7 arg8 harg8 arg9 harg9 arg10 harg10 v7 X_arg3 X_arg4 X_arg5 X_arg6 ⟨n, h⟩ _ _ _ _ _)⟩
    · rw [dif_neg h, dif_neg h]
      exact ih

end Cert.AttIdeal.Gen

end
-- ==== Proof.AttIdealRunA.lean ====
/- The attention's body at the grid points of case A of its frame: its run, with the pieces it writes. -/
module

public import proofs.«01_k».proof.Proof.AttIdealPieces

@[expose] public section

-- membership in a rectangle of production extents (`View.cover_of_tiled`): the elaborator's structural look
-- recurses once per coordinate of the long axes
set_option maxRecDepth 16384

noncomputable section

namespace Cert.AttIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (6: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : cond0_0 i) (hc1 : ¬cond0_1 i)
    (x0 : Vec F S2 .i32) (x1 : Vec F S1 .f32) (x2 : Vec F S1x1x4352x128 .bf16) (x3 : Vec F S1x1x4352x128 .bf16) (x4 : Vec F S128x4352 .bf16) :
    Σ' (L5 : List (View.Piece (Elt F) S4352x128 .fp8e4m3)), Σ' (L6 : List (View.Piece (Elt F) S1x1 .f32)), { LS1 : List (View.Piece (Elt F) S8x256 .f32) //
      ∀ (xi6 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ d, owns (c : Thread nD τ) arg9 fullShare d) ∗ (∃ f, arg10.view.loc (c : Thread nD τ) ↦[arg10.view.set]{fullShare} arg10.view.writes (Elt F) f LS1)) -∗ K ⟨⟩))
          ⊢ wp frame (wpE (defs₀ (F := F)) Variants.none c none) E (cc0_attention i arg2 harg2 arg3 harg3 arg4 harg4 arg5 harg5 arg6 harg6 arg7 harg7 arg8 harg8 arg9 harg9 arg10 harg10) K } := by
  refine ⟨?_, [], ?_, fun xi6 E K => ?run⟩
  case run =>
    simp only [cc0_attention_eq_skeleton]; unfold cc0_attention_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | sl_exact hc0 | sl_exact hc1)
    sl_step
    rw [(pb_indep (F := F) (f7 := f5) (f7' := arg7.view.junk) (f9 := fs0) (f9' := arg9.view.junk) ..).1, (pb_indep (F := F) (f7 := f5) (f7' := arg7.view.junk) (f9 := fs0) (f9' := arg9.view.junk) ..).2]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [HS0]
    · iexists _, _; isplitr; swap; · iexact HS0
      ipureintro; rfl
    iexists _; iexact HS1

end Cert.AttIdeal.Gen

end
-- ==== Proof.AttIdealRunB.lean ====
/- The attention's body at the grid points of case B of its frame: its run, with the pieces it writes. -/
module

public import proofs.«01_k».proof.Proof.AttIdealRunA

@[expose] public section

-- membership in a rectangle of production extents (`View.cover_of_tiled`): the elaborator's structural look
-- recurses once per coordinate of the long axes
set_option maxRecDepth 16384

noncomputable section

namespace Cert.AttIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 22: 22 of 24), WITH the
    proof that on whole staging memrefs — the inputs' at their contents, the outputs it leaves idle (6: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : ¬cond0_0 i) (hc1 : ¬cond0_1 i)
    (x0 : Vec F S2 .i32) (x1 : Vec F S1 .f32) (x2 : Vec F S1x1x4352x128 .bf16) (x3 : Vec F S1x1x4352x128 .bf16) (x4 : Vec F S128x4352 .bf16) (xs1 : Vec F S8x256 .f32) :
    Σ' (L5 : List (View.Piece (Elt F) S4352x128 .fp8e4m3)), Σ' (L6 : List (View.Piece (Elt F) S1x1 .f32)), { LS1 : List (View.Piece (Elt F) S8x256 .f32) //
      ∀ (xi6 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d) ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ d, owns (c : Thread nD τ) arg9 fullShare d) ∗ (∃ f, arg10.view.loc (c : Thread nD τ) ↦[arg10.view.set]{fullShare} arg10.view.writes (Elt F) f LS1)) -∗ K ⟨⟩))
          ⊢ wp frame (wpE (defs₀ (F := F)) Variants.none c none) E (cc0_attention i arg2 harg2 arg3 harg3 arg4 harg4 arg5 harg5 arg6 harg6 arg7 harg7 arg8 harg8 arg9 harg9 arg10 harg10) K } := by
  refine ⟨?_, [], ?_, fun xi6 E K => ?run⟩
  case run =>
    simp only [cc0_attention_eq_skeleton]; unfold cc0_attention_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg10.eq_unread hfs1
    sl_exec (disch := first | sl_exact hc0 | sl_exact hc1)
    sl_step
    rw [(pb_indep (F := F) (f7 := f5) (f7' := arg7.view.junk) (f9 := fs0) (f9' := arg9.view.junk) ..).1, (pb_indep (F := F) (f7 := f5) (f7' := arg7.view.junk) (f9 := fs0) (f9' := arg9.view.junk) ..).2]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [HS0]
    · iexists _, _; isplitr; swap; · iexact HS0
      ipureintro; rfl
    iexists _; iexact HS1

end Cert.AttIdeal.Gen

end
-- ==== Proof.AttIdealRunC.lean ====
/- The attention's body at the grid points of case C of its frame: its run, with the pieces it writes. -/
module

public import proofs.«01_k».proof.Proof.AttIdealRunB

@[expose] public section

-- membership in a rectangle of production extents (`View.cover_of_tiled`): the elaborator's structural look
-- recurses once per coordinate of the long axes
set_option maxRecDepth 16384

noncomputable section

namespace Cert.AttIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 23), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : ¬cond0_0 i) (hc1 : cond0_1 i)
    (x0 : Vec F S2 .i32) (x1 : Vec F S1 .f32) (x2 : Vec F S1x1x4352x128 .bf16) (x3 : Vec F S1x1x4352x128 .bf16) (x4 : Vec F S128x4352 .bf16) (xs1 : Vec F S8x256 .f32) :
    Σ' (L5 : List (View.Piece (Elt F) S4352x128 .fp8e4m3)), Σ' (L6 : List (View.Piece (Elt F) S1x1 .f32)), { LS1 : List (View.Piece (Elt F) S8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ d, owns (c : Thread nD τ) arg9 fullShare d) ∗ (∃ f, arg10.view.loc (c : Thread nD τ) ↦[arg10.view.set]{fullShare} arg10.view.writes (Elt F) f LS1)) -∗ K ⟨⟩))
          ⊢ wp frame (wpE (defs₀ (F := F)) Variants.none c none) E (cc0_attention i arg2 harg2 arg3 harg3 arg4 harg4 arg5 harg5 arg6 harg6 arg7 harg7 arg8 harg8 arg9 harg9 arg10 harg10) K } := by
  refine ⟨?_, ?_, ?_, fun E K => ?run⟩
  case run =>
    simp only [cc0_attention_eq_skeleton]; unfold cc0_attention_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs1
    sl_exec (disch := first | sl_exact hc0 | sl_exact hc1)
    sl_step
    unfold _root_.Cert.AttIdeal.Gen.kernelRun0_C.sl.v19
    rw [(pb_indep (F := F) (f7 := f5) (f7' := arg7.view.junk) (f9 := fs0) (f9' := arg9.view.junk) ..).1, (pb_indep (F := F) (f7 := f5) (f7' := arg7.view.junk) (f9 := fs0) (f9' := arg9.view.junk) ..).2]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]
    · iexists _, _; isplitr; swap; · iexact HS0
      ipureintro; rfl
    iexists _; iexact HS1

end Cert.AttIdeal.Gen

end
-- ==== Proof.AttIdealFrame.lean ====
/- The attention's frame: the blocks after each grid point, the body's obligation there, and the run. -/
module

public import proofs.«01_k».proof.Proof.AttIdealRunC
public import Idealize.ShloMosaic.Lib.Claim

@[expose] public section

-- membership in a rectangle of production extents (`View.cover_of_tiled`): the elaborator's structural look
-- recurses once per coordinate of the long axes
set_option maxRecDepth 16384

noncomputable section

namespace Cert.AttIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 5 tile its block (17 stores of `S256x128`, checked by the kernel's evaluation: Lib/Ring.lean `Piece.tiledL`, linear in the pieces, through a loop's `@[irreducible]` trip theorem too), so they cover it. -/
theorem cover0_A_5 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : cond0_0 i) (hc1 : ¬cond0_1 i)
    (x0 : Vec F S2 .i32) (x1 : Vec F S1 .f32) (x2 : Vec F S1x1x4352x128 .bf16) (x3 : Vec F S1x1x4352x128 .bf16) (x4 : Vec F S128x4352 .bf16) (y : S4352x128.Idx) :
    ∃ pc ∈ (kernelRun0_A c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).1 S256x128.size (by sl_kernel_rfl) y

/-- What case A leaves in output 5's staging buffer: its pieces read back over junk. -/
def out0_A_5 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : cond0_0 i) (hc1 : ¬cond0_1 i)
    (x0 : Vec F S2 .i32) (x1 : Vec F S1 .f32) (x2 : Vec F S1x1x4352x128 .bf16) (x3 : Vec F S1x1x4352x128 .bf16) (x4 : Vec F S128x4352 .bf16) : Vec F S4352x128 .fp8e4m3 :=
  VO0_5.read (Elt F) (VO0_5.writes (Elt F) VO0_5.junk (kernelRun0_A c i arg2 harg2 arg3 harg3 arg4 harg4 arg5 harg5 arg6 harg6 arg7 harg7 arg8 harg8 arg9 harg9 arg10 harg10 hc0 hc1 x0 x1 x2 x3 x4).1)

/-- Case A stores nothing into output 6 (the window is idle at its points and not written back there):
    no pieces — a placeholder (junk read back) that nothing consults, since at these points the window is neither
    written back nor read at the next point (Lib/Pipeline.lean "Idle points"). -/
def out0_A_6 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : cond0_0 i) (hc1 : ¬cond0_1 i)
    (x0 : Vec F S2 .i32) (x1 : Vec F S1 .f32) (x2 : Vec F S1x1x4352x128 .bf16) (x3 : Vec F S1x1x4352x128 .bf16) (x4 : Vec F S128x4352 .bf16) : Vec F S1x1 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4).2.1)

/-- Case A's pieces for scratch `arg10`, which the kernel carries between points, cover it: 18 pieces of `S8x256` tiling it (Lib/Ring.lean `Piece.tiledL`). -/
theorem scover0_A_1 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : cond0_0 i) (hc1 : ¬cond0_1 i)
    (x0 : Vec F S2 .i32) (x1 : Vec F S1 .f32) (x2 : Vec F S1x1x4352x128 .bf16) (x3 : Vec F S1x1x4352x128 .bf16) (x4 : Vec F S128x4352 .bf16) (y : S8x256.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.2.1 S8x256.size (by sl_kernel_rfl) y

/-- What case A leaves in scratch `arg10`: its pieces read back over junk. -/
def sout0_A_1 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : cond0_0 i) (hc1 : ¬cond0_1 i)
    (x0 : Vec F S2 .i32) (x1 : Vec F S1 .f32) (x2 : Vec F S1x1x4352x128 .bf16) (x3 : Vec F S1x1x4352x128 .bf16) (x4 : Vec F S128x4352 .bf16) : Vec F S8x256 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3 x4).2.2.1)

/-- Case B's pieces for output 5 tile its block (17 stores of `S256x128`, checked by the kernel's evaluation: Lib/Ring.lean `Piece.tiledL`, linear in the pieces, through a loop's `@[irreducible]` trip theorem too), so they cover it. -/
theorem cover0_B_5 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : ¬cond0_0 i) (hc1 : ¬cond0_1 i)
    (x0 : Vec F S2 .i32) (x1 : Vec F S1 .f32) (x2 : Vec F S1x1x4352x128 .bf16) (x3 : Vec F S1x1x4352x128 .bf16) (x4 : Vec F S128x4352 .bf16) (xs1 : Vec F S8x256 .f32) (y : S4352x128.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs1).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs1).1 S256x128.size (by sl_kernel_rfl) y

/-- What case B leaves in output 5's staging buffer: its pieces read back over junk. -/
def out0_B_5 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : ¬cond0_0 i) (hc1 : ¬cond0_1 i)
    (x0 : Vec F S2 .i32) (x1 : Vec F S1 .f32) (x2 : Vec F S1x1x4352x128 .bf16) (x3 : Vec F S1x1x4352x128 .bf16) (x4 : Vec F S128x4352 .bf16) (xs1 : Vec F S8x256 .f32) : Vec F S4352x128 .fp8e4m3 :=
  VO0_5.read (Elt F) (VO0_5.writes (Elt F) VO0_5.junk (kernelRun0_B c i arg2 harg2 arg3 harg3 arg4 harg4 arg5 harg5 arg6 harg6 arg7 harg7 arg8 harg8 arg9 harg9 arg10 harg10 hc0 hc1 x0 x1 x2 x3 x4 xs1).1)

/-- Case B stores nothing into output 6 (the window is idle at its points and not written back there):
    no pieces — a placeholder (junk read back) that nothing consults, since at these points the window is neither
    written back nor read at the next point (Lib/Pipeline.lean "Idle points"). -/
def out0_B_6 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : ¬cond0_0 i) (hc1 : ¬cond0_1 i)
    (x0 : Vec F S2 .i32) (x1 : Vec F S1 .f32) (x2 : Vec F S1x1x4352x128 .bf16) (x3 : Vec F S1x1x4352x128 .bf16) (x4 : Vec F S128x4352 .bf16) (xs1 : Vec F S8x256 .f32) : Vec F S1x1 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 xs1).2.1)

/-- Case B's pieces for scratch `arg10`, which the kernel carries between points, cover it: 17 pieces of `S8x256` tiling it (Lib/Ring.lean `Piece.tiledL`). -/
theorem scover0_B_1 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : ¬cond0_0 i) (hc1 : ¬cond0_1 i)
    (x0 : Vec F S2 .i32) (x1 : Vec F S1 .f32) (x2 : Vec F S1x1x4352x128 .bf16) (x3 : Vec F S1x1x4352x128 .bf16) (x4 : Vec F S128x4352 .bf16) (xs1 : Vec F S8x256 .f32) (y : S8x256.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs1).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs1).2.2.1 S8x256.size (by sl_kernel_rfl) y

/-- What case B leaves in scratch `arg10`: its pieces read back over junk. -/
def sout0_B_1 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : ¬cond0_0 i) (hc1 : ¬cond0_1 i)
    (x0 : Vec F S2 .i32) (x1 : Vec F S1 .f32) (x2 : Vec F S1x1x4352x128 .bf16) (x3 : Vec F S1x1x4352x128 .bf16) (x4 : Vec F S128x4352 .bf16) (xs1 : Vec F S8x256 .f32) : Vec F S8x256 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 x3 x4 xs1).2.2.1)

/-- Case C's pieces for output 5 tile its block (17 stores of `S256x128`, checked by the kernel's evaluation: Lib/Ring.lean `Piece.tiledL`, linear in the pieces, through a loop's `@[irreducible]` trip theorem too), so they cover it. -/
theorem cover0_C_5 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : ¬cond0_0 i) (hc1 : cond0_1 i)
    (x0 : Vec F S2 .i32) (x1 : Vec F S1 .f32) (x2 : Vec F S1x1x4352x128 .bf16) (x3 : Vec F S1x1x4352x128 .bf16) (x4 : Vec F S128x4352 .bf16) (xs1 : Vec F S8x256 .f32) (y : S4352x128.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs1).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs1).1 S256x128.size (by sl_kernel_rfl) y

/-- What case C leaves in output 5's staging buffer: its pieces read back over junk. -/
def out0_C_5 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : ¬cond0_0 i) (hc1 : cond0_1 i)
    (x0 : Vec F S2 .i32) (x1 : Vec F S1 .f32) (x2 : Vec F S1x1x4352x128 .bf16) (x3 : Vec F S1x1x4352x128 .bf16) (x4 : Vec F S128x4352 .bf16) (xs1 : Vec F S8x256 .f32) : Vec F S4352x128 .fp8e4m3 :=
  VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 x3 x4 xs1).1)

/-- Case C's pieces for output 6 tile its block (1 store of `S1x1`, checked by the kernel's evaluation: Lib/Ring.lean `Piece.tiledL`, linear in the pieces, through a loop's `@[irreducible]` trip theorem too), so they cover it. -/
theorem cover0_C_6 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : ¬cond0_0 i) (hc1 : cond0_1 i)
    (x0 : Vec F S2 .i32) (x1 : Vec F S1 .f32) (x2 : Vec F S1x1x4352x128 .bf16) (x3 : Vec F S1x1x4352x128 .bf16) (x4 : Vec F S128x4352 .bf16) (xs1 : Vec F S8x256 .f32) (y : S1x1.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs1).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs1).2.1 S1x1.size (by sl_kernel_rfl) y

/-- What case C leaves in output 6's staging buffer: its pieces read back over junk. -/
def out0_C_6 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : ¬cond0_0 i) (hc1 : cond0_1 i)
    (x0 : Vec F S2 .i32) (x1 : Vec F S1 .f32) (x2 : Vec F S1x1x4352x128 .bf16) (x3 : Vec F S1x1x4352x128 .bf16) (x4 : Vec F S128x4352 .bf16) (xs1 : Vec F S8x256 .f32) : Vec F S1x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 xs1).2.1)

/-- Case C's pieces for scratch `arg10`, which the kernel carries between points, cover it: 17 pieces of `S8x256` tiling it (Lib/Ring.lean `Piece.tiledL`). -/
theorem scover0_C_1 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : ¬cond0_0 i) (hc1 : cond0_1 i)
    (x0 : Vec F S2 .i32) (x1 : Vec F S1 .f32) (x2 : Vec F S1x1x4352x128 .bf16) (x3 : Vec F S1x1x4352x128 .bf16) (x4 : Vec F S128x4352 .bf16) (xs1 : Vec F S8x256 .f32) (y : S8x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs1).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs1).2.2.1 S8x256.size (by sl_kernel_rfl) y

/-- What case C leaves in scratch `arg10`: its pieces read back over junk. -/
def sout0_C_1 (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole) (hc0 : ¬cond0_0 i) (hc1 : cond0_1 i)
    (x0 : Vec F S2 .i32) (x1 : Vec F S1 .f32) (x2 : Vec F S1x1x4352x128 .bf16) (x3 : Vec F S1x1x4352x128 .bf16) (x4 : Vec F S128x4352 .bf16) (xs1 : Vec F S8x256 .f32) : Vec F S8x256 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 x4 xs1).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S4352x128 .fp8e4m3 × Vec F S1x1 .f32 × Vec F S8x256 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 24 = 0 then
      if h1 : (n + 1) % 24 = 23 then
        False.elim (by have hN : n + 1 < 24 := lt_of_lt_of_eq hn (show cfg0.N = 24 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 24 = 23 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2)

/-- `outsAt0` at a point of case A: that case's contents. -/
theorem outsAt0_A (c : Dev nD) (t : Fin cfg0.N) (h0 : t.val % 24 = 0) (h1 : ¬t.val % 24 = 23) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 24 = 0) (h1 : ¬t.val % 24 = 23) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 24 = 0) (h1 : t.val % 24 = 23) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 24 := lt_of_lt_of_eq t.isLt (show cfg0.N = 24 from N_0)
  by_cases h0 : t.val % 24 = 0
  · by_cases h1 : t.val % 24 = 23
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_5 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS0]; · iexact HS0
        isplitl [HS1]; · iexact HS1
        iintro ⟨H0, H1, H2, H3, H4, ⟨%e5, H5⟩, H6, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_A_1 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _)
        iexists _; iexact H6
      · exfalso; have hN : t.val < 24 := lt_of_lt_of_eq t.isLt (show cfg0.N = 24 from N_0); omega
  · by_cases h1 : t.val % 24 = 23
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1)], after0_6]
      by_cases hz : t.val = 0
      · exfalso; have hN : t.val < 24 := lt_of_lt_of_eq t.isLt (show cfg0.N = 24 from N_0); omega
      · rw [PhiS_castSucc m c t, PhiS_pos m c _ _ hz]
        rw [outsAt0_C m c t h0 h1]
        unfold out0_C_5 out0_C_6 sout0_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        isplitl [HS1]; · iexact HS1
        iintro ⟨H0, H1, H2, H3, H4, ⟨%e5, H5⟩, ⟨%e6, H6⟩, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_C_1 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _ _ _)
        unfold owns; iexists _; isplitr
        swap; · iexact H6
        ipureintro; exact View.read_writes_of_cover _ _ _ _ _ (cover0_C_6 c _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      by_cases hz : t.val = 0
      · exfalso; have hN : t.val < 24 := lt_of_lt_of_eq t.isLt (show cfg0.N = 24 from N_0); omega
      · rw [PhiS_castSucc m c t, PhiS_pos m c _ _ hz]
        rw [outsAt0_B m c t h0 h1]
        unfold out0_B_5 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _).2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS0]; · iexact HS0
        isplitl [HS1]; · iexact HS1
        iintro ⟨H0, H1, H2, H3, H4, ⟨%e5, H5⟩, H6, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_B_1 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _ _ _ _ _)
        iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 24 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_AttIdeal`'s statement (Defs.lean) at any `F` — Proof.lean cites it at `Bits`:
    `theorem Cert.Proof.claim : Cert.Claim := ⟨Cert.AttIdeal.Gen.facts, fun m ρ _ => Cert.AttIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.AttIdeal.Gen

end
-- ==== Proof.LnRefValue.lean ====
/- What the reference of the layer-norm step computes: its one block is the whole array, so the result is the body's
   payload over the argument arrays. -/
module

public import proofs.«01_k».proof.Proof.Gen.LnRefIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.LnRefIdeal.Closed

open Cert.LnRefIdeal Cert.LnRefIdeal.Gen

variable (m : (ℓ : Loc nD τ sig) → Buf (Elt Ideal) ℓ)

/-- The one point's block indices. -/
theorem idx : ∀ t : Fin cfg0.N, win0_0.index t = ![0, 0] ∧ win0_1.index t = ![0, 0] ∧ win0_2.index t = ![0, 0]
    ∧ win0_3.index t = ![0] ∧ win0_4.index t = ![0, 0] :=
  (by decide +kernel : ∀ t : Fin grid0.N, _)

/-- The reference's codes are its payload over the argument arrays. -/
theorem final (c : Dev nD) : (dats m 0 c).arrAt 4 cfg0.N
    = k0_pay1 (m ((c : Thread nD τ).loc main_arg0)) (m ((c : Thread nD τ).loc main_arg2))
        (m ((c : Thread nD τ).loc main_arg1)) ((m ((c : Thread nD τ).loc main_arg3) : FVec Ideal S1 .f32) (ix1 0)) := by
  refine (dats m 0 c).arrAt_eq_of_covers 4 _ (by decide +kernel) fun t _ y => ?_
  blk_simp
  rw [after0_4]; unfold outsAt0; frame_out
  simp only [read_unread_whole]
  blk_point [iblk, V, idx t]

end Cert.LnRefIdeal.Closed

end
-- ==== Proof.LnValue.lean ====
/- The layer-norm step: each block of 256 rows is the reference's rows, so the codes the kernel leaves are the
   reference's. -/
module

public import proofs.«01_k».proof.Proof.Gen.LnIdeal.Value
public import proofs.«01_k».proof.Proof.LnRefValue
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LnIdeal.Closed

open Cert.LnIdeal Cert.LnIdeal.Gen

variable (m : (ℓ : Loc nD τ sig) → Buf (Elt Ideal) ℓ)

set_option maxHeartbeats 2000000 in
/-- One code of a block of 256 rows is the reference's code of the same row, when the block's rows, its scale and its
    shift are the reference's. -/
theorem core (x : FVec Ideal S256x3072 .bf16) (sc sh : FVec Ideal S1x1x3072 .f32) (q q' : Ideal .f32)
    (X : FVec Ideal S8704x3072 .bf16) (SC SH : FVec Ideal LnRefIdeal.S2x3072 .f32)
    (r : Fin 256) (r' : Fin 8704) (k : Fin 3072)
    (hq : q = q') (hx : ∀ k, x (ix2 r k) = X (ix2 r' k))
    (hc : sc (ix3 0 0 k) = SC (ix2 ⟨r'.val / 4352, by omega⟩ k)) (hh : sh (ix3 0 0 k) = SH (ix2 ⟨r'.val / 4352, by omega⟩ k)) :
    k0_pay1 (F := Ideal) x sc sh q (ix2 r k) = LnRefIdeal.Gen.k0_pay1 (F := Ideal) X SC SH q' (ix2 r' k) := by
  subst hq
  pointwise [k0_pay1, LnRefIdeal.Gen.k0_pay1]
  simp only [hx, hc, hh]

/-- Where each window's block lies at grid point `t`: 256 rows of tokens, and the modulation of their sequence. -/
theorem idx : ∀ t : Fin cfg0.N, win0_0.index t = ![0] ∧ win0_1.index t = ![t.val, 0]
    ∧ win0_2.index t = ![t.val / 17, 0, 0] ∧ win0_3.index t = ![t.val / 17, 0, 0] ∧ win0_4.index t = ![t.val, 0] :=
  (by decide +kernel : ∀ t : Fin grid0.N, _)

/-- The kernel's codes after the run are the reference's payload over the same arguments. -/
theorem final (c : Dev nD) : (dats m 0 c).arrAt 4 cfg0.N
    = LnRefIdeal.Gen.k0_pay1 (m ((c : Thread nD τ).loc main_arg0)) (m ((c : Thread nD τ).loc main_arg2))
        (m ((c : Thread nD τ).loc main_arg1)) ((m ((c : Thread nD τ).loc main_arg3) : FVec Ideal S1 .f32) (ix1 0)) := by
  refine (dats m 0 c).arrAt_eq_of_covers 4 _ (by decide +kernel) fun t _ y => ?_
  blk_simp
  rw [after0_4]; unfold outsAt0; frame_out
  idx_vars y
  have hlt : t.val < 34 := t.isLt
  have he : ((cfg0.win 4).blk t).view.emb (ix2 y0 y1) = (ix2 ⟨t.val * 256 + y0.val, by omega⟩ y1 : S8704x3072.Idx) := by
    blk_ext [idx t]
  rw [he]
  refine core _ _ _ _ _ (m ((c : Thread nD τ).loc main_arg0)) (m ((c : Thread nD τ).loc main_arg2))
    (m ((c : Thread nD τ).loc main_arg1)) y0 _ y1 ?_ (fun k => ?_) ?_ ?_
  all_goals blk_ext! [iblk, V, idx t]

end Cert.LnIdeal.Closed

end
-- ==== Proof.LnEq.lean ====
/- The layer-norm call's claims: nothing is rewritten, and the ideal kernel's codes are the reference's. -/
module

public import proofs.«01_k».proof.Defs
public import proofs.«01_k».proof.Proof.LnValue

@[expose] public section

noncomputable section

open Idealize.ShloMosaic Idealize.ShloMosaic.TcCoe Idealize.SL.Sem

namespace Cert.LnIdeal.Closed

/-- Nothing is replaced in this call's ideal program. -/
theorem preserves : Cert.preserves_Ln_LnIdeal := trivial

/-- From agreeing arguments the ideal kernel and the ideal reference both run, and end with the same result. -/
theorem algebraic : Cert.algebraic_LnIdeal_LnRefIdeal (hLnIdeal := Cert.LnIdeal.Gen.facts)
    (hLnRefIdeal := Cert.LnRefIdeal.Gen.facts) := by
  pair_intro
  · run_from Cert.LnIdeal.Gen.run_main m g
  · run_from Cert.LnRefIdeal.Gen.run_main m' g'
    obtain ⟨h0, h1, h2, h3⟩ := hagree c
    refine (LnRefIdeal.Closed.final m' c).trans (Eq.trans ?_ (final m c).symm)
    rw [h0, h1, h2, h3]

end Cert.LnIdeal.Closed

end
-- ==== Proof.Consts.lean ====
/- The printed float constants, as real numbers. -/
module

public import Idealize.ShloMosaic.Lib.Pointwise
public import Idealize.ShloMosaic.Lib.IdealHost

@[expose] public section

open Idealize.ShloMosaic

namespace Consts

/-- `sqrt(2 / π)`, rounded to f32. -/
theorem gelu_c : Ideal.ofBits .f32 0x3F4C422A#32 = ((6693141 / 8388608 : ℝ) : EReal) := by
  simp [Ideal.ofBits, Ideal.ieee, -EReal.coe_mul]; norm_num

/-- `0.044715`, rounded to f32. -/
theorem gelu_k : Ideal.ofBits .f32 0x3D372713#32 = ((12003091 / 268435456 : ℝ) : EReal) := by
  simp [Ideal.ofBits, Ideal.ieee, -EReal.coe_mul]; norm_num

theorem half : Ideal.ofBits .f32 0x3F000000#32 = ((1 / 2 : ℝ) : EReal) := by
  simp [Ideal.ofBits, Ideal.ieee, -EReal.coe_mul]; norm_num

theorem neg_inf : Ideal.ofBits .f32 0xFF800000#32 = ⊥ := by
  simp [Ideal.ofBits, Ideal.ieee]

theorem zero : Ideal.ofBits .f32 0x00000000#32 = 0 := by
  simp [Ideal.ofBits, Ideal.ieee]

/-- The size of a head. -/
theorem rms_n : Ideal.ofBits .f32 0x43000000#32 = ((128 : ℝ) : EReal) := by
  simp [Ideal.ofBits, Ideal.ieee, -EReal.coe_mul]; norm_num

/-- `1e-6`, rounded to f32. -/
theorem rms_eps : Ideal.ofBits .f32 0x358637BD#32 = ((8796093 / 8796093022208 : ℝ) : EReal) := by
  simp [Ideal.ofBits, Ideal.ieee, -EReal.coe_mul]; norm_num

/-- One over the square root of the size of a head, rounded to f32. -/
theorem head_scale : Ideal.ofBits .f32 0x3DB504F3#32 = ((11863283 / 134217728 : ℝ) : EReal) := by
  simp [Ideal.ofBits, Ideal.ieee, -EReal.coe_mul]; norm_num

/-- The binary logarithm of e, rounded to f32. -/
theorem log2e : Ideal.ofBits .f32 0x3FB8AA3B#32 = ((12102203 / 8388608 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

end Consts
-- ==== Proof.QkvRefValue.lean ====
/- What the reference of the q, k and v projection computes, entry by entry. -/
module

public import proofs.«01_k».proof.Proof.Gen.QkvRefIdeal.Read
public import proofs.«01_k».proof.Proof.Consts
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkvRefIdeal.Closed

open Cert.QkvRefIdeal Cert.QkvRefIdeal.Gen Cert.QkvRefIdeal.Read

/-- The mean square of a head, with the epsilon. -/
def ms (t : Fin 128 → EReal) : EReal :=
  Ideal.div (∑ e : Fin 128, t e * t e) (Ideal.ofBits .f32 0x43000000#32) + Ideal.ofBits .f32 0x358637BD#32

/-- One entry of a head over its root mean square, times the weight. -/
def nrm (t w : Fin 128 → EReal) (d : Fin 128) : EReal := Ideal.div (t d) (Ideal.sqrt (ms t)) * w d

/-- One entry of the rotated head: the pair of entries 2p and 2p+1 turned by the angle of p. -/
def rot (t w : Fin 128 → EReal) (c s : Fin 64 → EReal) (d : Fin 128) : EReal :=
  if d.val % 2 = 0 then
    c ⟨d.val / 2, by omega⟩ * nrm t w d - s ⟨d.val / 2, by omega⟩ * nrm t w ⟨d.val / 2 * 2 + 1, by omega⟩
  else
    s ⟨d.val / 2, by omega⟩ * nrm t w ⟨d.val / 2 * 2, by omega⟩ + c ⟨d.val / 2, by omega⟩ * nrm t w d

/-- One entry of the dequantised projection. -/
def hAt (x : FVec Ideal S8704x3072 .fp8e4m3) (w : FVec Ideal S3072x10752 .fp8e4m3) (ws b : FVec Ideal S1x10752 .f32)
    (s : FVec Ideal S1 .f32) (r : Fin 8704) (k : Fin 10752) : EReal :=
  (∑ l : Fin 3072, x (ix2 r l) * w (ix2 l k)) * s (ix1 0) * ws (ix2 0 k) + b (ix2 0 k)

/-- One entry of the rotated head `h` of sequence `n` at token `i`, the heads starting at column `o` of the projection. -/
def headAt (x : FVec Ideal S8704x3072 .fp8e4m3) (w : FVec Ideal S3072x10752 .fp8e4m3) (ws b : FVec Ideal S1x10752 .f32)
    (s : FVec Ideal S1 .f32) (g : FVec Ideal S1x128 .f32) (cs sn : FVec Ideal S8704x64 .f32) (o : Fin 3072)
    (n : Fin 2) (h : Fin 12) (i : Fin 4352) (d : Fin 128) : EReal :=
  rot (fun e => hAt x w ws b s ⟨n.val * 4352 + i.val, by omega⟩ ⟨o.val + (h.val * 128 + e.val), by omega⟩) (fun e => g (ix2 0 e))
    (fun p => cs (ix2 ⟨n.val * 4352 + i.val, by omega⟩ p)) (fun p => sn (ix2 ⟨n.val * 4352 + i.val, by omega⟩ p)) d

section Ops

variable (x4 x5 : FVec Ideal S1x128 .f32) (x6 x7 : FVec Ideal S8704x64 .f32) (r0 : FVec Ideal S8704x10752 .f32)

theorem v2_at (b : Fin 2) (i : Fin 4352) (h : Fin 12) (d : Fin 128) : val_main_v2 (F := Ideal) r0 (ix4 b i h d)
    = r0 (ix2 ⟨b.val * 4352 + i.val, by omega⟩ ⟨h.val * 128 + d.val, by omega⟩) := by
  pointwise [val_main_v2, val_main_v1]

theorem v22_at (b : Fin 2) (i : Fin 4352) (h : Fin 12) (d : Fin 128) : val_main_v22 (F := Ideal) x4 r0 (ix4 b i h d)
    = nrm (fun e => r0 (ix2 ⟨b.val * 4352 + i.val, by omega⟩ ⟨h.val * 128 + e.val, by omega⟩)) (fun e => x4 (ix2 0 e)) d := by
  unfold nrm ms
  pointwise [val_main_v22, val_main_v21, val_main_v20, val_main_v19, val_main_v18, val_main_v17, val_main_v16, val_main_v15, val_main_cst_1, val_main_v14, val_main_v13, val_main_cst_0, val_main_v12, val_main_v11, val_main_cst, val_main_v10, val_main_v9, v2_at]

theorem v25_at (b : Fin 2) (i : Fin 4352) (h : Fin 12) (p : Fin 64) : val_main_v25 (F := Ideal) x4 r0 (ix4 b i h p)
    = val_main_v22 (F := Ideal) x4 r0 (ix4 b i h ⟨p.val * 2, by omega⟩) := by
  pointwise [val_main_v25, val_main_v24, val_main_v23]

theorem v27_at (b : Fin 2) (i : Fin 4352) (h : Fin 12) (p : Fin 64) : val_main_v27 (F := Ideal) x4 r0 (ix4 b i h p)
    = val_main_v22 (F := Ideal) x4 r0 (ix4 b i h ⟨p.val * 2 + 1, by omega⟩) := by
  pointwise [val_main_v27, val_main_v26, val_main_v23]

theorem v34_at (b : Fin 2) (i : Fin 4352) (h : Fin 12) (p : Fin 64) : val_main_v34 (F := Ideal) x4 x6 x7 r0 (ix4 b i h p)
    = x6 (ix2 ⟨b.val * 4352 + i.val, by omega⟩ p) * val_main_v25 (F := Ideal) x4 r0 (ix4 b i h p)
      - x7 (ix2 ⟨b.val * 4352 + i.val, by omega⟩ p) * val_main_v27 (F := Ideal) x4 r0 (ix4 b i h p) := by
  pointwise [val_main_v34, val_main_v31, val_main_v33, val_main_v30, val_main_v32, val_main_v28, val_main_v29, val_main_v7, val_main_v8]

theorem v39_at (b : Fin 2) (i : Fin 4352) (h : Fin 12) (p : Fin 64) : val_main_v39 (F := Ideal) x4 x6 x7 r0 (ix4 b i h p)
    = x7 (ix2 ⟨b.val * 4352 + i.val, by omega⟩ p) * val_main_v25 (F := Ideal) x4 r0 (ix4 b i h p)
      + x6 (ix2 ⟨b.val * 4352 + i.val, by omega⟩ p) * val_main_v27 (F := Ideal) x4 r0 (ix4 b i h p) := by
  pointwise [val_main_v39, val_main_v36, val_main_v38, val_main_v35, val_main_v37, val_main_v28, val_main_v29, val_main_v7, val_main_v8]

theorem v42_even (b : Fin 2) (i : Fin 4352) (h : Fin 12) (p : Fin 64) : val_main_v42 (F := Ideal) x4 x6 x7 r0 (ix5 b i h p 0)
    = val_main_v34 (F := Ideal) x4 x6 x7 r0 (ix4 b i h p) := by
  pointwise [val_main_v42, val_main_v40]

theorem v42_odd (b : Fin 2) (i : Fin 4352) (h : Fin 12) (p : Fin 64) : val_main_v42 (F := Ideal) x4 x6 x7 r0 (ix5 b i h p 1)
    = val_main_v39 (F := Ideal) x4 x6 x7 r0 (ix4 b i h p) := by
  pointwise [val_main_v42, val_main_v41]

theorem v81_at (b : Fin 2) (h : Fin 12) (i : Fin 4352) (d : Fin 128) : val_main_v81 (F := Ideal) x4 x6 x7 r0 (ix4 b h i d)
    = val_main_v42 (F := Ideal) x4 x6 x7 r0 (ix5 b i h ⟨d.val / 2, by omega⟩ ⟨d.val % 2, by omega⟩) := by
  rw [val_main_v81_apply, val_main_v44_apply, val_main_v43_apply]
  generalize val_main_v42 (F := Ideal) x4 x6 x7 r0 = z
  have e : idx_main_v43 (idx_main_v81 (ix4 b h i d)) = (ix5 b i h ⟨d.val / 2, by omega⟩ ⟨d.val % 2, by omega⟩ : S2x4352x12x64x2.Idx) := by
    funext a
    match a with
    | ⟨0, _⟩ => exact Fin.ext (by show (((b.val * 4352 + i.val) * 12 + h.val) * 128 + d.val) / 6684672 = b.val; omega)
    | ⟨1, _⟩ => exact Fin.ext (by show (((b.val * 4352 + i.val) * 12 + h.val) * 128 + d.val) / 1536 % 4352 = i.val; omega)
    | ⟨2, _⟩ => exact Fin.ext (by show (((b.val * 4352 + i.val) * 12 + h.val) * 128 + d.val) / 128 % 12 = h.val; omega)
    | ⟨3, _⟩ => exact Fin.ext (by show (((b.val * 4352 + i.val) * 12 + h.val) * 128 + d.val) / 2 % 64 = d.val / 2; omega)
    | ⟨4, _⟩ => exact Fin.ext (by show (((b.val * 4352 + i.val) * 12 + h.val) * 128 + d.val) % 2 = d.val % 2; omega)
  exact congrArg z e

/-- The reference's rotated heads of queries, entry by entry. -/
theorem v81_rot (b : Fin 2) (h : Fin 12) (i : Fin 4352) (d : Fin 128) : val_main_v81 (F := Ideal) x4 x6 x7 r0 (ix4 b h i d)
    = rot (fun e => r0 (ix2 ⟨b.val * 4352 + i.val, by omega⟩ ⟨h.val * 128 + e.val, by omega⟩)) (fun e => x4 (ix2 0 e))
        (fun p => x6 (ix2 ⟨b.val * 4352 + i.val, by omega⟩ p)) (fun p => x7 (ix2 ⟨b.val * 4352 + i.val, by omega⟩ p)) d := by
  rw [v81_at]
  unfold rot
  split
  · rename_i hd
    have e : (⟨d.val % 2, by omega⟩ : Fin 2) = 0 := Fin.ext hd
    rw [e, v42_even, v34_at, v25_at, v27_at, v22_at, v22_at]
    have e' : (⟨d.val / 2 * 2, by omega⟩ : Fin 128) = d := Fin.ext (by dsimp only; omega)
    rw [e']
  · rename_i hd
    have e : (⟨d.val % 2, by omega⟩ : Fin 2) = 1 := Fin.ext (by dsimp only; omega)
    rw [e, v42_odd, v39_at, v25_at, v27_at, v22_at, v22_at]
    have e' : (⟨d.val / 2 * 2 + 1, by omega⟩ : Fin 128) = d := Fin.ext (by dsimp only; omega)
    rw [e']

theorem v4_at (b : Fin 2) (i : Fin 4352) (h : Fin 12) (d : Fin 128) : val_main_v4 (F := Ideal) r0 (ix4 b i h d)
    = r0 (ix2 ⟨b.val * 4352 + i.val, by omega⟩ ⟨1536 + (h.val * 128 + d.val), by omega⟩) := by
  pointwise [val_main_v4, val_main_v3]

theorem v58_at (b : Fin 2) (i : Fin 4352) (h : Fin 12) (d : Fin 128) : val_main_v58 (F := Ideal) x5 r0 (ix4 b i h d)
    = nrm (fun e => r0 (ix2 ⟨b.val * 4352 + i.val, by omega⟩ ⟨1536 + (h.val * 128 + e.val), by omega⟩)) (fun e => x5 (ix2 0 e)) d := by
  unfold nrm ms
  pointwise [val_main_v58, val_main_v57, val_main_v56, val_main_v55, val_main_v54, val_main_v53, val_main_v52, val_main_v51, val_main_cst_4, val_main_v50, val_main_v49, val_main_cst_3, val_main_v48, val_main_v47, val_main_cst_2, val_main_v46, val_main_v45, v4_at]

theorem v61_at (b : Fin 2) (i : Fin 4352) (h : Fin 12) (p : Fin 64) : val_main_v61 (F := Ideal) x5 r0 (ix4 b i h p)
    = val_main_v58 (F := Ideal) x5 r0 (ix4 b i h ⟨p.val * 2, by omega⟩) := by
  pointwise [val_main_v61, val_main_v60, val_main_v59]

theorem v63_at (b : Fin 2) (i : Fin 4352) (h : Fin 12) (p : Fin 64) : val_main_v63 (F := Ideal) x5 r0 (ix4 b i h p)
    = val_main_v58 (F := Ideal) x5 r0 (ix4 b i h ⟨p.val * 2 + 1, by omega⟩) := by
  pointwise [val_main_v63, val_main_v62, val_main_v59]

theorem v70_at (b : Fin 2) (i : Fin 4352) (h : Fin 12) (p : Fin 64) : val_main_v70 (F := Ideal) x5 x6 x7 r0 (ix4 b i h p)
    = x6 (ix2 ⟨b.val * 4352 + i.val, by omega⟩ p) * val_main_v61 (F := Ideal) x5 r0 (ix4 b i h p)
      - x7 (ix2 ⟨b.val * 4352 + i.val, by omega⟩ p) * val_main_v63 (F := Ideal) x5 r0 (ix4 b i h p) := by
  pointwise [val_main_v70, val_main_v67, val_main_v69, val_main_v66, val_main_v68, val_main_v64, val_main_v65, val_main_v7, val_main_v8]

theorem v75_at (b : Fin 2) (i : Fin 4352) (h : Fin 12) (p : Fin 64) : val_main_v75 (F := Ideal) x5 x6 x7 r0 (ix4 b i h p)
    = x7 (ix2 ⟨b.val * 4352 + i.val, by omega⟩ p) * val_main_v61 (F := Ideal) x5 r0 (ix4 b i h p)
      + x6 (ix2 ⟨b.val * 4352 + i.val, by omega⟩ p) * val_main_v63 (F := Ideal) x5 r0 (ix4 b i h p) := by
  pointwise [val_main_v75, val_main_v72, val_main_v74, val_main_v71, val_main_v73, val_main_v64, val_main_v65, val_main_v7, val_main_v8]

theorem v78_even (b : Fin 2) (i : Fin 4352) (h : Fin 12) (p : Fin 64) : val_main_v78 (F := Ideal) x5 x6 x7 r0 (ix5 b i h p 0)
    = val_main_v70 (F := Ideal) x5 x6 x7 r0 (ix4 b i h p) := by
  pointwise [val_main_v78, val_main_v76]

theorem v78_odd (b : Fin 2) (i : Fin 4352) (h : Fin 12) (p : Fin 64) : val_main_v78 (F := Ideal) x5 x6 x7 r0 (ix5 b i h p 1)
    = val_main_v75 (F := Ideal) x5 x6 x7 r0 (ix4 b i h p) := by
  pointwise [val_main_v78, val_main_v77]

theorem v82_at (b : Fin 2) (h : Fin 12) (i : Fin 4352) (d : Fin 128) : val_main_v82 (F := Ideal) x5 x6 x7 r0 (ix4 b h i d)
    = val_main_v78 (F := Ideal) x5 x6 x7 r0 (ix5 b i h ⟨d.val / 2, by omega⟩ ⟨d.val % 2, by omega⟩) := by
  rw [val_main_v82_apply, val_main_v80_apply, val_main_v79_apply]
  generalize val_main_v78 (F := Ideal) x5 x6 x7 r0 = z
  have e : idx_main_v79 (idx_main_v82 (ix4 b h i d)) = (ix5 b i h ⟨d.val / 2, by omega⟩ ⟨d.val % 2, by omega⟩ : S2x4352x12x64x2.Idx) := by
    funext a
    match a with
    | ⟨0, _⟩ => exact Fin.ext (by show (((b.val * 4352 + i.val) * 12 + h.val) * 128 + d.val) / 6684672 = b.val; omega)
    | ⟨1, _⟩ => exact Fin.ext (by show (((b.val * 4352 + i.val) * 12 + h.val) * 128 + d.val) / 1536 % 4352 = i.val; omega)
    | ⟨2, _⟩ => exact Fin.ext (by show (((b.val * 4352 + i.val) * 12 + h.val) * 128 + d.val) / 128 % 12 = h.val; omega)
    | ⟨3, _⟩ => exact Fin.ext (by show (((b.val * 4352 + i.val) * 12 + h.val) * 128 + d.val) / 2 % 64 = d.val / 2; omega)
    | ⟨4, _⟩ => exact Fin.ext (by show (((b.val * 4352 + i.val) * 12 + h.val) * 128 + d.val) % 2 = d.val % 2; omega)
  exact congrArg z e

/-- The reference's rotated heads of keys, entry by entry. -/
theorem v82_rot (b : Fin 2) (h : Fin 12) (i : Fin 4352) (d : Fin 128) : val_main_v82 (F := Ideal) x5 x6 x7 r0 (ix4 b h i d)
    = rot (fun e => r0 (ix2 ⟨b.val * 4352 + i.val, by omega⟩ ⟨1536 + (h.val * 128 + e.val), by omega⟩)) (fun e => x5 (ix2 0 e))
        (fun p => x6 (ix2 ⟨b.val * 4352 + i.val, by omega⟩ p)) (fun p => x7 (ix2 ⟨b.val * 4352 + i.val, by omega⟩ p)) d := by
  rw [v82_at]
  unfold rot
  split
  · rename_i hd
    have e : (⟨d.val % 2, by omega⟩ : Fin 2) = 0 := Fin.ext hd
    rw [e, v78_even, v70_at, v61_at, v63_at, v58_at, v58_at]
    have e' : (⟨d.val / 2 * 2, by omega⟩ : Fin 128) = d := Fin.ext (by dsimp only; omega)
    rw [e']
  · rename_i hd
    have e : (⟨d.val % 2, by omega⟩ : Fin 2) = 1 := Fin.ext (by dsimp only; omega)
    rw [e, v78_odd, v75_at, v61_at, v63_at, v58_at, v58_at]
    have e' : (⟨d.val / 2 * 2 + 1, by omega⟩ : Fin 128) = d := Fin.ext (by dsimp only; omega)
    rw [e']

theorem v83_at (j : Fin 1536) (r : Fin 8704) : val_main_v83 (F := Ideal) r0 (ix2 j r)
    = r0 (ix2 r ⟨3072 + j.val, by omega⟩) := by
  pointwise [val_main_v83, val_main_v6, val_main_v5]

end Ops
variable (m : (ℓ : Loc nD τ sig) → Buf (Elt Ideal) ℓ)

/-- One grid point: every window is the whole array. -/
theorem idx : ∀ t : Fin cfg0.N, win0_0.index t = ![0, 0] ∧ win0_1.index t = ![0, 0] ∧ win0_2.index t = ![0, 0]
    ∧ win0_3.index t = ![0, 0] ∧ win0_4.index t = ![0] ∧ win0_5.index t = ![0, 0] :=
  (by decide +kernel : ∀ t : Fin grid0.N, _)

/-- The projection after the reference's region. -/
theorem reg_eq (c : Dev nD) : Value.reg_main_v0 m c
    = fun y : S8704x10752.Idx => hAt (m ((c : Thread nD τ).loc main_arg0)) (m ((c : Thread nD τ).loc main_arg1))
        (m ((c : Thread nD τ).loc main_arg2)) (m ((c : Thread nD τ).loc main_arg3)) (m ((c : Thread nD τ).loc main_arg8))
        (y 0) (y 1) := by
  unfold Value.reg_main_v0
  refine (dats m 0 c).arrAt_eq_of_covers 5 _ (by decide +kernel) fun t _ y => ?_
  blk_simp
  rw [after0_5]; unfold outsAt0; frame_out
  idx_vars y
  have he : ((cfg0.win 5).blk t).view.emb (ix2 y0 y1) = (ix2 y0 y1 : S8704x10752.Idx) := by blk_ext [idx t]
  rw [he]
  unfold hAt
  simp only [read_unread_whole]
  pointwise [k0_pay1]
  blk_point [iblk, V, idx t]

/-- The reference's queries. -/
theorem finalQ (c : Dev nD) : val_main_v81 (F := Ideal) (m ((c : Thread nD τ).loc main_arg4)) (m ((c : Thread nD τ).loc main_arg6))
      (m ((c : Thread nD τ).loc main_arg7)) (Value.reg_main_v0 m c)
    = fun y : S2x12x4352x128.Idx => headAt (m ((c : Thread nD τ).loc main_arg0)) (m ((c : Thread nD τ).loc main_arg1))
        (m ((c : Thread nD τ).loc main_arg2)) (m ((c : Thread nD τ).loc main_arg3)) (m ((c : Thread nD τ).loc main_arg8))
        (m ((c : Thread nD τ).loc main_arg4)) (m ((c : Thread nD τ).loc main_arg6)) (m ((c : Thread nD τ).loc main_arg7)) 0
        (y 0) (y 1) (y 2) (y 3) := by
  funext y
  idx_vars y
  rw [v81_rot, reg_eq]
  unfold headAt
  have e : ∀ e : Fin 128, (⟨(0 : Fin 3072).val + (y1.val * 128 + e.val), by show 0 + _ < _; omega⟩ : Fin 10752) = ⟨y1.val * 128 + e.val, by omega⟩ :=
    fun e => Fin.ext (Nat.zero_add _)
  simp only [e]
  rfl

/-- The reference's keys. -/
theorem finalK (c : Dev nD) : val_main_v82 (F := Ideal) (m ((c : Thread nD τ).loc main_arg5)) (m ((c : Thread nD τ).loc main_arg6))
      (m ((c : Thread nD τ).loc main_arg7)) (Value.reg_main_v0 m c)
    = fun y : S2x12x4352x128.Idx => headAt (m ((c : Thread nD τ).loc main_arg0)) (m ((c : Thread nD τ).loc main_arg1))
        (m ((c : Thread nD τ).loc main_arg2)) (m ((c : Thread nD τ).loc main_arg3)) (m ((c : Thread nD τ).loc main_arg8))
        (m ((c : Thread nD τ).loc main_arg5)) (m ((c : Thread nD τ).loc main_arg6)) (m ((c : Thread nD τ).loc main_arg7)) 1536
        (y 0) (y 1) (y 2) (y 3) := by
  funext y
  idx_vars y
  rw [v82_rot, reg_eq]
  rfl

/-- The reference's values, transposed. -/
theorem finalV (c : Dev nD) : val_main_v83 (F := Ideal) (Value.reg_main_v0 m c)
    = fun y : S1536x8704.Idx => hAt (m ((c : Thread nD τ).loc main_arg0)) (m ((c : Thread nD τ).loc main_arg1))
        (m ((c : Thread nD τ).loc main_arg2)) (m ((c : Thread nD τ).loc main_arg3)) (m ((c : Thread nD τ).loc main_arg8))
        (y 1) ⟨3072 + (y 0).val, by have h : (y 0).val < 1536 := (y 0).isLt; omega⟩ := by
  funext y
  idx_vars y
  rw [v83_at, reg_eq]
  rfl

end Cert.QkvRefIdeal.Closed

end
-- ==== Proof.QkvHead.lean ====
/- The q, k and v projection: the head a tile computes is the reference's rotated head. -/
module

public import proofs.«01_k».proof.Proof.Gen.QkvIdeal.Value
public import proofs.«01_k».proof.Proof.QkvRefValue
public import proofs.«01_k».proof.Proof.Consts
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.QkvRefIdeal.Closed (ms nrm rot hAt headAt)

namespace Cert.QkvIdeal.Closed

open Cert.QkvIdeal Cert.QkvIdeal.Gen

/-! ## The rotation over the reals and the infinities -/

/-- The other lane of the pair that lane `d` lies in. -/
def sw (d : Fin 128) : Fin 128 := ⟨if d.val % 2 = 0 then d.val + 1 else d.val - 1, by split <;> omega⟩

/-- The reciprocal root of a head's mean square is a real number that is not negative, and to divide by the root is to
    multiply by it. -/
theorem rs (t : Fin 128 → EReal) : ∃ r : ℝ, 0 ≤ r ∧ Ideal.rsqrt (ms t) = (r : EReal)
    ∧ ∀ x : EReal, Ideal.div x (Ideal.sqrt (ms t)) = x * (r : EReal) := by
  have hS : 0 ≤ ∑ e : Fin 128, t e * t e := Finset.sum_nonneg fun e _ => by
    rcases le_total 0 (t e) with h | h
    · exact EReal.mul_nonneg h h
    · have := EReal.mul_nonneg (EReal.neg_nonneg.2 h) (EReal.neg_nonneg.2 h)
      rwa [neg_mul_neg] at this
  have hm : ms t = ⊤ ∨ ∃ m : ℝ, 0 < m ∧ ms t = (m : EReal) := by
    unfold ms
    rw [Consts.rms_n, Consts.rms_eps]
    unfold Ideal.div
    rw [if_neg (by norm_num), ← EReal.coe_inv]
    revert hS
    generalize ∑ e : Fin 128, t e * t e = S
    intro hS
    induction S with
    | bot => exact absurd hS (by simp)
    | top => left; rw [EReal.top_mul_coe_of_pos (by norm_num), EReal.top_add_coe]
    | coe s =>
      right
      have hs : 0 ≤ s := by exact_mod_cast hS
      exact ⟨s * (128 : ℝ)⁻¹ + 8796093 / 8796093022208, by positivity, by norm_cast⟩
  rcases hm with h | ⟨m, h0, h⟩
  · refine ⟨0, le_refl _, ?_, fun x => ?_⟩
    · rw [h]; rfl
    · rw [h]
      have : Ideal.sqrt ⊤ = ⊤ := rfl
      rw [this]
      unfold Ideal.div
      rw [if_neg (by simp), EReal.inv_top]; rfl
  · have hq : Real.sqrt m ≠ 0 := (Real.sqrt_pos.2 h0).ne'
    refine ⟨(Real.sqrt m)⁻¹, inv_nonneg.2 (Real.sqrt_nonneg _), ?_, fun x => ?_⟩
    · rw [h]
      show (if m < 0 then ⊥ else if m = 0 then ⊤ else (((Real.sqrt m)⁻¹ : ℝ) : EReal)) = _
      rw [if_neg (not_lt.2 h0.le), if_neg h0.ne']
    · rw [h]
      have : Ideal.sqrt (m : EReal) = ((Real.sqrt m : ℝ) : EReal) := by
        show (if m < 0 then ⊥ else (Real.sqrt m : EReal)) = _
        rw [if_neg (not_lt.2 h0.le)]
      rw [this]
      unfold Ideal.div
      rw [if_neg (by exact_mod_cast hq), EReal.coe_inv]

/-- The kernel's form of a rotated entry: products first, the reciprocal root last. -/
theorem rot_eq (t w : Fin 128 → EReal) (c s : Fin 64 → EReal) (d : Fin 128) :
    (t d * (w d * c ⟨d.val / 2, by omega⟩)
      + t (sw d) * (w (sw d) * (if d.val % 2 = 0 then 0 - s ⟨d.val / 2, by omega⟩ else s ⟨d.val / 2, by omega⟩)))
      * Ideal.rsqrt (ms t) = rot t w c s d := by
  obtain ⟨r, h0, hr, hd⟩ := rs t
  unfold rot nrm
  rw [hr]
  simp only [hd]
  rw [EReal.right_distrib_of_nonneg_of_ne_top (by exact_mod_cast h0) (EReal.coe_ne_top r)]
  by_cases h : d.val % 2 = 0
  · have e : sw d = ⟨d.val / 2 * 2 + 1, by omega⟩ := Fin.ext (by unfold sw; dsimp only; rw [if_pos h]; omega)
    rw [if_pos h, if_pos h, e, zero_sub, sub_eq_add_neg]
    congr 1
    · ac_rfl
    · rw [← neg_mul, mul_neg, mul_neg, neg_mul, neg_mul]
      congr 1
      ac_rfl
  · have e : sw d = ⟨d.val / 2 * 2, by omega⟩ := Fin.ext (by unfold sw; dsimp only; rw [if_neg h]; omega)
    rw [if_neg h, if_neg h, e, add_comm]
    congr 1 <;> ac_rfl

/-! ## The lanes

The body picks lanes by integer arithmetic: the angle of lane `d` is number `d / 2`, its partner is `sw d`. -/

abbrev lanes : IVec S256x128 32 := iota .tc S256x128 32 [1] iota_S256x128_d1_w32

/-- Half the lane, rounded down, as the body computes it. -/
def divI (d : Fin 128) : BitVec 32 :=
  Scalar.select
    (IntOp.andi
      (IntOp.cmpi CmpIPredicate.ne
        (IntOp.subi (BitVec.setWidth 32 (IntOp.cmpi CmpIPredicate.sgt (BitVec.ofNat 32 d.val) 0#32))
          (BitVec.setWidth 32 (IntOp.cmpi CmpIPredicate.slt (BitVec.ofNat 32 d.val) 0#32)))
        (Scalar.subi (Scalar.extui (Scalar.cmpi CmpIPredicate.sgt 2#32 0#32))
          (Scalar.extui (Scalar.cmpi CmpIPredicate.slt 2#32 0#32))))
      (IntOp.cmpi CmpIPredicate.ne (IntOp.remsi ArithUnit.vector (BitVec.ofNat 32 d.val) 2#32) 0#32))
    (IntOp.subi (IntOp.divsi ArithUnit.vector (BitVec.ofNat 32 d.val) 2#32) 1#32)
    (IntOp.divsi ArithUnit.vector (BitVec.ofNat 32 d.val) 2#32)

def halfI (d : Fin 128) : BitVec 32 :=
  Scalar.select (IntOp.cmpi CmpIPredicate.slt (divI d) 0#32) (IntOp.addi (divI d) 128#32) (divI d)

theorem halfI_eq : ∀ d : Fin 128, (halfI d).toNat % 128 = d.val / 2 := by decide +kernel

/-- The partner's lane, as the body computes it. -/
def swI (d : Fin 128) : BitVec 32 :=
  Scalar.select (IntOp.cmpi CmpIPredicate.slt (IntOp.xori (BitVec.ofNat 32 d.val) 1#32) 0#32)
    (IntOp.addi (IntOp.xori (BitVec.ofNat 32 d.val) 1#32) 128#32) (IntOp.xori (BitVec.ofNat 32 d.val) 1#32)

theorem swI_eq : ∀ d : Fin 128, (swI d).toNat % 128 = (sw d).val := by decide +kernel

/-- Whether the lane is even, as the body computes it. -/
def evenI (d : Fin 128) : BitVec 1 :=
  IntOp.cmpi CmpIPredicate.eq
      (Scalar.select
        (IntOp.andi
          (IntOp.xori
            (IntOp.cmpi CmpIPredicate.slt
              (IntOp.remsi ArithUnit.vector (BitVec.ofNat 32 d.val)
                (Scalar.select (Scalar.cmpi CmpIPredicate.eq 2#32 0#32) 1#32 2#32))
              0#32)
            (Scalar.cmpi CmpIPredicate.slt (Scalar.select (Scalar.cmpi CmpIPredicate.eq 2#32 0#32) 1#32 2#32) 0#32))
          (IntOp.cmpi CmpIPredicate.ne
            (IntOp.remsi ArithUnit.vector (BitVec.ofNat 32 d.val)
              (Scalar.select (Scalar.cmpi CmpIPredicate.eq 2#32 0#32) 1#32 2#32))
            0#32))
        (IntOp.addi
          (IntOp.remsi ArithUnit.vector (BitVec.ofNat 32 d.val)
            (Scalar.select (Scalar.cmpi CmpIPredicate.eq 2#32 0#32) 1#32 2#32))
          (Scalar.select (Scalar.cmpi CmpIPredicate.eq 2#32 0#32) 1#32 2#32))
        (IntOp.remsi ArithUnit.vector (BitVec.ofNat 32 d.val)
          (Scalar.select (Scalar.cmpi CmpIPredicate.eq 2#32 0#32) 1#32 2#32)))
      0#32

theorem evenI_eq : ∀ d : Fin 128, evenI d = if d.val % 2 = 0 then 1#1 else 0#1 := by decide +kernel

theorem cos_at (cs : FVec Ideal S256x64 .f32) (r : Fin 256) (d : Fin 128) :
    k0_pay2 (F := Ideal) cs (ix2 r d) = cs (ix2 r ⟨d.val / 2, by omega⟩) := by
  have e := halfI_eq d
  unfold halfI divI at e
  pointwise [k0_pay2]
  simp only [e]
  rw [dif_pos (by omega)]

theorem sin_at (sn : FVec Ideal S256x64 .f32) (r : Fin 256) (d : Fin 128) :
    k0_pay5 (F := Ideal) lanes (k0_pay1 sn) 2#32 k0_pay3 k0_pay4 (ix2 r d) = sn (ix2 r ⟨d.val / 2, by omega⟩) := by
  have e := halfI_eq d
  unfold halfI divI at e
  pointwise [k0_pay5, k0_pay1, k0_pay3, k0_pay4]
  simp only [e]
  rw [dif_pos (by omega)]

/-- The weight times the cosine, per lane. -/
theorem wc_at (cs : FVec Ideal S256x64 .f32) (g : FVec Ideal S1x128 .f32) (r : Fin 256) (d : Fin 128) :
    k0_pay10 (F := Ideal) (k0_pay2 cs) g (ix2 r d) = g (ix2 0 d) * cs (ix2 r ⟨d.val / 2, by omega⟩) := by
  rw [← cos_at cs r d]
  pointwise [k0_pay10, k0_pay9]

/-- The partner's weight times the signed sine, per lane. -/
theorem wsn_at (sn : FVec Ideal S256x64 .f32) (g : FVec Ideal S1x128 .f32) (r : Fin 256) (d : Fin 128) :
    k0_pay11 (F := Ideal) lanes (k0_pay5 lanes (k0_pay1 sn) 2#32 k0_pay3 k0_pay4) (k0_pay6 lanes)
        (FloatOps.ofBits .f32 0x00000000#32) g (ix2 r d)
      = g (ix2 0 (sw d)) * (if d.val % 2 = 0 then 0 - sn (ix2 r ⟨d.val / 2, by omega⟩) else sn (ix2 r ⟨d.val / 2, by omega⟩)) := by
  have e := swI_eq d
  unfold swI at e
  have e6 : k0_pay6 lanes (ix2 r d) = evenI d := by
    unfold evenI
    pointwise [k0_pay6]
  rw [← sin_at sn r d]
  generalize k0_pay5 (F := Ideal) lanes (k0_pay1 sn) 2#32 k0_pay3 k0_pay4 = u
  rw [evenI_eq] at e6
  revert e6
  generalize k0_pay6 lanes = v
  intro e6
  pointwise [k0_pay11, k0_pay7, k0_pay8, k0_pay9]
  simp only [e, e6]
  by_cases h : d.val % 2 = 0
  · rw [if_pos h, if_pos h]; rfl
  · rw [if_neg h, if_neg h]; rfl

/-! ## A head of a tile -/

/-- One entry of a tile's projection. -/
def pr (v0 : EReal) (x : FVec Ideal S256x3072 .fp8e4m3) (w : FVec Ideal S3072x256 .fp8e4m3) (ws b : FVec Ideal S1x256 .f32)
    (r k : Fin 256) : EReal :=
  (∑ l : Fin 3072, x (ix2 r l) * w (ix2 l k)) * v0 * ws (ix2 0 k) + b (ix2 0 k)

theorem proj_at (v0 : EReal) (x : FVec Ideal S256x3072 .fp8e4m3) (w : FVec Ideal S3072x256 .fp8e4m3) (ws b : FVec Ideal S1x256 .f32)
    (r k : Fin 256) : k0_pay12 (F := Ideal) v0 x w ws b (ix2 r k) = pr v0 x w ws b r k := by
  unfold pr
  pointwise [k0_pay12]

/-- The kernel's head from a tile's projection `P`, its entries starting at the tile's column 128. -/
theorem head1_at (A B : FVec Ideal S256x128 .f32) (P : FVec Ideal S256x256 .f32) (r : Fin 256) (d : Fin 128) :
    k0_pay18 (F := Ideal) (k0_pay8 lanes) A B P (ix4 0 0 r d)
      = (P (ix2 r ⟨128 + d.val, by omega⟩) * A (ix2 r d) + P (ix2 r ⟨128 + (sw d).val, by omega⟩) * B (ix2 r d))
        * Ideal.rsqrt (ms fun e => P (ix2 r ⟨128 + e.val, by omega⟩)) := by
  have e := swI_eq d
  unfold swI at e
  unfold ms
  pointwise [k0_pay18, k0_pay8]
  simp only [e]

/-- The kernel's head from a tile's projection, its entries starting at the tile's first column. -/
theorem head0_at (v0 : EReal) (A B : FVec Ideal S256x128 .f32) (x : FVec Ideal S256x3072 .fp8e4m3) (w : FVec Ideal S3072x256 .fp8e4m3)
    (ws b : FVec Ideal S1x256 .f32) (r : Fin 256) (d : Fin 128) :
    k0_pay20 (F := Ideal) v0 (k0_pay8 lanes) A B x w ws b (ix4 0 0 r d)
      = (pr v0 x w ws b r ⟨d.val, by omega⟩ * A (ix2 r d) + pr v0 x w ws b r ⟨(sw d).val, by omega⟩ * B (ix2 r d))
        * Ideal.rsqrt (ms fun e => pr v0 x w ws b r ⟨e.val, by omega⟩) := by
  have hP : ∀ r k, k0_pay19 (F := Ideal) v0 x w ws b (ix2 r k) = pr v0 x w ws b r k := fun r k => proj_at v0 x w ws b r k
  have e := swI_eq d
  unfold swI at e
  unfold ms
  simp only [← hP]
  unfold k0_pay20
  generalize k0_pay19 (F := Ideal) v0 x w ws b = P
  pointwise [k0_pay8]
  simp only [e]

end Cert.QkvIdeal.Closed

end
-- ==== Proof.QkvTile.lean ====
/- The q, k and v projection: each tile of 256 columns of a block of 256 tokens holds two heads, or 256 rows of the
   transposed values. -/
module

public import proofs.«01_k».proof.Proof.QkvHead

@[expose] public section

set_option maxRecDepth 16384

noncomputable section

open Idealize.ShloMosaic Idealize.ShloMosaic.TcCoe Idealize.SL.Sem
open Idealize.ShloMosaic.Pipeline (Dat)
open Cert.QkvRefIdeal.Closed (ms nrm rot hAt headAt)

namespace Cert.QkvIdeal.Closed

open Cert.QkvIdeal Cert.QkvIdeal.Gen

/-! ## One tile

The body treats its tiles alike: the first head of a tile is `k0_pay20`, the second `k0_pay18` of the tile's projection,
and a tile of values is `k0_pay82`. -/

section Tiles

variable (v0 : EReal) (V : IVec S256x128 32) (A B p u : FVec Ideal S256x128 .f32) (g : FVec Ideal S1x128 .f32)
  (x : FVec Ideal S256x3072 .fp8e4m3) (w : FVec Ideal S3072x256 .fp8e4m3) (ws b : FVec Ideal S1x256 .f32)

theorem tq11 : k0_pay44 (F := Ideal) V A B (k0_pay43 v0 x w ws b) = k0_pay18 V A B (k0_pay12 v0 x w ws b) := rfl
theorem tq10 : k0_pay42 (F := Ideal) v0 V A B x w ws b = k0_pay20 v0 V A B x w ws b := rfl
theorem tq9 : k0_pay40 (F := Ideal) (k0_pay39 V A B (k0_pay35 v0 x w ws b)) = k0_pay18 V A B (k0_pay12 v0 x w ws b) := rfl
theorem tq8 : k0_pay38 (F := Ideal) V A B (k0_pay36 v0 x w ws b) (k0_pay37 v0 x w ws b) (FloatOps.ofBits .f32 0x358637BD#32) = k0_pay20 v0 V A B x w ws b := rfl
theorem tq7 : k0_pay34 (F := Ideal) V A B (k0_pay32 v0 x w ws b) (k0_pay33 v0 x w ws b) = k0_pay18 V A B (k0_pay12 v0 x w ws b) := rfl
theorem tq6 : k0_pay31 (F := Ideal) v0 V A B x w ws b = k0_pay20 v0 V A B x w ws b := rfl
theorem tq5 : k0_pay29 (F := Ideal) V A B (k0_pay24 v0 x w ws b) = k0_pay18 V A B (k0_pay12 v0 x w ws b) := rfl
theorem tq4 : k0_pay28 (F := Ideal) V B (k0_pay25 v0 x w ws b) (k0_pay26 v0 x w ws b) (k0_pay27 v0 A x w ws b) = k0_pay20 v0 V A B x w ws b := rfl
theorem tq3 : k0_pay23 (F := Ideal) V A B (k0_pay21 v0 x w ws b) (k0_pay22 v0 x w ws b) (FloatOps.ofBits .f32 0x358637BD#32) = k0_pay18 V A B (k0_pay12 v0 x w ws b) := rfl
theorem tq0 : k0_pay17 (F := Ideal) (k0_pay8 lanes) B (k0_pay13 v0 x w ws b) (k0_pay14 v0 x w ws b) (k0_pay15 v0 p g x w ws b) (k0_pay16 lanes) 128#32 = k0_pay20 v0 (k0_pay8 lanes) (k0_pay10 p g) B x w ws b := rfl
theorem tk11 : k0_pay81 (F := Ideal) (k0_pay80 V A B (k0_pay76 v0 x w ws b)) = k0_pay18 V A B (k0_pay12 v0 x w ws b) := rfl
theorem tk10 : k0_pay79 (F := Ideal) V A B (k0_pay77 v0 x w ws b) (k0_pay78 v0 x w ws b) = k0_pay20 v0 V A B x w ws b := rfl
theorem tk9 : k0_pay75 (F := Ideal) V A B (k0_pay73 v0 x w ws b) (k0_pay74 v0 x w ws b) = k0_pay18 V A B (k0_pay12 v0 x w ws b) := rfl
theorem tk8 : k0_pay72 (F := Ideal) v0 V A B x w ws b = k0_pay20 v0 V A B x w ws b := rfl
theorem tk7 : k0_pay70 (F := Ideal) V A B (k0_pay66 v0 x w ws b) = k0_pay18 V A B (k0_pay12 v0 x w ws b) := rfl
theorem tk6 : k0_pay69 (F := Ideal) V A B (k0_pay67 v0 x w ws b) (k0_pay68 v0 x w ws b) = k0_pay20 v0 V A B x w ws b := rfl
theorem tk5 : k0_pay65 (F := Ideal) V A B (k0_pay63 v0 x w ws b) (k0_pay64 v0 x w ws b) = k0_pay18 V A B (k0_pay12 v0 x w ws b) := rfl
theorem tk4 : k0_pay62 (F := Ideal) v0 V A B x w ws b = k0_pay20 v0 V A B x w ws b := rfl
theorem tk3 : k0_pay60 (F := Ideal) V A B (k0_pay54 v0 x w ws b) = k0_pay18 V A B (k0_pay12 v0 x w ws b) := rfl
theorem tk2 : k0_pay59 (F := Ideal) V B (k0_pay55 v0 x w ws b) (k0_pay56 v0 x w ws b) (k0_pay57 v0 A x w ws b) (k0_pay58 V) = k0_pay20 v0 V A B x w ws b := rfl
theorem tk1 : k0_pay53 (F := Ideal) V A B (k0_pay51 v0 (k0_pay48 x w) ws b) (k0_pay52 v0 (k0_pay48 x w) ws b) = k0_pay18 V A B (k0_pay12 v0 x w ws b) := rfl
theorem tk0 : k0_pay50 (F := Ideal) v0 V A B (k0_pay48 x w) ws b = k0_pay20 v0 V A B x w ws b := rfl
theorem tv5 : k0_pay88 (F := Ideal) v0 x w ws b = k0_pay82 v0 x w ws b := rfl
theorem tv4 : k0_pay87 (F := Ideal) (k0_pay86 v0 x w) ws b = k0_pay82 v0 x w ws b := rfl
theorem tv3 : k0_pay85 (F := Ideal) v0 x w ws b = k0_pay82 v0 x w ws b := rfl
theorem tv2 : k0_pay84 (F := Ideal) v0 x w ws b = k0_pay82 v0 x w ws b := rfl
theorem tv1 : k0_pay83 (F := Ideal) v0 x w ws b = k0_pay82 v0 x w ws b := rfl
theorem tA : k0_pay46 (F := Ideal) p g = k0_pay10 p g := rfl
theorem tB (v : IVec S256x128 1) (z : Ideal .f32) : k0_pay47 (F := Ideal) (k0_pay7 u v z) (k0_pay8 lanes) g = k0_pay11 lanes u v z g := rfl

end Tiles

/-! ## One entry -/

/-- The weight times the cosine, over a block. -/
def wc (cs : FVec Ideal S256x64 .f32) (g : FVec Ideal S1x128 .f32) : FVec Ideal S256x128 .f32 :=
  k0_pay10 (F := Ideal) (k0_pay2 cs) g

/-- The partner's weight times the signed sine, over a block. -/
def wsn (sn : FVec Ideal S256x64 .f32) (g : FVec Ideal S1x128 .f32) : FVec Ideal S256x128 .f32 :=
  k0_pay11 (F := Ideal) lanes (k0_pay5 lanes (k0_pay1 sn) 2#32 k0_pay3 k0_pay4) (k0_pay6 lanes) (FloatOps.ofBits .f32 0x00000000#32) g

/-- One entry of the projection over a block of tokens, at one of its 4608 columns. -/
def hb (x : FVec Ideal S256x3072 .fp8e4m3) (W : FVec Ideal S3072x4608 .fp8e4m3) (WS B : FVec Ideal S1x4608 .f32)
    (v0 : EReal) (r : Fin 256) (k : Fin 4608) : EReal :=
  (∑ l : Fin 3072, x (ix2 r l) * W (ix2 l k)) * v0 * WS (ix2 0 k) + B (ix2 0 k)

section Entries

variable (v0 : EReal) (cs sn : FVec Ideal S256x64 .f32) (g : FVec Ideal S1x128 .f32) (x : FVec Ideal S256x3072 .fp8e4m3)
  (W : FVec Ideal S3072x4608 .fp8e4m3) (WS BB : FVec Ideal S1x4608 .f32) (J : ℕ)
  (i1 : ∀ a, (![0, J] : Fin 2 → ℕ) a + S3072x256.size a ≤ S3072x4608.size a)
  (i2 i3 : ∀ a, (![0, J] : Fin 2 → ℕ) a + S1x256.size a ≤ S1x4608.size a)

theorem pr_ld (r k : Fin 256) (K : Fin 4608) (hK : K.val = J + k.val) :
    pr v0 x (View.ld (S := S3072x4608) (Val := Elt Ideal) (e' := .fp8e4m3) W (Rect.unit ![0, J] ![3072, 256] i1)) (View.ld (S := S1x4608) (Val := Elt Ideal) (e' := .f32) WS (Rect.unit ![0, J] ![1, 256] i2))
      (View.ld (S := S1x4608) (Val := Elt Ideal) (e' := .f32) BB (Rect.unit ![0, J] ![1, 256] i3)) r k = hb x W WS BB v0 r K := by
  have hl : J + k.val < 4608 := hK ▸ K.isLt
  have e : K = ⟨J + k.val, hl⟩ := Fin.ext hK
  rw [e]
  unfold pr hb
  pointwise

theorem h0_at (a b : Fin 1) (r : Fin 256) (d : Fin 128) (f : Fin 128 → Fin 4608) (hf : ∀ e, (f e).val = J + e.val) :
    k0_pay20 (F := Ideal) v0 (k0_pay8 lanes) (wc cs g) (wsn sn g) x (View.ld (S := S3072x4608) (Val := Elt Ideal) (e' := .fp8e4m3) W (Rect.unit ![0, J] ![3072, 256] i1)) (View.ld (S := S1x4608) (Val := Elt Ideal) (e' := .f32) WS (Rect.unit ![0, J] ![1, 256] i2))
      (View.ld (S := S1x4608) (Val := Elt Ideal) (e' := .f32) BB (Rect.unit ![0, J] ![1, 256] i3)) (ix4 a b r d)
      = rot (fun e => hb x W WS BB v0 r (f e)) (fun e => g (ix2 0 e)) (fun q => cs (ix2 r q)) (fun q => sn (ix2 r q)) d := by
  obtain rfl : a = 0 := Fin.fin_one_eq_zero a
  obtain rfl : b = 0 := Fin.fin_one_eq_zero b
  rw [head0_at, ← rot_eq]
  have e1 : ∀ e : Fin 128, pr v0 x (View.ld (S := S3072x4608) (Val := Elt Ideal) (e' := .fp8e4m3) W (Rect.unit ![0, J] ![3072, 256] i1)) (View.ld (S := S1x4608) (Val := Elt Ideal) (e' := .f32) WS (Rect.unit ![0, J] ![1, 256] i2))
      (View.ld (S := S1x4608) (Val := Elt Ideal) (e' := .f32) BB (Rect.unit ![0, J] ![1, 256] i3)) r ⟨e.val, by omega⟩ = hb x W WS BB v0 r (f e) :=
    fun e => pr_ld v0 x W WS BB J i1 i2 i3 r _ _ (hf e)
  simp only [e1]
  unfold wc wsn
  rw [wc_at, wsn_at]

theorem h1_at (a b : Fin 1) (r : Fin 256) (d : Fin 128) (f : Fin 128 → Fin 4608) (hf : ∀ e, (f e).val = J + (128 + e.val)) :
    k0_pay18 (F := Ideal) (k0_pay8 lanes) (wc cs g) (wsn sn g) (k0_pay12 v0 x (View.ld (S := S3072x4608) (Val := Elt Ideal) (e' := .fp8e4m3) W (Rect.unit ![0, J] ![3072, 256] i1)) (View.ld (S := S1x4608) (Val := Elt Ideal) (e' := .f32) WS (Rect.unit ![0, J] ![1, 256] i2))
      (View.ld (S := S1x4608) (Val := Elt Ideal) (e' := .f32) BB (Rect.unit ![0, J] ![1, 256] i3))) (ix4 a b r d)
      = rot (fun e => hb x W WS BB v0 r (f e)) (fun e => g (ix2 0 e)) (fun q => cs (ix2 r q)) (fun q => sn (ix2 r q)) d := by
  obtain rfl : a = 0 := Fin.fin_one_eq_zero a
  obtain rfl : b = 0 := Fin.fin_one_eq_zero b
  rw [head1_at, ← rot_eq]
  have e1 : ∀ e : Fin 128, k0_pay12 (F := Ideal) v0 x (View.ld (S := S3072x4608) (Val := Elt Ideal) (e' := .fp8e4m3) W (Rect.unit ![0, J] ![3072, 256] i1)) (View.ld (S := S1x4608) (Val := Elt Ideal) (e' := .f32) WS (Rect.unit ![0, J] ![1, 256] i2))
      (View.ld (S := S1x4608) (Val := Elt Ideal) (e' := .f32) BB (Rect.unit ![0, J] ![1, 256] i3)) (ix2 r ⟨128 + e.val, by omega⟩) = hb x W WS BB v0 r (f e) :=
    fun e => (proj_at _ _ _ _ _ _ _).trans (pr_ld v0 x W WS BB J i1 i2 i3 r _ _ (hf e))
  simp only [e1]
  unfold wc wsn
  rw [wc_at, wsn_at]

theorem val_at (j r : Fin 256) (K : Fin 4608) (hK : K.val = J + j.val) :
    k0_pay82 (F := Ideal) v0 x (View.ld (S := S3072x4608) (Val := Elt Ideal) (e' := .fp8e4m3) W (Rect.unit ![0, J] ![3072, 256] i1)) (View.ld (S := S1x4608) (Val := Elt Ideal) (e' := .f32) WS (Rect.unit ![0, J] ![1, 256] i2))
      (View.ld (S := S1x4608) (Val := Elt Ideal) (e' := .f32) BB (Rect.unit ![0, J] ![1, 256] i3)) (ix2 j r) = hb x W WS BB v0 r K := by
  rw [← pr_ld v0 x W WS BB J i1 i2 i3 r j K hK]
  generalize (View.ld (S := S3072x4608) (Val := Elt Ideal) (e' := .fp8e4m3) W (Rect.unit ![0, J] ![3072, 256] i1)) = w
  generalize (View.ld (S := S1x4608) (Val := Elt Ideal) (e' := .f32) WS (Rect.unit ![0, J] ![1, 256] i2)) = ws
  generalize (View.ld (S := S1x4608) (Val := Elt Ideal) (e' := .f32) BB (Rect.unit ![0, J] ![1, 256] i3)) = b
  unfold pr
  pointwise [k0_pay82]

end Entries

/-! ## The blocks -/

/-- The block of queries, as the 12 stores leave it. -/
def qTiles (v0 : EReal) (A B : FVec Ideal S256x128 .f32) (x : FVec Ideal S256x3072 .fp8e4m3) (W : FVec Ideal S3072x4608 .fp8e4m3)
    (WS BB : FVec Ideal S1x4608 .f32) :
    List (View.Piece (Elt Ideal) S1x12x256x128 .bf16) :=
  [ ⟨Rect.unit ![0, 11, 0, 0] ![1, 1, 256, 128] inb_S1x12x256x128_S1x1x256x128_0_11_0_0,
      k0_pay18 (F := Ideal) (k0_pay8 lanes) A B (k0_pay12 v0 x (View.ld (S := S3072x4608) (Val := Elt Ideal) (e' := .fp8e4m3) W (Rect.unit ![0, 1280] ![3072, 256] inb_S3072x4608_S3072x256_0_1280)) (View.ld (S := S1x4608) (Val := Elt Ideal) (e' := .f32) WS (Rect.unit ![0, 1280] ![1, 256] inb_S1x4608_S1x256_0_1280)) (View.ld (S := S1x4608) (Val := Elt Ideal) (e' := .f32) BB (Rect.unit ![0, 1280] ![1, 256] inb_S1x4608_S1x256_0_1280)))⟩,
    ⟨Rect.unit ![0, 10, 0, 0] ![1, 1, 256, 128] inb_S1x12x256x128_S1x1x256x128_0_10_0_0,
      k0_pay20 (F := Ideal) v0 (k0_pay8 lanes) A B x (View.ld (S := S3072x4608) (Val := Elt Ideal) (e' := .fp8e4m3) W (Rect.unit ![0, 1280] ![3072, 256] inb_S3072x4608_S3072x256_0_1280)) (View.ld (S := S1x4608) (Val := Elt Ideal) (e' := .f32) WS (Rect.unit ![0, 1280] ![1, 256] inb_S1x4608_S1x256_0_1280)) (View.ld (S := S1x4608) (Val := Elt Ideal) (e' := .f32) BB (Rect.unit ![0, 1280] ![1, 256] inb_S1x4608_S1x256_0_1280))⟩,
    ⟨Rect.unit ![0, 9, 0, 0] ![1, 1, 256, 128] inb_S1x12x256x128_S1x1x256x128_0_9_0_0,
      k0_pay18 (F := Ideal) (k0_pay8 lanes) A B (k0_pay12 v0 x (View.ld (S := S3072x4608) (Val := Elt Ideal) (e' := .fp8e4m3) W (Rect.unit ![0, 1024] ![3072, 256] inb_S3072x4608_S3072x256_0_1024)) (View.ld (S := S1x4608) (Val := Elt Ideal) (e' := .f32) WS (Rect.unit ![0, 1024] ![1, 256] inb_S1x4608_S1x256_0_1024)) (View.ld (S := S1x4608) (Val := Elt Ideal) (e' := .f32) BB (Rect.unit ![0, 1024] ![1, 256] inb_S1x4608_S1x256_0_1024)))⟩,
    ⟨Rect.unit ![0, 8, 0, 0] ![1, 1, 256, 128] inb_S1x12x256x128_S1x1x256x128_0_8_0_0,
      k0_pay20 (F := Ideal) v0 (k0_pay8 lanes) A B x (View.ld (S := S3072x4608) (Val := Elt Ideal) (e' := .fp8e4m3) W (Rect.unit ![0, 1024] ![3072, 256] inb_S3072x4608_S3072x256_0_1024)) (View.ld (S := S1x4608) (Val := Elt Ideal) (e' := .f32) WS (Rect.unit ![0, 1024] ![1, 256] inb_S1x4608_S1x256_0_1024)) (View.ld (S := S1x4608) (Val := Elt Ideal) (e' := .f32) BB (Rect.unit ![0, 1024] ![1, 256] inb_S1x4608_S1x256_0_1024))⟩,
    ⟨Rect.unit ![0, 7, 0, 0] ![1, 1, 256, 128] inb_S1x12x256x128_S1x1x256x128_0_7_0_0,
      k0_pay18 (F := Ideal) (k0_pay8 lanes) A B (k0_pay12 v0 x (View.ld (S := S3072x4608) (Val := Elt Ideal) (e' := .fp8e4m3) W (Rect.unit ![0, 768] ![3072, 256] inb_S3072x4608_S3072x256_0_768)) (View.ld (S := S1x4608) (Val := Elt Ideal) (e' := .f32) WS (Rect.unit ![0, 768] ![1, 256] inb_S1x4608_S1x256_0_768)) (View.ld (S := S1x4608) (Val := Elt Ideal) (e' := .f32) BB (Rect.unit ![0, 768] ![1, 256] inb_S1x4608_S1x256_0_768)))⟩,
    ⟨Rect.unit ![0, 6, 0, 0] ![1, 1, 256, 128] inb_S1x12x256x128_S1x1x256x128_0_6_0_0,
      k0_pay20 (F := Ideal) v0 (k0_pay8 lanes) A B x (View.ld (S := S3072x4608) (Val := Elt Ideal) (e' := .fp8e4m3) W (Rect.unit ![0, 768] ![3072, 256] inb_S3072x4608_S3072x256_0_768)) (View.ld (S := S1x4608) (Val := Elt Ideal) (e' := .f32) WS (Rect.unit ![0, 768] ![1, 256] inb_S1x4608_S1x256_0_768)) (View.ld (S := S1x4608) (Val := Elt Ideal) (e' := .f32) BB (Rect.unit ![0, 768] ![1, 256] inb_S1x4608_S1x256_0_768))⟩,
    ⟨Rect.unit ![0, 5, 0, 0] ![1, 1, 256, 128] inb_S1x12x256x128_S1x1x256x128_0_5_0_0,
      k0_pay18 (F := Ideal) (k0_pay8 lanes) A B (k0_pay12 v0 x (View.ld (S := S3072x4608) (Val := Elt Ideal) (e' := .fp8e4m3) W (Rect.unit ![0, 512] ![3072, 256] inb_S3072x4608_S3072x256_0_512)) (View.ld (S := S1x4608) (Val := Elt Ideal) (e' := .f32) WS (Rect.unit ![0, 512] ![1, 256] inb_S1x4608_S1x256_0_512)) (View.ld (S := S1x4608) (Val := Elt Ideal) (e' := .f32) BB (Rect.unit ![0, 512] ![1, 256] inb_S1x4608_S1x256_0_512)))⟩,
    ⟨Rect.unit ![0, 4, 0, 0] ![1, 1, 256, 128] inb_S1x12x256x128_S1x1x256x128_0_4_0_0,
      k0_pay20 (F := Ideal) v0 (k0_pay8 lanes) A B x (View.ld (S := S3072x4608) (Val := Elt Ideal) (e' := .fp8e4m3) W (Rect.unit ![0, 512] ![3072, 256] inb_S3072x4608_S3072x256_0_512)) (View.ld (S := S1x4608) (Val := Elt Ideal) (e' := .f32) WS (Rect.unit ![0, 512] ![1, 256] inb_S1x4608_S1x256_0_512)) (View.ld (S := S1x4608) (Val := Elt Ideal) (e' := .f32) BB (Rect.unit ![0, 512] ![1, 256] inb_S1x4608_S1x256_0_512))⟩,
    ⟨Rect.unit ![0, 3, 0, 0] ![1, 1, 256, 128] inb_S1x12x256x128_S1x1x256x128_0_3_0_0,
      k0_pay18 (F := Ideal) (k0_pay8 lanes) A B (k0_pay12 v0 x (View.ld (S := S3072x4608) (Val := Elt Ideal) (e' := .fp8e4m3) W (Rect.unit ![0, 256] ![3072, 256] inb_S3072x4608_S3072x256_0_256)) (View.ld (S := S1x4608) (Val := Elt Ideal) (e' := .f32) WS (Rect.unit ![0, 256] ![1, 256] inb_S1x4608_S1x256_0_256)) (View.ld (S := S1x4608) (Val := Elt Ideal) (e' := .f32) BB (Rect.unit ![0, 256] ![1, 256] inb_S1x4608_S1x256_0_256)))⟩,
    ⟨Rect.unit ![0, 2, 0, 0] ![1, 1, 256, 128] inb_S1x12x256x128_S1x1x256x128_0_2_0_0,
      k0_pay20 (F := Ideal) v0 (k0_pay8 lanes) A B x (View.ld (S := S3072x4608) (Val := Elt Ideal) (e' := .fp8e4m3) W (Rect.unit ![0, 256] ![3072, 256] inb_S3072x4608_S3072x256_0_256)) (View.ld (S := S1x4608) (Val := Elt Ideal) (e' := .f32) WS (Rect.unit ![0, 256] ![1, 256] inb_S1x4608_S1x256_0_256)) (View.ld (S := S1x4608) (Val := Elt Ideal) (e' := .f32) BB (Rect.unit ![0, 256] ![1, 256] inb_S1x4608_S1x256_0_256))⟩,
    ⟨Rect.unit ![0, 1, 0, 0] ![1, 1, 256, 128] inb_S1x12x256x128_S1x1x256x128_0_1_0_0,
      k0_pay18 (F := Ideal) (k0_pay8 lanes) A B (k0_pay12 v0 x (View.ld (S := S3072x4608) (Val := Elt Ideal) (e' := .fp8e4m3) W (Rect.unit ![0, 0] ![3072, 256] inb_S3072x4608_S3072x256_0_0)) (View.ld (S := S1x4608) (Val := Elt Ideal) (e' := .f32) WS (Rect.unit ![0, 0] ![1, 256] inb_S1x4608_S1x256_0_0)) (View.ld (S := S1x4608) (Val := Elt Ideal) (e' := .f32) BB (Rect.unit ![0, 0] ![1, 256] inb_S1x4608_S1x256_0_0)))⟩,
    ⟨Rect.unit ![0, 0, 0, 0] ![1, 1, 256, 128] inb_S1x12x256x128_S1x1x256x128_0_0_0_0,
      k0_pay20 (F := Ideal) v0 (k0_pay8 lanes) A B x (View.ld (S := S3072x4608) (Val := Elt Ideal) (e' := .fp8e4m3) W (Rect.unit ![0, 0] ![3072, 256] inb_S3072x4608_S3072x256_0_0)) (View.ld (S := S1x4608) (Val := Elt Ideal) (e' := .f32) WS (Rect.unit ![0, 0] ![1, 256] inb_S1x4608_S1x256_0_0)) (View.ld (S := S1x4608) (Val := Elt Ideal) (e' := .f32) BB (Rect.unit ![0, 0] ![1, 256] inb_S1x4608_S1x256_0_0))⟩]

set_option maxHeartbeats 2000000 in
/-- The block of queries, entry by entry. -/
theorem qTiles_at (v0 : EReal) (cs sn : FVec Ideal S256x64 .f32) (g : FVec Ideal S1x128 .f32) (x : FVec Ideal S256x3072 .fp8e4m3) (W : FVec Ideal S3072x4608 .fp8e4m3)
    (WS BB : FVec Ideal S1x4608 .f32) (y : S1x12x256x128.Idx) :
    View.canon (qTiles v0 (wc cs g) (wsn sn g) x W WS BB) y
      = rot (fun e => hb x W WS BB v0 (y 2) ⟨0 + ((y 1).val * 128 + e.val), by have p : (y 1).val < 12 := (y 1).isLt; omega⟩)
        (fun e => g (ix2 0 e)) (fun q => cs (ix2 (y 2) q)) (fun q => sn (ix2 (y 2) q)) (y 3) := by
  unfold qTiles
  canon_tiles x h
  all_goals
    idx_vars x
    have e2 : y 2 = x2 := Fin.ext h2
    have e3 : y 3 = x3 := Fin.ext h3
    rw [e2, e3]
    first
      | rw [h0_at v0 cs sn g x W WS BB _ _ _ _ _ _ _ _ (fun e : Fin 128 => (⟨0 + ((y 1).val * 128 + e.val), by have p : (y 1).val < 12 := (y 1).isLt; omega⟩ : Fin 4608)) ?_]
      | rw [h1_at v0 cs sn g x W WS BB _ _ _ _ _ _ _ _ (fun e : Fin 128 => (⟨0 + ((y 1).val * 128 + e.val), by have p : (y 1).val < 12 := (y 1).isLt; omega⟩ : Fin 4608)) ?_]
    intro e
    dsimp only
    omega

/-- The block of keys, as the 12 stores leave it. -/
def kTiles (v0 : EReal) (A B : FVec Ideal S256x128 .f32) (x : FVec Ideal S256x3072 .fp8e4m3) (W : FVec Ideal S3072x4608 .fp8e4m3)
    (WS BB : FVec Ideal S1x4608 .f32) :
    List (View.Piece (Elt Ideal) S1x12x256x128 .bf16) :=
  [ ⟨Rect.unit ![0, 11, 0, 0] ![1, 1, 256, 128] inb_S1x12x256x128_S1x1x256x128_0_11_0_0,
      k0_pay18 (F := Ideal) (k0_pay8 lanes) A B (k0_pay12 v0 x (View.ld (S := S3072x4608) (Val := Elt Ideal) (e' := .fp8e4m3) W (Rect.unit ![0, 2816] ![3072, 256] inb_S3072x4608_S3072x256_0_2816)) (View.ld (S := S1x4608) (Val := Elt Ideal) (e' := .f32) WS (Rect.unit ![0, 2816] ![1, 256] inb_S1x4608_S1x256_0_2816)) (View.ld (S := S1x4608) (Val := Elt Ideal) (e' := .f32) BB (Rect.unit ![0, 2816] ![1, 256] inb_S1x4608_S1x256_0_2816)))⟩,
    ⟨Rect.unit ![0, 10, 0, 0] ![1, 1, 256, 128] inb_S1x12x256x128_S1x1x256x128_0_10_0_0,
      k0_pay20 (F := Ideal) v0 (k0_pay8 lanes) A B x (View.ld (S := S3072x4608) (Val := Elt Ideal) (e' := .fp8e4m3) W (Rect.unit ![0, 2816] ![3072, 256] inb_S3072x4608_S3072x256_0_2816)) (View.ld (S := S1x4608) (Val := Elt Ideal) (e' := .f32) WS (Rect.unit ![0, 2816] ![1, 256] inb_S1x4608_S1x256_0_2816)) (View.ld (S := S1x4608) (Val := Elt Ideal) (e' := .f32) BB (Rect.unit ![0, 2816] ![1, 256] inb_S1x4608_S1x256_0_2816))⟩,
    ⟨Rect.unit ![0, 9, 0, 0] ![1, 1, 256, 128] inb_S1x12x256x128_S1x1x256x128_0_9_0_0,
      k0_pay18 (F := Ideal) (k0_pay8 lanes) A B (k0_pay12 v0 x (View.ld (S := S3072x4608) (Val := Elt Ideal) (e' := .fp8e4m3) W (Rect.unit ![0, 2560] ![3072, 256] inb_S3072x4608_S3072x256_0_2560)) (View.ld (S := S1x4608) (Val := Elt Ideal) (e' := .f32) WS (Rect.unit ![0, 2560] ![1, 256] inb_S1x4608_S1x256_0_2560)) (View.ld (S := S1x4608) (Val := Elt Ideal) (e' := .f32) BB (Rect.unit ![0, 2560] ![1, 256] inb_S1x4608_S1x256_0_2560)))⟩,
    ⟨Rect.unit ![0, 8, 0, 0] ![1, 1, 256, 128] inb_S1x12x256x128_S1x1x256x128_0_8_0_0,
      k0_pay20 (F := Ideal) v0 (k0_pay8 lanes) A B x (View.ld (S := S3072x4608) (Val := Elt Ideal) (e' := .fp8e4m3) W (Rect.unit ![0, 2560] ![3072, 256] inb_S3072x4608_S3072x256_0_2560)) (View.ld (S := S1x4608) (Val := Elt Ideal) (e' := .f32) WS (Rect.unit ![0, 2560] ![1, 256] inb_S1x4608_S1x256_0_2560)) (View.ld (S := S1x4608) (Val := Elt Ideal) (e' := .f32) BB (Rect.unit ![0, 2560] ![1, 256] inb_S1x4608_S1x256_0_2560))⟩,
    ⟨Rect.unit ![0, 7, 0, 0] ![1, 1, 256, 128] inb_S1x12x256x128_S1x1x256x128_0_7_0_0,
      k0_pay18 (F := Ideal) (k0_pay8 lanes) A B (k0_pay12 v0 x (View.ld (S := S3072x4608) (Val := Elt Ideal) (e' := .fp8e4m3) W (Rect.unit ![0, 2304] ![3072, 256] inb_S3072x4608_S3072x256_0_2304)) (View.ld (S := S1x4608) (Val := Elt Ideal) (e' := .f32) WS (Rect.unit ![0, 2304] ![1, 256] inb_S1x4608_S1x256_0_2304)) (View.ld (S := S1x4608) (Val := Elt Ideal) (e' := .f32) BB (Rect.unit ![0, 2304] ![1, 256] inb_S1x4608_S1x256_0_2304)))⟩,
    ⟨Rect.unit ![0, 6, 0, 0] ![1, 1, 256, 128] inb_S1x12x256x128_S1x1x256x128_0_6_0_0,
      k0_pay20 (F := Ideal) v0 (k0_pay8 lanes) A B x (View.ld (S := S3072x4608) (Val := Elt Ideal) (e' := .fp8e4m3) W (Rect.unit ![0, 2304] ![3072, 256] inb_S3072x4608_S3072x256_0_2304)) (View.ld (S := S1x4608) (Val := Elt Ideal) (e' := .f32) WS (Rect.unit ![0, 2304] ![1, 256] inb_S1x4608_S1x256_0_2304)) (View.ld (S := S1x4608) (Val := Elt Ideal) (e' := .f32) BB (Rect.unit ![0, 2304] ![1, 256] inb_S1x4608_S1x256_0_2304))⟩,
    ⟨Rect.unit ![0, 5, 0, 0] ![1, 1, 256, 128] inb_S1x12x256x128_S1x1x256x128_0_5_0_0,
      k0_pay18 (F := Ideal) (k0_pay8 lanes) A B (k0_pay12 v0 x (View.ld (S := S3072x4608) (Val := Elt Ideal) (e' := .fp8e4m3) W (Rect.unit ![0, 2048] ![3072, 256] inb_S3072x4608_S3072x256_0_2048)) (View.ld (S := S1x4608) (Val := Elt Ideal) (e' := .f32) WS (Rect.unit ![0, 2048] ![1, 256] inb_S1x4608_S1x256_0_2048)) (View.ld (S := S1x4608) (Val := Elt Ideal) (e' := .f32) BB (Rect.unit ![0, 2048] ![1, 256] inb_S1x4608_S1x256_0_2048)))⟩,
    ⟨Rect.unit ![0, 4, 0, 0] ![1, 1, 256, 128] inb_S1x12x256x128_S1x1x256x128_0_4_0_0,
      k0_pay20 (F := Ideal) v0 (k0_pay8 lanes) A B x (View.ld (S := S3072x4608) (Val := Elt Ideal) (e' := .fp8e4m3) W (Rect.unit ![0, 2048] ![3072, 256] inb_S3072x4608_S3072x256_0_2048)) (View.ld (S := S1x4608) (Val := Elt Ideal) (e' := .f32) WS (Rect.unit ![0, 2048] ![1, 256] inb_S1x4608_S1x256_0_2048)) (View.ld (S := S1x4608) (Val := Elt Ideal) (e' := .f32) BB (Rect.unit ![0, 2048] ![1, 256] inb_S1x4608_S1x256_0_2048))⟩,
    ⟨Rect.unit ![0, 3, 0, 0] ![1, 1, 256, 128] inb_S1x12x256x128_S1x1x256x128_0_3_0_0,
      k0_pay18 (F := Ideal) (k0_pay8 lanes) A B (k0_pay12 v0 x (View.ld (S := S3072x4608) (Val := Elt Ideal) (e' := .fp8e4m3) W (Rect.unit ![0, 1792] ![3072, 256] inb_S3072x4608_S3072x256_0_1792)) (View.ld (S := S1x4608) (Val := Elt Ideal) (e' := .f32) WS (Rect.unit ![0, 1792] ![1, 256] inb_S1x4608_S1x256_0_1792)) (View.ld (S := S1x4608) (Val := Elt Ideal) (e' := .f32) BB (Rect.unit ![0, 1792] ![1, 256] inb_S1x4608_S1x256_0_1792)))⟩,
    ⟨Rect.unit ![0, 2, 0, 0] ![1, 1, 256, 128] inb_S1x12x256x128_S1x1x256x128_0_2_0_0,
      k0_pay20 (F := Ideal) v0 (k0_pay8 lanes) A B x (View.ld (S := S3072x4608) (Val := Elt Ideal) (e' := .fp8e4m3) W (Rect.unit ![0, 1792] ![3072, 256] inb_S3072x4608_S3072x256_0_1792)) (View.ld (S := S1x4608) (Val := Elt Ideal) (e' := .f32) WS (Rect.unit ![0, 1792] ![1, 256] inb_S1x4608_S1x256_0_1792)) (View.ld (S := S1x4608) (Val := Elt Ideal) (e' := .f32) BB (Rect.unit ![0, 1792] ![1, 256] inb_S1x4608_S1x256_0_1792))⟩,
    ⟨Rect.unit ![0, 1, 0, 0] ![1, 1, 256, 128] inb_S1x12x256x128_S1x1x256x128_0_1_0_0,
      k0_pay18 (F := Ideal) (k0_pay8 lanes) A B (k0_pay12 v0 x (View.ld (S := S3072x4608) (Val := Elt Ideal) (e' := .fp8e4m3) W (Rect.unit ![0, 1536] ![3072, 256] inb_S3072x4608_S3072x256_0_1536)) (View.ld (S := S1x4608) (Val := Elt Ideal) (e' := .f32) WS (Rect.unit ![0, 1536] ![1, 256] inb_S1x4608_S1x256_0_1536)) (View.ld (S := S1x4608) (Val := Elt Ideal) (e' := .f32) BB (Rect.unit ![0, 1536] ![1, 256] inb_S1x4608_S1x256_0_1536)))⟩,
    ⟨Rect.unit ![0, 0, 0, 0] ![1, 1, 256, 128] inb_S1x12x256x128_S1x1x256x128_0_0_0_0,
      k0_pay20 (F := Ideal) v0 (k0_pay8 lanes) A B x (View.ld (S := S3072x4608) (Val := Elt Ideal) (e' := .fp8e4m3) W (Rect.unit ![0, 1536] ![3072, 256] inb_S3072x4608_S3072x256_0_1536)) (View.ld (S := S1x4608) (Val := Elt Ideal) (e' := .f32) WS (Rect.unit ![0, 1536] ![1, 256] inb_S1x4608_S1x256_0_1536)) (View.ld (S := S1x4608) (Val := Elt Ideal) (e' := .f32) BB (Rect.unit ![0, 1536] ![1, 256] inb_S1x4608_S1x256_0_1536))⟩]

set_option maxHeartbeats 2000000 in
/-- The block of keys, entry by entry. -/
theorem kTiles_at (v0 : EReal) (cs sn : FVec Ideal S256x64 .f32) (g : FVec Ideal S1x128 .f32) (x : FVec Ideal S256x3072 .fp8e4m3) (W : FVec Ideal S3072x4608 .fp8e4m3)
    (WS BB : FVec Ideal S1x4608 .f32) (y : S1x12x256x128.Idx) :
    View.canon (kTiles v0 (wc cs g) (wsn sn g) x W WS BB) y
      = rot (fun e => hb x W WS BB v0 (y 2) ⟨1536 + ((y 1).val * 128 + e.val), by have p : (y 1).val < 12 := (y 1).isLt; omega⟩)
        (fun e => g (ix2 0 e)) (fun q => cs (ix2 (y 2) q)) (fun q => sn (ix2 (y 2) q)) (y 3) := by
  unfold kTiles
  canon_tiles x h
  all_goals
    idx_vars x
    have e2 : y 2 = x2 := Fin.ext h2
    have e3 : y 3 = x3 := Fin.ext h3
    rw [e2, e3]
    first
      | rw [h0_at v0 cs sn g x W WS BB _ _ _ _ _ _ _ _ (fun e : Fin 128 => (⟨1536 + ((y 1).val * 128 + e.val), by have p : (y 1).val < 12 := (y 1).isLt; omega⟩ : Fin 4608)) ?_]
      | rw [h1_at v0 cs sn g x W WS BB _ _ _ _ _ _ _ _ (fun e : Fin 128 => (⟨1536 + ((y 1).val * 128 + e.val), by have p : (y 1).val < 12 := (y 1).isLt; omega⟩ : Fin 4608)) ?_]
    intro e
    dsimp only
    omega

/-- The block of transposed values, as the 6 stores leave it. -/
def vTiles (v0 : EReal) (x : FVec Ideal S256x3072 .fp8e4m3) (W : FVec Ideal S3072x4608 .fp8e4m3)
    (WS BB : FVec Ideal S1x4608 .f32) :
    List (View.Piece (Elt Ideal) S1536x256 .bf16) :=
  [ ⟨Rect.unit ![1280, 0] ![256, 256] inb_S1536x256_S256x256_1280_0,
      k0_pay82 (F := Ideal) v0 x (View.ld (S := S3072x4608) (Val := Elt Ideal) (e' := .fp8e4m3) W (Rect.unit ![0, 4352] ![3072, 256] inb_S3072x4608_S3072x256_0_4352)) (View.ld (S := S1x4608) (Val := Elt Ideal) (e' := .f32) WS (Rect.unit ![0, 4352] ![1, 256] inb_S1x4608_S1x256_0_4352)) (View.ld (S := S1x4608) (Val := Elt Ideal) (e' := .f32) BB (Rect.unit ![0, 4352] ![1, 256] inb_S1x4608_S1x256_0_4352))⟩,
    ⟨Rect.unit ![1024, 0] ![256, 256] inb_S1536x256_S256x256_1024_0,
      k0_pay82 (F := Ideal) v0 x (View.ld (S := S3072x4608) (Val := Elt Ideal) (e' := .fp8e4m3) W (Rect.unit ![0, 4096] ![3072, 256] inb_S3072x4608_S3072x256_0_4096)) (View.ld (S := S1x4608) (Val := Elt Ideal) (e' := .f32) WS (Rect.unit ![0, 4096] ![1, 256] inb_S1x4608_S1x256_0_4096)) (View.ld (S := S1x4608) (Val := Elt Ideal) (e' := .f32) BB (Rect.unit ![0, 4096] ![1, 256] inb_S1x4608_S1x256_0_4096))⟩,
    ⟨Rect.unit ![768, 0] ![256, 256] inb_S1536x256_S256x256_768_0,
      k0_pay82 (F := Ideal) v0 x (View.ld (S := S3072x4608) (Val := Elt Ideal) (e' := .fp8e4m3) W (Rect.unit ![0, 3840] ![3072, 256] inb_S3072x4608_S3072x256_0_3840)) (View.ld (S := S1x4608) (Val := Elt Ideal) (e' := .f32) WS (Rect.unit ![0, 3840] ![1, 256] inb_S1x4608_S1x256_0_3840)) (View.ld (S := S1x4608) (Val := Elt Ideal) (e' := .f32) BB (Rect.unit ![0, 3840] ![1, 256] inb_S1x4608_S1x256_0_3840))⟩,
    ⟨Rect.unit ![512, 0] ![256, 256] inb_S1536x256_S256x256_512_0,
      k0_pay82 (F := Ideal) v0 x (View.ld (S := S3072x4608) (Val := Elt Ideal) (e' := .fp8e4m3) W (Rect.unit ![0, 3584] ![3072, 256] inb_S3072x4608_S3072x256_0_3584)) (View.ld (S := S1x4608) (Val := Elt Ideal) (e' := .f32) WS (Rect.unit ![0, 3584] ![1, 256] inb_S1x4608_S1x256_0_3584)) (View.ld (S := S1x4608) (Val := Elt Ideal) (e' := .f32) BB (Rect.unit ![0, 3584] ![1, 256] inb_S1x4608_S1x256_0_3584))⟩,
    ⟨Rect.unit ![256, 0] ![256, 256] inb_S1536x256_S256x256_256_0,
      k0_pay82 (F := Ideal) v0 x (View.ld (S := S3072x4608) (Val := Elt Ideal) (e' := .fp8e4m3) W (Rect.unit ![0, 3328] ![3072, 256] inb_S3072x4608_S3072x256_0_3328)) (View.ld (S := S1x4608) (Val := Elt Ideal) (e' := .f32) WS (Rect.unit ![0, 3328] ![1, 256] inb_S1x4608_S1x256_0_3328)) (View.ld (S := S1x4608) (Val := Elt Ideal) (e' := .f32) BB (Rect.unit ![0, 3328] ![1, 256] inb_S1x4608_S1x256_0_3328))⟩,
    ⟨Rect.unit ![0, 0] ![256, 256] inb_S1536x256_S256x256_0_0,
      k0_pay82 (F := Ideal) v0 x (View.ld (S := S3072x4608) (Val := Elt Ideal) (e' := .fp8e4m3) W (Rect.unit ![0, 3072] ![3072, 256] inb_S3072x4608_S3072x256_0_3072)) (View.ld (S := S1x4608) (Val := Elt Ideal) (e' := .f32) WS (Rect.unit ![0, 3072] ![1, 256] inb_S1x4608_S1x256_0_3072)) (View.ld (S := S1x4608) (Val := Elt Ideal) (e' := .f32) BB (Rect.unit ![0, 3072] ![1, 256] inb_S1x4608_S1x256_0_3072))⟩]

set_option maxHeartbeats 1000000 in
/-- The block of transposed values, entry by entry. -/
theorem vTiles_at (v0 : EReal) (x : FVec Ideal S256x3072 .fp8e4m3) (W : FVec Ideal S3072x4608 .fp8e4m3)
    (WS BB : FVec Ideal S1x4608 .f32) (y : S1536x256.Idx) :
    View.canon (vTiles v0 x W WS BB) y
      = hb x W WS BB v0 (y 1) ⟨3072 + (y 0).val, by have p : (y 0).val < 1536 := (y 0).isLt; omega⟩ := by
  unfold vTiles
  canon_tiles x h
  all_goals
    idx_vars x
    have e1 : y 1 = x1 := Fin.ext h1
    rw [e1]
    exact val_at v0 x W WS BB _ _ _ _ _ _ _ (by dsimp only; omega)

end Cert.QkvIdeal.Closed

end
-- ==== Proof.QkvOuts.lean ====
/- The q, k and v projection: what each grid point leaves in its blocks. -/
module

public import proofs.«01_k».proof.Proof.QkvTile

@[expose] public section

set_option maxRecDepth 16384

noncomputable section

open Idealize.ShloMosaic Idealize.ShloMosaic.TcCoe Idealize.SL.Sem
open Idealize.ShloMosaic.Pipeline (Dat)
open Cert.QkvRefIdeal.Closed (ms nrm rot hAt headAt)

namespace Cert.QkvIdeal.Closed

open Cert.QkvIdeal Cert.QkvIdeal.Gen

variable (m : (ℓ : Loc nD τ sig) → Buf (Elt Ideal) ℓ)

/-- Where each window's block lies at grid point `t`: 256 tokens of one of the two sequences. -/
theorem idx : ∀ t : Fin cfg0.N, win0_0.index t = ![0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val / 17, 0, t.val % 17, 0]
    ∧ win0_10.index t = ![t.val / 17, 0, t.val % 17, 0] ∧ win0_11.index t = ![0, t.val] :=
  (by decide +kernel : ∀ t : Fin grid0.N, _)

/-- The scale of the codes of `x`, as the body reads it. -/
theorem s0_eq (c : Dev nD) (t : Fin cfg0.N) (h) :
    View.ld (iblk m c 0 t) (Rect.unit ![0] ![1] inb_S1_S1_0) (Shape.Idx.first h)
      = (m ((c : Thread nD τ).loc main_arg8) : FVec Ideal S1 .f32) (ix1 0) := by
  blk_ext! [iblk, V, idx t]

/-- The same scale, after the launch. -/
def q0 (c : Dev nD) : EReal := (m ((c : Thread nD τ).loc main_arg8) : FVec Ideal S1 .f32) (ix1 0)

/-- A whole block of the cosines or sines, as the body reads it. -/
theorem ld_all (X : FVec Ideal S256x64 .f32) (h) :
    View.ld (S := S256x64) (Val := Elt Ideal) (e' := .f32) X (Rect.unit ![0, 0] ![256, 64] h) = X := by
  funext y
  idx_vars y
  pointwise

theorem rd7 (t : Fin cfg0.N) (h : (ms0_7 t).IsWhole) (X : FVec Ideal S256x64 .f32) :
    View.read (Elt Ideal) (ms0_7 t).view (h.unread (Val := Elt Ideal) X) = X := h.read_unread (Val := Elt Ideal) X

theorem rd8 (t : Fin cfg0.N) (h : (ms0_8 t).IsWhole) (X : FVec Ideal S256x64 .f32) :
    View.read (Elt Ideal) (ms0_8 t).view (h.unread (Val := Elt Ideal) X) = X := h.read_unread (Val := Elt Ideal) X

/-! The parts of the body that make the cosines and sines per lane, under their names. -/

theorem f2 (X : FVec Ideal S256x64 .f32) : dynamicGather 1 (concatenate S256x128 1 [⟨S256x64, X⟩, ⟨S256x64, X⟩] concatenates_S256x64_S256x64_S256x128_d1) (shapeCast S256x128 (shapeCast S256x128x1
      (select (cmpi CmpIPredicate.slt
      (select (andi (cmpi CmpIPredicate.ne (subi (extui 32 (cmpi CmpIPredicate.sgt lanes (broadcast S256x128 0#32)) natLt_1_32) (extui 32 (cmpi CmpIPredicate.slt lanes (broadcast S256x128 0#32)) natLt_1_32)) (broadcast S256x128 1#32)) (cmpi CmpIPredicate.ne (remsi lanes (broadcast S256x128 2#32)) (broadcast S256x128 0#32))) (subi (divsi lanes (broadcast S256x128 2#32)) (broadcast S256x128 1#32)) (divsi lanes (broadcast S256x128 2#32))) (broadcast S256x128 0#32)) (addi
      (select (andi (cmpi CmpIPredicate.ne (subi (extui 32 (cmpi CmpIPredicate.sgt lanes (broadcast S256x128 0#32)) natLt_1_32) (extui 32 (cmpi CmpIPredicate.slt lanes (broadcast S256x128 0#32)) natLt_1_32)) (broadcast S256x128 1#32)) (cmpi CmpIPredicate.ne (remsi lanes (broadcast S256x128 2#32)) (broadcast S256x128 0#32))) (subi (divsi lanes (broadcast S256x128 2#32)) (broadcast S256x128 1#32)) (divsi lanes (broadcast S256x128 2#32))) (broadcast S256x128 128#32))
      (select (andi (cmpi CmpIPredicate.ne (subi (extui 32 (cmpi CmpIPredicate.sgt lanes (broadcast S256x128 0#32)) natLt_1_32) (extui 32 (cmpi CmpIPredicate.slt lanes (broadcast S256x128 0#32)) natLt_1_32)) (broadcast S256x128 1#32)) (cmpi CmpIPredicate.ne (remsi lanes (broadcast S256x128 2#32)) (broadcast S256x128 0#32))) (subi (divsi lanes (broadcast S256x128 2#32)) (broadcast S256x128 1#32)) (divsi lanes (broadcast S256x128 2#32)))) shapeCasts_S256x128_S256x128x1) shapeCasts_S256x128x1_S256x128) = k0_pay2 (F := Ideal) X := rfl

theorem f1 (X : FVec Ideal S256x64 .f32) :
    concatenate S256x128 1 [⟨S256x64, X⟩, ⟨S256x64, X⟩] concatenates_S256x64_S256x64_S256x128_d1 = k0_pay1 (F := Ideal) X := rfl

theorem f3 : divsi lanes (broadcast S256x128 2#32) = k0_pay3 := rfl

theorem f4 : extui 32 (cmpi CmpIPredicate.sgt lanes (broadcast S256x128 0#32)) natLt_1_32 = k0_pay4 := rfl

theorem fc (cs : FVec Ideal S256x64 .f32) (g : FVec Ideal S1x128 .f32) : k0_pay10 (F := Ideal) (k0_pay2 cs) g = wc cs g := rfl

theorem fs (sn : FVec Ideal S256x64 .f32) (g : FVec Ideal S1x128 .f32) :
    k0_pay11 (F := Ideal) lanes (k0_pay5 lanes (k0_pay1 sn) 2#32 k0_pay3 k0_pay4) (k0_pay6 lanes) (FloatOps.ofBits .f32 0x00000000#32) g
      = wsn sn g := rfl

set_option maxHeartbeats 4000000 in
/-- The block of queries after grid point `t`. -/
theorem out9 (c : Dev nD) (t : Fin cfg0.N) : (outsAt0 m c t).1
    = View.canon (qTiles (q0 m c) (wc (iblk m c 7 t) (iblk m c 5 t)) (wsn (iblk m c 8 t) (iblk m c 5 t))
        (iblk m c 1 t) (X0_2 m c t) (X0_3 m c t) (X0_4 m c t)) := by
  funext y
  unfold outsAt0
  dsimp only
  frame_out
  dsimp only [Proc.kind]
  have e7 := (ld_all _ inb_S256x64_S256x64_0_0).trans (rd7 t (hs0_7 t) (iblk m c 7 t))
  have e8 := (ld_all _ inb_S256x64_S256x64_0_0).trans (rd8 t (hs0_8 t) (iblk m c 8 t))
  rw [e7, e8]
  rw [f2 (iblk m c 7 t)]
  rw [f1 (iblk m c 8 t), f3, f4]
  simp only [s0_eq, tq11, tq10, tq9, tq8, tq7, tq6, tq5, tq4, tq3, tq0]
  rw [fc (iblk m c 7 t) (iblk m c 5 t), fs (iblk m c 8 t) (iblk m c 5 t)]
  unfold q0
  rfl

set_option maxHeartbeats 4000000 in
/-- The block of keys after grid point `t`. -/
theorem out10 (c : Dev nD) (t : Fin cfg0.N) : (outsAt0 m c t).2.1
    = View.canon (kTiles (q0 m c) (wc (iblk m c 7 t) (iblk m c 6 t)) (wsn (iblk m c 8 t) (iblk m c 6 t))
        (iblk m c 1 t) (X0_2 m c t) (X0_3 m c t) (X0_4 m c t)) := by
  funext y
  unfold outsAt0
  dsimp only
  frame_out
  dsimp only [Proc.kind]
  have e7 := (ld_all _ inb_S256x64_S256x64_0_0).trans (rd7 t (hs0_7 t) (iblk m c 7 t))
  have e8 := (ld_all _ inb_S256x64_S256x64_0_0).trans (rd8 t (hs0_8 t) (iblk m c 8 t))
  rw [e7, e8]
  rw [f2 (iblk m c 7 t)]
  rw [f1 (iblk m c 8 t), f3, f4]
  simp only [s0_eq, tk11, tk10, tk9, tk8, tk7, tk6, tk5, tk4, tk3, tk2, tk1, tk0, tA]
  rw [tB _ (iblk m c 6 t)]
  rw [fc (iblk m c 7 t) (iblk m c 6 t), fs (iblk m c 8 t) (iblk m c 6 t)]
  unfold q0
  rfl

set_option maxHeartbeats 4000000 in
/-- The block of transposed values after grid point `t`. -/
theorem out11 (c : Dev nD) (t : Fin cfg0.N) : (outsAt0 m c t).2.2
    = View.canon (vTiles (q0 m c)
        (iblk m c 1 t) (X0_2 m c t) (X0_3 m c t) (X0_4 m c t)) := by
  funext y
  unfold outsAt0
  dsimp only
  frame_out
  simp only [s0_eq, tv5, tv4, tv3, tv2, tv1]
  unfold q0
  rfl

end Cert.QkvIdeal.Closed

end
-- ==== Proof.QkvValue.lean ====
/- The q, k and v projection: the kernel's arrays after its run are the reference's entries. -/
module

public import proofs.«01_k».proof.Proof.QkvOuts

@[expose] public section

set_option maxRecDepth 16384

noncomputable section

open Idealize.ShloMosaic Idealize.ShloMosaic.TcCoe Idealize.SL.Sem
open Idealize.ShloMosaic.Pipeline (Dat)
open Cert.QkvRefIdeal.Closed (ms nrm rot hAt headAt)

namespace Cert.QkvIdeal.Closed

open Cert.QkvIdeal Cert.QkvIdeal.Gen

variable (m : (ℓ : Loc nD τ sig) → Buf (Elt Ideal) ℓ)

/-- The weight's block is its first 4608 columns. -/
theorem w_at (c : Dev nD) (t : Fin cfg0.N) (l : Fin 3072) (k : Fin 4608) :
    (X0_2 m c t : FVec Ideal S3072x4608 .fp8e4m3) (ix2 l k)
      = (m ((c : Thread nD τ).loc main_arg1) : FVec Ideal S3072x10752 .fp8e4m3) (ix2 l ⟨k.val, by omega⟩) := by
  unfold X0_2 Pipeline.Window.fill
  rw [dif_pos (moved0_2 t (ix2 l k))]
  blk_ext! [iblk, V, idx t]

theorem ws_at (c : Dev nD) (t : Fin cfg0.N) (k : Fin 4608) :
    (X0_3 m c t : FVec Ideal S1x4608 .f32) (ix2 0 k)
      = (m ((c : Thread nD τ).loc main_arg2) : FVec Ideal S1x10752 .f32) (ix2 0 ⟨k.val, by omega⟩) := by
  unfold X0_3 Pipeline.Window.fill
  rw [dif_pos (moved0_3 t (ix2 0 k))]
  blk_ext! [iblk, V, idx t]

theorem b_at (c : Dev nD) (t : Fin cfg0.N) (k : Fin 4608) :
    (X0_4 m c t : FVec Ideal S1x4608 .f32) (ix2 0 k)
      = (m ((c : Thread nD τ).loc main_arg3) : FVec Ideal S1x10752 .f32) (ix2 0 ⟨k.val, by omega⟩) := by
  unfold X0_4 Pipeline.Window.fill
  rw [dif_pos (moved0_4 t (ix2 0 k))]
  blk_ext! [iblk, V, idx t]

/-- An entry of the block at `t` is the array's entry, 256 t rows further down. -/
theorem hb_eq (c : Dev nD) (t : Fin cfg0.N) (r : Fin 256) (k : Fin 4608) (r' : Fin 8704) (hr : r'.val = t.val * 256 + r.val)
    (k' : Fin 10752) (hk : k'.val = k.val) :
    hb (iblk m c 1 t) (X0_2 m c t) (X0_3 m c t) (X0_4 m c t) (q0 m c) r k
      = hAt (m ((c : Thread nD τ).loc main_arg0)) (m ((c : Thread nD τ).loc main_arg1)) (m ((c : Thread nD τ).loc main_arg2))
        (m ((c : Thread nD τ).loc main_arg3)) (m ((c : Thread nD τ).loc main_arg8)) r' k' := by
  have e : k' = ⟨k.val, by omega⟩ := Fin.ext hk
  rw [e]
  unfold hb hAt q0
  simp only [w_at, ws_at, b_at]
  blk_point [iblk, V, idx t, hr]

/-- The cosines and sines of a block, 256 t rows further down in the array. -/
theorem cos_eq (c : Dev nD) (t : Fin cfg0.N) (r : Fin 256) (q : Fin 64) (r' : Fin 8704) (hr : r'.val = t.val * 256 + r.val) :
    (iblk m c 7 t : FVec Ideal S256x64 .f32) (ix2 r q) = (m ((c : Thread nD τ).loc main_arg6) : FVec Ideal S8704x64 .f32) (ix2 r' q) := by
  blk_point [iblk, V, idx t, hr]

theorem sin_eq (c : Dev nD) (t : Fin cfg0.N) (r : Fin 256) (q : Fin 64) (r' : Fin 8704) (hr : r'.val = t.val * 256 + r.val) :
    (iblk m c 8 t : FVec Ideal S256x64 .f32) (ix2 r q) = (m ((c : Thread nD τ).loc main_arg7) : FVec Ideal S8704x64 .f32) (ix2 r' q) := by
  blk_point [iblk, V, idx t, hr]

theorem qw_eq (c : Dev nD) (t : Fin cfg0.N) (e : Fin 128) :
    (iblk m c 5 t : FVec Ideal S1x128 .f32) (ix2 0 e) = (m ((c : Thread nD τ).loc main_arg4) : FVec Ideal S1x128 .f32) (ix2 0 e) := by
  blk_point [iblk, V, idx t]

theorem kw_eq (c : Dev nD) (t : Fin cfg0.N) (e : Fin 128) :
    (iblk m c 6 t : FVec Ideal S1x128 .f32) (ix2 0 e) = (m ((c : Thread nD τ).loc main_arg5) : FVec Ideal S1x128 .f32) (ix2 0 e) := by
  blk_point [iblk, V, idx t]

/-- The kernel's queries after its run, entry by entry. -/
theorem final9 (c : Dev nD) : (dats m 0 c).arrAt 9 cfg0.N
    = fun y : S2x12x4352x128.Idx => headAt (m ((c : Thread nD τ).loc main_arg0)) (m ((c : Thread nD τ).loc main_arg1))
        (m ((c : Thread nD τ).loc main_arg2)) (m ((c : Thread nD τ).loc main_arg3)) (m ((c : Thread nD τ).loc main_arg8))
        (m ((c : Thread nD τ).loc main_arg4)) (m ((c : Thread nD τ).loc main_arg6)) (m ((c : Thread nD τ).loc main_arg7)) 0
        (y 0) (y 1) (y 2) (y 3) := by
  refine (dats m 0 c).arrAt_eq_of_covers 9 _ (by decide +kernel) fun t _ y => ?_
  blk_simp
  rw [after0_9, out9, qTiles_at]
  idx_vars y
  have hlt : t.val < 34 := t.isLt
  have he : ((cfg0.win 9).blk t).view.emb (ix4 y0 y1 y2 y3)
      = (ix4 ⟨t.val / 17, by omega⟩ y1 ⟨t.val % 17 * 256 + y2.val, by omega⟩ y3 : S2x12x4352x128.Idx) := by
    blk_ext [idx t]
  rw [he]
  have hr : t.val / 17 * 4352 + (t.val % 17 * 256 + y2.val) = t.val * 256 + y2.val := by omega
  have e1 : ∀ e : Fin 128, hb (iblk m c 1 t) (X0_2 m c t) (X0_3 m c t) (X0_4 m c t) (q0 m c) y2
        ⟨0 + (y1.val * 128 + e.val), by omega⟩ = _ :=
    fun e => hb_eq m c t y2 ⟨0 + (y1.val * 128 + e.val), by omega⟩ ⟨t.val / 17 * 4352 + (t.val % 17 * 256 + y2.val), by omega⟩ hr
      ⟨0 + (y1.val * 128 + e.val), by omega⟩ rfl
  have e2 : ∀ q : Fin 64, (iblk m c 7 t : FVec Ideal S256x64 .f32) (ix2 y2 q) = _ :=
    fun q => cos_eq m c t y2 q ⟨t.val / 17 * 4352 + (t.val % 17 * 256 + y2.val), by omega⟩ hr
  have e3 : ∀ q : Fin 64, (iblk m c 8 t : FVec Ideal S256x64 .f32) (ix2 y2 q) = _ :=
    fun q => sin_eq m c t y2 q ⟨t.val / 17 * 4352 + (t.val % 17 * 256 + y2.val), by omega⟩ hr
  unfold headAt
  exact congr (congr (congr (congr (congrArg rot (funext e1)) (funext (qw_eq m c t))) (funext e2)) (funext e3)) rfl

/-- The kernel's keys after its run, entry by entry. -/
theorem final10 (c : Dev nD) : (dats m 0 c).arrAt 10 cfg0.N
    = fun y : S2x12x4352x128.Idx => headAt (m ((c : Thread nD τ).loc main_arg0)) (m ((c : Thread nD τ).loc main_arg1))
        (m ((c : Thread nD τ).loc main_arg2)) (m ((c : Thread nD τ).loc main_arg3)) (m ((c : Thread nD τ).loc main_arg8))
        (m ((c : Thread nD τ).loc main_arg5)) (m ((c : Thread nD τ).loc main_arg6)) (m ((c : Thread nD τ).loc main_arg7)) 1536
        (y 0) (y 1) (y 2) (y 3) := by
  refine (dats m 0 c).arrAt_eq_of_covers 10 _ (by decide +kernel) fun t _ y => ?_
  blk_simp
  rw [after0_10, out10, kTiles_at]
  idx_vars y
  have hlt : t.val < 34 := t.isLt
  have he : ((cfg0.win 10).blk t).view.emb (ix4 y0 y1 y2 y3)
      = (ix4 ⟨t.val / 17, by omega⟩ y1 ⟨t.val % 17 * 256 + y2.val, by omega⟩ y3 : S2x12x4352x128.Idx) := by
    blk_ext [idx t]
  rw [he]
  have hr : t.val / 17 * 4352 + (t.val % 17 * 256 + y2.val) = t.val * 256 + y2.val := by omega
  have e1 : ∀ e : Fin 128, hb (iblk m c 1 t) (X0_2 m c t) (X0_3 m c t) (X0_4 m c t) (q0 m c) y2
        ⟨1536 + (y1.val * 128 + e.val), by omega⟩ = _ :=
    fun e => hb_eq m c t y2 ⟨1536 + (y1.val * 128 + e.val), by omega⟩ ⟨t.val / 17 * 4352 + (t.val % 17 * 256 + y2.val), by omega⟩ hr
      ⟨1536 + (y1.val * 128 + e.val), by omega⟩ rfl
  have e2 : ∀ q : Fin 64, (iblk m c 7 t : FVec Ideal S256x64 .f32) (ix2 y2 q) = _ :=
    fun q => cos_eq m c t y2 q ⟨t.val / 17 * 4352 + (t.val % 17 * 256 + y2.val), by omega⟩ hr
  have e3 : ∀ q : Fin 64, (iblk m c 8 t : FVec Ideal S256x64 .f32) (ix2 y2 q) = _ :=
    fun q => sin_eq m c t y2 q ⟨t.val / 17 * 4352 + (t.val % 17 * 256 + y2.val), by omega⟩ hr
  unfold headAt
  exact congr (congr (congr (congr (congrArg rot (funext e1)) (funext (kw_eq m c t))) (funext e2)) (funext e3)) rfl

/-- The kernel's transposed values after its run, entry by entry. -/
theorem final11 (c : Dev nD) : (dats m 0 c).arrAt 11 cfg0.N
    = fun y : S1536x8704.Idx => hAt (m ((c : Thread nD τ).loc main_arg0)) (m ((c : Thread nD τ).loc main_arg1))
        (m ((c : Thread nD τ).loc main_arg2)) (m ((c : Thread nD τ).loc main_arg3)) (m ((c : Thread nD τ).loc main_arg8))
        (y 1) ⟨3072 + (y 0).val, by have h : (y 0).val < 1536 := (y 0).isLt; omega⟩ := by
  refine (dats m 0 c).arrAt_eq_of_covers 11 _ (by decide +kernel) fun t _ y => ?_
  blk_simp
  rw [after0_11, out11, vTiles_at]
  idx_vars y
  have hlt : t.val < 34 := t.isLt
  have he : ((cfg0.win 11).blk t).view.emb (ix2 y0 y1) = (ix2 y0 ⟨t.val * 256 + y1.val, by omega⟩ : S1536x8704.Idx) := by
    blk_ext [idx t]
  refine hb_eq m c t y1 ⟨3072 + y0.val, by omega⟩ _ ?_ _ ?_
  · exact congrArg (fun z : S1536x8704.Idx => (z 1).val) he
  · have h0 : win0_11.index t 0 = 0 := by simp [idx t]
    show 3072 + (win0_11.index t 0 * 1536 + y0.val) = 3072 + y0.val
    rw [h0]; omega

end Cert.QkvIdeal.Closed

end
-- ==== Proof.QkvEq.lean ====
/- The q, k and v projection's claims: no operation is replaced, and the ideal kernel's results are the reference's. -/
module

public import proofs.«01_k».proof.Defs
public import proofs.«01_k».proof.Proof.QkvValue

@[expose] public section

noncomputable section

open Idealize.ShloMosaic Idealize.ShloMosaic.TcCoe Idealize.SL.Sem

namespace Cert.QkvIdeal.Closed

/-- Nothing is replaced. -/
theorem preserves : Cert.preserves_Qkv_QkvIdeal := trivial

end Cert.QkvIdeal.Closed

namespace Cert.QkvRefIdeal.Closed

open Cert.QkvRefIdeal Cert.QkvRefIdeal.Gen

/-- The reference's queries, after the operations that follow its region. -/
theorem refQ (m : (ℓ : Loc nD τ sig) → Buf (Elt Ideal) ℓ) (c : Dev nD) :
    Read.val_main_v81 (F := Ideal) (Value.exitV m c (Proc.devRef .tc main_arg4)) (Value.exitV m c (Proc.devRef .tc main_arg6)) (Value.exitV m c (Proc.devRef .tc main_arg7)) (Value.exitV m c (Proc.devRef .tc main_v0))
      = fun y : S2x12x4352x128.Idx => headAt (m ((c : Thread nD τ).loc main_arg0)) (m ((c : Thread nD τ).loc main_arg1)) (m ((c : Thread nD τ).loc main_arg2))
        (m ((c : Thread nD τ).loc main_arg3)) (m ((c : Thread nD τ).loc main_arg8)) (m ((c : Thread nD τ).loc main_arg4))
        (m ((c : Thread nD τ).loc main_arg6)) (m ((c : Thread nD τ).loc main_arg7)) 0 (y 0) (y 1) (y 2) (y 3) := by
  rw [Value.exit_main_arg4, Value.exit_main_arg6, Value.exit_main_arg7, Value.exit_main_v0]
  exact finalQ m c

/-- The reference's keys. -/
theorem refK (m : (ℓ : Loc nD τ sig) → Buf (Elt Ideal) ℓ) (c : Dev nD) :
    Read.val_main_v82 (F := Ideal) (Value.exitV m c (Proc.devRef .tc main_arg5)) (Value.exitV m c (Proc.devRef .tc main_arg6)) (Value.exitV m c (Proc.devRef .tc main_arg7)) (Value.exitV m c (Proc.devRef .tc main_v0))
      = fun y : S2x12x4352x128.Idx => headAt (m ((c : Thread nD τ).loc main_arg0)) (m ((c : Thread nD τ).loc main_arg1)) (m ((c : Thread nD τ).loc main_arg2))
        (m ((c : Thread nD τ).loc main_arg3)) (m ((c : Thread nD τ).loc main_arg8)) (m ((c : Thread nD τ).loc main_arg5))
        (m ((c : Thread nD τ).loc main_arg6)) (m ((c : Thread nD τ).loc main_arg7)) 1536 (y 0) (y 1) (y 2) (y 3) := by
  rw [Value.exit_main_arg5, Value.exit_main_arg6, Value.exit_main_arg7, Value.exit_main_v0]
  exact finalK m c

/-- The reference's transposed values. -/
theorem refV (m : (ℓ : Loc nD τ sig) → Buf (Elt Ideal) ℓ) (c : Dev nD) :
    Read.val_main_v83 (F := Ideal) (Value.exitV m c (Proc.devRef .tc main_v0))
      = fun y : S1536x8704.Idx => hAt (m ((c : Thread nD τ).loc main_arg0)) (m ((c : Thread nD τ).loc main_arg1)) (m ((c : Thread nD τ).loc main_arg2))
        (m ((c : Thread nD τ).loc main_arg3)) (m ((c : Thread nD τ).loc main_arg8)) (y 1)
        ⟨3072 + (y 0).val, by have h : (y 0).val < 1536 := (y 0).isLt; omega⟩ := by
  rw [Value.exit_main_v0]
  exact finalV m c

/-- The reference's run, its results entry by entry. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c : Thread nD τ).loc main_v81) = (fun y : S2x12x4352x128.Idx => headAt (m ((c : Thread nD τ).loc main_arg0)) (m ((c : Thread nD τ).loc main_arg1)) (m ((c : Thread nD τ).loc main_arg2))
        (m ((c : Thread nD τ).loc main_arg3)) (m ((c : Thread nD τ).loc main_arg8)) (m ((c : Thread nD τ).loc main_arg4))
        (m ((c : Thread nD τ).loc main_arg6)) (m ((c : Thread nD τ).loc main_arg7)) 0 (y 0) (y 1) (y 2) (y 3))
      ∧ r.2.mem ((c : Thread nD τ).loc main_v82) = (fun y : S2x12x4352x128.Idx => headAt (m ((c : Thread nD τ).loc main_arg0)) (m ((c : Thread nD τ).loc main_arg1)) (m ((c : Thread nD τ).loc main_arg2))
        (m ((c : Thread nD τ).loc main_arg3)) (m ((c : Thread nD τ).loc main_arg8)) (m ((c : Thread nD τ).loc main_arg5))
        (m ((c : Thread nD τ).loc main_arg6)) (m ((c : Thread nD τ).loc main_arg7)) 1536 (y 0) (y 1) (y 2) (y 3))
      ∧ r.2.mem ((c : Thread nD τ).loc main_v83) = (fun y : S1536x8704.Idx => hAt (m ((c : Thread nD τ).loc main_arg0)) (m ((c : Thread nD τ).loc main_arg1)) (m ((c : Thread nD τ).loc main_arg2))
        (m ((c : Thread nD τ).loc main_arg3)) (m ((c : Thread nD τ).loc main_arg8)) (y 1)
        ⟨3072 + (y 0).val, by have h : (y 0).val < 1536 := (y 0).isLt; omega⟩)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c =>
    ⟨(h c).1.trans ((Read.val_main_v81_eq (F := Ideal) (Value.exitV m c)).trans (refQ m c)),
      (h c).2.1.trans ((Read.val_main_v82_eq (F := Ideal) (Value.exitV m c)).trans (refK m c)),
      (h c).2.2.1.trans ((Read.val_main_v83_eq (F := Ideal) (Value.exitV m c)).trans (refV m c)), (h c).2.2.2⟩)
    (Value.run m g)

end Cert.QkvRefIdeal.Closed

namespace Cert.QkvIdeal.Closed

set_option maxHeartbeats 2000000 in
/-- From agreeing arguments the ideal kernel and the ideal reference both run, and end with the same results. -/
theorem algebraic : Cert.algebraic_QkvIdeal_QkvRefIdeal (hQkvIdeal := Cert.QkvIdeal.Gen.facts)
    (hQkvRefIdeal := Cert.QkvRefIdeal.Gen.facts) := by
  pair_intro
  · run_from Cert.QkvIdeal.Gen.run_main m g
  · run_from Cert.QkvRefIdeal.Closed.run m' g'
    · exact (final9 m c).symm
    · exact (final10 m c).symm
    · exact (final11 m c).symm

end Cert.QkvIdeal.Closed

end
-- ==== Proof.MlpRefValue.lean ====
/- What the reference of the mlp up-projection computes, entry by entry. -/
module

public import proofs.«01_k».proof.Proof.Gen.MlpRefIdeal.Value
public import proofs.«01_k».proof.Proof.Consts
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpRefIdeal.Closed

open Cert.MlpRefIdeal Cert.MlpRefIdeal.Gen

variable (m : (ℓ : Loc nD τ sig) → Buf (Elt Ideal) ℓ)

/-- One entry of the dequantised projection, of the 6144 columns from column 4608. -/
def hAt (x : FVec Ideal S8704x3072 .fp8e4m3) (w : FVec Ideal S3072x10752 .fp8e4m3) (ws b : FVec Ideal S1x10752 .f32)
    (s : FVec Ideal S2 .f32) (r : Fin 8704) (k : Fin 6144) : EReal :=
  (∑ l : Fin 3072, x (ix2 r l) * w (ix2 l ⟨4608 + k.val, by omega⟩)) * s (ix1 0) * ws (ix2 0 ⟨4608 + k.val, by omega⟩)
    + b (ix2 0 ⟨4608 + k.val, by omega⟩)

/-- The tanh form of gelu, with its constants as rounded to f32. -/
def gelu (h : EReal) : EReal :=
  Ideal.ofBits .f32 0x3F000000#32 * h + Ideal.ofBits .f32 0x3F000000#32 * h
    * Ideal.tanh (Ideal.ofBits .f32 0x3F4C422A#32 * (h + Ideal.ofBits .f32 0x3D372713#32 * (h * h * h)))

/-- An activation over the codes' scale, clipped to what fp8 holds. -/
def code (g q : EReal) : EReal :=
  min (Ideal.ofBits .f32 0x43E00000#32) (max (Ideal.ofBits .f32 0xC3E00000#32) (Ideal.div g q))

/-- One code. -/
def codeAt (x : FVec Ideal S8704x3072 .fp8e4m3) (w : FVec Ideal S3072x10752 .fp8e4m3) (ws b : FVec Ideal S1x10752 .f32)
    (s : FVec Ideal S2 .f32) (r : Fin 8704) (k : Fin 6144) : EReal :=
  code (gelu (hAt x w ws b s r k)) (s (ix1 1))

/-- The size of an activation. -/
def size (g : EReal) : EReal := max g (-g)

/-- The largest activation, in size. -/
def amaxAt (x : FVec Ideal S8704x3072 .fp8e4m3) (w : FVec Ideal S3072x10752 .fp8e4m3) (ws b : FVec Ideal S1x10752 .f32)
    (s : FVec Ideal S2 .f32) : EReal :=
  ⨆ r : Fin 8704, ⨆ k : Fin 6144, size (gelu (hAt x w ws b s r k))

theorem idx : ∀ t : Fin cfg0.N, win0_0.index t = ![0, 0] ∧ win0_1.index t = ![0, 0] ∧ win0_2.index t = ![0, 0]
    ∧ win0_3.index t = ![0, 0] ∧ win0_4.index t = ![0] ∧ win0_5.index t = ![0, 0] ∧ win0_6.index t = ![0, 0] :=
  (by decide +kernel : ∀ t : Fin grid0.N, _)

/-- The reference's codes after its run, entry by entry. -/
theorem final5 (c : Dev nD) : (dats m 0 c).arrAt 5 cfg0.N
    = fun y : S8704x6144.Idx => codeAt (m ((c : Thread nD τ).loc main_arg0)) (m ((c : Thread nD τ).loc main_arg1))
        (m ((c : Thread nD τ).loc main_arg2)) (m ((c : Thread nD τ).loc main_arg3)) (m ((c : Thread nD τ).loc main_arg4))
        (y 0) (y 1) := by
  refine (dats m 0 c).arrAt_eq_of_covers 5 _ (by decide +kernel) fun t _ y => ?_
  blk_simp
  rw [after0_5]; unfold outsAt0; frame_out
  simp only [read_unread_whole]
  idx_vars y
  have he : ((cfg0.win 5).blk t).view.emb (ix2 y0 y1) = (ix2 y0 y1 : S8704x6144.Idx) := by blk_ext [idx t]
  rw [he]
  unfold codeAt code gelu hAt
  pointwise [k0_pay1, k0_pay2, k0_pay4]
  blk_point [iblk, V, idx t]

set_option maxHeartbeats 2000000 in
/-- The largest size, over arrays. -/
theorem pay3_eq (x : FVec Ideal S8704x3072 .fp8e4m3) (w : FVec Ideal S3072x6144 .fp8e4m3) (q : Ideal .f32)
    (ws b : FVec Ideal S1x6144 .f32) : k0_pay3 (F := Ideal) x w q ws b
      = ⨆ r : Fin 8704, ⨆ k : Fin 6144, size (gelu ((∑ l : Fin 3072, x (ix2 r l) * w (ix2 l k)) * q * ws (ix2 0 k) + b (ix2 0 k))) := by
  have hg : ∀ r k, k0_pay2 (F := Ideal) x w q ws b (ix2 r k)
      = gelu ((∑ l : Fin 3072, x (ix2 r l) * w (ix2 l k)) * q * ws (ix2 0 k) + b (ix2 0 k)) := fun r k => by
    unfold gelu
    pointwise [k0_pay2]
  pointwise [k0_pay3]
  simp only [hg, Consts.neg_inf]
  refine eq_of_forall_ge_iff fun B => ?_
  rw [Finset.fold_max_le]
  simp only [iSup_le_iff, Finset.mem_univ, bot_le, true_and, forall_true_left, Prod.forall]
  rfl

/-- The reference's largest size after its run. -/
theorem final6 (c : Dev nD) : (dats m 0 c).arrAt 6 cfg0.N
    = fun y : S1x1.Idx => amaxAt (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; unfold outsAt0; frame_out
  simp only [read_unread_whole]
  rw [pay3_eq]
  unfold amaxAt hAt
  refine congrArg (iSup (α := EReal)) (funext fun r => congrArg (iSup (α := EReal)) (funext fun k => ?_))
  blk_point [iblk, V, idx t]

end Cert.MlpRefIdeal.Closed

end
-- ==== Proof.MlpTile.lean ====
/- The mlp up-projection: every tile of 256 columns of every block of 512 rows is the reference's entries there, and the
   running maximum over tiles and blocks is the largest size of all. -/
module

public import proofs.«01_k».proof.Proof.Gen.MlpIdeal.Value
public import proofs.«01_k».proof.Proof.MlpRefValue

@[expose] public section

set_option maxRecDepth 16384

noncomputable section

open Idealize.ShloMosaic Idealize.ShloMosaic.TcCoe Idealize.SL.Sem
open Idealize.ShloMosaic.Pipeline (Dat)
open Cert.MlpRefIdeal.Closed (hAt gelu code codeAt size amaxAt)

namespace Cert.MlpIdeal.Closed

open Cert.MlpIdeal Cert.MlpIdeal.Gen

/-! ## One tile

The body treats its 24 tiles alike: each tile's codes are `k0_pay10`, and each step of the running maximum is `k0_pay9`,
of that tile's columns. -/

section Tiles

variable (v0 v1 : EReal) (x : FVec Ideal S512x3072 .fp8e4m3) (w w' : FVec Ideal S3072x256 .fp8e4m3)
  (ws b ws' b' : FVec Ideal S1x256 .f32) (p : FVec Ideal S8x256 .f32)

theorem c0 : k0_pay7 (F := Ideal) (k0_pay5 v0 v1 x w ws b) (FloatOps.ofBits .f32 0x43E00000#32) k0_pay6 = k0_pay10 v0 v1 x w ws b := rfl
theorem r0 : k0_pay4 (F := Ideal) v0 p x w ws b = k0_pay9 v0 p x w ws b := rfl
theorem c2 : k0_pay13 (F := Ideal) v0 v1 x w ws b = k0_pay10 v0 v1 x w ws b := rfl
theorem r2 : k0_pay12 (F := Ideal) v0 p x w ws b = k0_pay9 v0 p x w ws b := rfl
theorem c3 : k0_pay16 (F := Ideal) v0 v1 x w ws b = k0_pay10 v0 v1 x w ws b := rfl
theorem r3 : k0_pay15 (F := Ideal) v0 p x w ws b = k0_pay9 v0 p x w ws b := rfl
theorem c4 : k0_pay20 (F := Ideal) v1 (k0_pay17 v0 x w) ws b = k0_pay10 v0 v1 x w ws b := rfl
theorem r4 : k0_pay19 (F := Ideal) p (k0_pay17 v0 x w) ws b = k0_pay9 v0 p x w ws b := rfl
theorem c5 : k0_pay24 (F := Ideal) v1 (k0_pay21 v0 x w ws) b = k0_pay10 v0 v1 x w ws b := rfl
theorem r5 : k0_pay23 (F := Ideal) p (k0_pay21 v0 x w ws) b = k0_pay9 v0 p x w ws b := rfl
theorem c6 : k0_pay28 (F := Ideal) v1 (k0_pay25 v0 x w ws b) = k0_pay10 v0 v1 x w ws b := rfl
theorem r6 : k0_pay27 (F := Ideal) p (k0_pay25 v0 x w ws b) = k0_pay9 v0 p x w ws b := rfl
theorem c7 : k0_pay34 (F := Ideal) v1 (k0_pay29 v0 x w ws b) (k0_pay30 v0 x w ws b) k0_pay31 = k0_pay10 v0 v1 x w ws b := rfl
theorem r7 : k0_pay33 (F := Ideal) p (k0_pay29 v0 x w ws b) (k0_pay30 v0 x w ws b) k0_pay31 = k0_pay9 v0 p x w ws b := rfl
theorem c8 : k0_pay40 (F := Ideal) v1 (k0_pay36 v0 x w ws b) (k0_pay37 v0 x w ws b) = k0_pay10 v0 v1 x w ws b := rfl
theorem r8 : k0_pay39 (F := Ideal) p (k0_pay36 v0 x w ws b) (k0_pay37 v0 x w ws b) = k0_pay9 v0 p x w ws b := rfl
theorem c9 : k0_pay43 (F := Ideal) v1 (k0_pay41 v0 x w ws b) = k0_pay10 v0 v1 x w ws b := rfl
theorem c10 : k0_pay48 (F := Ideal) (k0_pay46 v0 v1 x w ws b) (FloatOps.ofBits .f32 0x43E00000#32) k0_pay47 = k0_pay10 v0 v1 x w ws b := rfl
theorem r10 : k0_pay45 (F := Ideal) v0 p (k0_pay42 v0 x w ws b) x w' ws' b' = k0_pay9 v0 (k0_pay9 v0 p x w ws b) x w' ws' b' := rfl
theorem c11 : k0_pay51 (F := Ideal) v0 v1 x w ws b = k0_pay10 v0 v1 x w ws b := rfl
theorem r11 : k0_pay50 (F := Ideal) v0 p x w ws b = k0_pay9 v0 p x w ws b := rfl
theorem c12 : k0_pay54 (F := Ideal) v0 v1 x w ws b = k0_pay10 v0 v1 x w ws b := rfl
theorem r12 : k0_pay53 (F := Ideal) v0 p x w ws b = k0_pay9 v0 p x w ws b := rfl
theorem c13 : k0_pay57 (F := Ideal) v0 v1 x w ws b = k0_pay10 v0 v1 x w ws b := rfl
theorem r13 : k0_pay56 (F := Ideal) v0 p x w ws b = k0_pay9 v0 p x w ws b := rfl
theorem c14 : k0_pay61 (F := Ideal) v1 (k0_pay58 v0 x w) ws b = k0_pay10 v0 v1 x w ws b := rfl
theorem r14 : k0_pay60 (F := Ideal) p (k0_pay58 v0 x w) ws b = k0_pay9 v0 p x w ws b := rfl
theorem c15 : k0_pay65 (F := Ideal) v1 (k0_pay62 v0 x w ws) b = k0_pay10 v0 v1 x w ws b := rfl
theorem r15 : k0_pay64 (F := Ideal) p (k0_pay62 v0 x w ws) b = k0_pay9 v0 p x w ws b := rfl
theorem c16 : k0_pay69 (F := Ideal) v1 (k0_pay66 v0 x w ws b) = k0_pay10 v0 v1 x w ws b := rfl
theorem r16 : k0_pay68 (F := Ideal) p (k0_pay66 v0 x w ws b) = k0_pay9 v0 p x w ws b := rfl
theorem c17 : k0_pay75 (F := Ideal) v1 (k0_pay70 v0 x w ws b) (k0_pay71 v0 x w ws b) k0_pay72 = k0_pay10 v0 v1 x w ws b := rfl
theorem r17 : k0_pay74 (F := Ideal) p (k0_pay70 v0 x w ws b) (k0_pay71 v0 x w ws b) k0_pay72 = k0_pay9 v0 p x w ws b := rfl
theorem c18 : k0_pay81 (F := Ideal) v1 (k0_pay77 v0 x w ws b) (k0_pay78 v0 x w ws b) = k0_pay10 v0 v1 x w ws b := rfl
theorem r18 : k0_pay80 (F := Ideal) p (k0_pay77 v0 x w ws b) (k0_pay78 v0 x w ws b) = k0_pay9 v0 p x w ws b := rfl
theorem c19 : k0_pay84 (F := Ideal) v1 (k0_pay82 v0 x w ws b) = k0_pay10 v0 v1 x w ws b := rfl
theorem c20 : k0_pay89 (F := Ideal) (k0_pay87 v0 v1 x w ws b) (FloatOps.ofBits .f32 0x43E00000#32) k0_pay88 = k0_pay10 v0 v1 x w ws b := rfl
theorem r20 : k0_pay86 (F := Ideal) v0 p (k0_pay83 v0 x w ws b) x w' ws' b' = k0_pay9 v0 (k0_pay9 v0 p x w ws b) x w' ws' b' := rfl
theorem c21 : k0_pay92 (F := Ideal) v0 v1 x w ws b = k0_pay10 v0 v1 x w ws b := rfl
theorem r21 : k0_pay91 (F := Ideal) v0 p x w ws b = k0_pay9 v0 p x w ws b := rfl
theorem c22 : k0_pay95 (F := Ideal) v0 v1 x w ws b = k0_pay10 v0 v1 x w ws b := rfl
theorem r22 : k0_pay94 (F := Ideal) v0 p x w ws b = k0_pay9 v0 p x w ws b := rfl
theorem c23 : k0_pay97 (F := Ideal) v0 v1 x w ws b = k0_pay10 v0 v1 x w ws b := rfl
theorem r23 : k0_pay98 (F := Ideal) v0 p x w ws b = k0_pay9 v0 p x w ws b :=
  shapeCast_self (k0_pay9 (F := Ideal) v0 p x w ws b) shapeCasts_S8x256_S8x256

end Tiles

/-- The kernel's inner value of gelu is the reference's: the constants multiply out, also at the infinities. -/
theorem gelu_eq (h : EReal) :
    Ideal.ofBits .f32 0x3F000000#32 * h + Ideal.ofBits .f32 0x3F000000#32 * h
      * Ideal.tanh (h * (Ideal.ofBits .f32 0x3F4C422A#32 + Named.named (F := Ideal) κ "gelu_cubic" (φ := .f32) 0x3D122279#32 * (h * h)))
    = gelu h := by
  have hu : h * (Ideal.ofBits .f32 0x3F4C422A#32 + Named.named (F := Ideal) κ "gelu_cubic" (φ := .f32) 0x3D122279#32 * (h * h))
      = Ideal.ofBits .f32 0x3F4C422A#32 * (h + Ideal.ofBits .f32 0x3D372713#32 * (h * h * h)) := by
    rw [IdealRules.named_const.ideal_named_scalar (κ := κ) (name := "gelu_cubic") (φ := .f32) _ _ rfl, Consts.gelu_c, Consts.gelu_k]
    induction h with
    | bot =>
      rw [EReal.bot_mul_bot, EReal.top_mul_bot, EReal.coe_mul_top_of_pos (by norm_num), EReal.coe_mul_bot_of_pos (by norm_num),
        EReal.coe_add_top, EReal.bot_mul_top, EReal.bot_add, EReal.coe_mul_bot_of_pos (by norm_num)]
    | top =>
      rw [EReal.top_mul_top, EReal.top_mul_top, EReal.coe_mul_top_of_pos (by norm_num), EReal.coe_mul_top_of_pos (by norm_num),
        EReal.coe_add_top, EReal.top_mul_top, EReal.top_add_top, EReal.coe_mul_top_of_pos (by norm_num)]
    | coe r =>
      norm_cast
      ring
  rw [hu]; rfl

set_option maxHeartbeats 1000000 in
/-- One code of a tile. -/
theorem code_at (v0 v1 : EReal) (x : FVec Ideal S512x3072 .fp8e4m3) (w : FVec Ideal S3072x256 .fp8e4m3) (ws b : FVec Ideal S1x256 .f32)
    (r : Fin 512) (k : Fin 256) : k0_pay10 (F := Ideal) v0 v1 x w ws b (ix2 r k)
      = code (gelu ((∑ l : Fin 3072, x (ix2 r l) * w (ix2 l k)) * v0 * ws (ix2 0 k) + b (ix2 0 k))) v1 := by
  rw [← gelu_eq]
  unfold code
  pointwise [k0_pay10, k0_pay8]

/-- One entry of the projection over a block of rows, at the column `J + k` of the 6144. -/
def hb (x : FVec Ideal S512x3072 .fp8e4m3) (W : FVec Ideal S3072x6144 .fp8e4m3) (WS B : FVec Ideal S1x6144 .f32)
    (v0 : EReal) (r : Fin 512) (k : Fin 6144) : EReal :=
  (∑ l : Fin 3072, x (ix2 r l) * W (ix2 l k)) * v0 * WS (ix2 0 k) + B (ix2 0 k)

set_option maxHeartbeats 1000000 in
/-- One step of the running maximum, by its upper bounds: over the 64 rows of the tile that fall on row `r` of 8. -/
theorem run_le (v0 : EReal) (x : FVec Ideal S512x3072 .fp8e4m3) (W : FVec Ideal S3072x6144 .fp8e4m3)
    (WS BB : FVec Ideal S1x6144 .f32) (p : FVec Ideal S8x256 .f32) (J : ℕ)
    (i1 : ∀ a, (![0, J] : Fin 2 → ℕ) a + S3072x256.size a ≤ S3072x6144.size a)
    (i2 i3 : ∀ a, (![0, J] : Fin 2 → ℕ) a + S1x256.size a ≤ S1x6144.size a) (hJ : J ≤ 5888)
    (r : Fin 8) (k : Fin 256) (B : EReal) :
    k0_pay9 (F := Ideal) v0 p x (View.ld (S := S3072x6144) (Val := Elt Ideal) (e' := .fp8e4m3) W (Rect.unit ![0, J] ![3072, 256] i1)) (View.ld (S := S1x6144) (Val := Elt Ideal) (e' := .f32) WS (Rect.unit ![0, J] ![1, 256] i2))
        (View.ld (S := S1x6144) (Val := Elt Ideal) (e' := .f32) BB (Rect.unit ![0, J] ![1, 256] i3)) (ix2 r k) ≤ B
      ↔ p (ix2 r k) ≤ B ∧ ∀ i : Fin 64, size (gelu (hb x W WS BB v0 ⟨i.val * 8 + r.val, by omega⟩ ⟨J + k.val, by omega⟩)) ≤ B := by
  have hg : ∀ (r : Fin 512), k0_pay8 (F := Ideal) v0 x (View.ld (S := S3072x6144) (Val := Elt Ideal) (e' := .fp8e4m3) W (Rect.unit ![0, J] ![3072, 256] i1))
        (View.ld (S := S1x6144) (Val := Elt Ideal) (e' := .f32) WS (Rect.unit ![0, J] ![1, 256] i2)) (View.ld (S := S1x6144) (Val := Elt Ideal) (e' := .f32) BB (Rect.unit ![0, J] ![1, 256] i3)) (ix2 r k)
      = gelu (hb x W WS BB v0 r ⟨J + k.val, by omega⟩) := fun r => by
    rw [← gelu_eq]
    unfold hb
    pointwise [k0_pay8]
  pointwise [k0_pay9]
  simp only [hg, Consts.neg_inf]
  rw [max_le_iff, Finset.fold_max_le]
  simp only [Finset.mem_univ, bot_le, true_and, forall_true_left]
  rfl

/-- The block of codes, as the 24 stores leave it. -/
def codeTiles (v0 v1 : EReal) (x : FVec Ideal S512x3072 .fp8e4m3) (W : FVec Ideal S3072x6144 .fp8e4m3)
    (WS BB : FVec Ideal S1x6144 .f32) : List (View.Piece (Elt Ideal) S512x6144 .fp8e4m3) :=
  [ ⟨Rect.unit ![0, 5888] ![512, 256] inb_S512x6144_S512x256_0_5888,
      k0_pay10 (F := Ideal) v0 v1 x (View.ld (S := S3072x6144) (Val := Elt Ideal) (e' := .fp8e4m3) W (Rect.unit ![0, 5888] ![3072, 256] inb_S3072x6144_S3072x256_0_5888)) (View.ld (S := S1x6144) (Val := Elt Ideal) (e' := .f32) WS (Rect.unit ![0, 5888] ![1, 256] inb_S1x6144_S1x256_0_5888)) (View.ld (S := S1x6144) (Val := Elt Ideal) (e' := .f32) BB (Rect.unit ![0, 5888] ![1, 256] inb_S1x6144_S1x256_0_5888))⟩,
    ⟨Rect.unit ![0, 5632] ![512, 256] inb_S512x6144_S512x256_0_5632,
      k0_pay10 (F := Ideal) v0 v1 x (View.ld (S := S3072x6144) (Val := Elt Ideal) (e' := .fp8e4m3) W (Rect.unit ![0, 5632] ![3072, 256] inb_S3072x6144_S3072x256_0_5632)) (View.ld (S := S1x6144) (Val := Elt Ideal) (e' := .f32) WS (Rect.unit ![0, 5632] ![1, 256] inb_S1x6144_S1x256_0_5632)) (View.ld (S := S1x6144) (Val := Elt Ideal) (e' := .f32) BB (Rect.unit ![0, 5632] ![1, 256] inb_S1x6144_S1x256_0_5632))⟩,
    ⟨Rect.unit ![0, 5376] ![512, 256] inb_S512x6144_S512x256_0_5376,
      k0_pay10 (F := Ideal) v0 v1 x (View.ld (S := S3072x6144) (Val := Elt Ideal) (e' := .fp8e4m3) W (Rect.unit ![0, 5376] ![3072, 256] inb_S3072x6144_S3072x256_0_5376)) (View.ld (S := S1x6144) (Val := Elt Ideal) (e' := .f32) WS (Rect.unit ![0, 5376] ![1, 256] inb_S1x6144_S1x256_0_5376)) (View.ld (S := S1x6144) (Val := Elt Ideal) (e' := .f32) BB (Rect.unit ![0, 5376] ![1, 256] inb_S1x6144_S1x256_0_5376))⟩,
    ⟨Rect.unit ![0, 5120] ![512, 256] inb_S512x6144_S512x256_0_5120,
      k0_pay10 (F := Ideal) v0 v1 x (View.ld (S := S3072x6144) (Val := Elt Ideal) (e' := .fp8e4m3) W (Rect.unit ![0, 5120] ![3072, 256] inb_S3072x6144_S3072x256_0_5120)) (View.ld (S := S1x6144) (Val := Elt Ideal) (e' := .f32) WS (Rect.unit ![0, 5120] ![1, 256] inb_S1x6144_S1x256_0_5120)) (View.ld (S := S1x6144) (Val := Elt Ideal) (e' := .f32) BB (Rect.unit ![0, 5120] ![1, 256] inb_S1x6144_S1x256_0_5120))⟩,
    ⟨Rect.unit ![0, 4864] ![512, 256] inb_S512x6144_S512x256_0_4864,
      k0_pay10 (F := Ideal) v0 v1 x (View.ld (S := S3072x6144) (Val := Elt Ideal) (e' := .fp8e4m3) W (Rect.unit ![0, 4864] ![3072, 256] inb_S3072x6144_S3072x256_0_4864)) (View.ld (S := S1x6144) (Val := Elt Ideal) (e' := .f32) WS (Rect.unit ![0, 4864] ![1, 256] inb_S1x6144_S1x256_0_4864)) (View.ld (S := S1x6144) (Val := Elt Ideal) (e' := .f32) BB (Rect.unit ![0, 4864] ![1, 256] inb_S1x6144_S1x256_0_4864))⟩,
    ⟨Rect.unit ![0, 4608] ![512, 256] inb_S512x6144_S512x256_0_4608,
      k0_pay10 (F := Ideal) v0 v1 x (View.ld (S := S3072x6144) (Val := Elt Ideal) (e' := .fp8e4m3) W (Rect.unit ![0, 4608] ![3072, 256] inb_S3072x6144_S3072x256_0_4608)) (View.ld (S := S1x6144) (Val := Elt Ideal) (e' := .f32) WS (Rect.unit ![0, 4608] ![1, 256] inb_S1x6144_S1x256_0_4608)) (View.ld (S := S1x6144) (Val := Elt Ideal) (e' := .f32) BB (Rect.unit ![0, 4608] ![1, 256] inb_S1x6144_S1x256_0_4608))⟩,
    ⟨Rect.unit ![0, 4352] ![512, 256] inb_S512x6144_S512x256_0_4352,
      k0_pay10 (F := Ideal) v0 v1 x (View.ld (S := S3072x6144) (Val := Elt Ideal) (e' := .fp8e4m3) W (Rect.unit ![0, 4352] ![3072, 256] inb_S3072x6144_S3072x256_0_4352)) (View.ld (S := S1x6144) (Val := Elt Ideal) (e' := .f32) WS (Rect.unit ![0, 4352] ![1, 256] inb_S1x6144_S1x256_0_4352)) (View.ld (S := S1x6144) (Val := Elt Ideal) (e' := .f32) BB (Rect.unit ![0, 4352] ![1, 256] inb_S1x6144_S1x256_0_4352))⟩,
    ⟨Rect.unit ![0, 4096] ![512, 256] inb_S512x6144_S512x256_0_4096,
      k0_pay10 (F := Ideal) v0 v1 x (View.ld (S := S3072x6144) (Val := Elt Ideal) (e' := .fp8e4m3) W (Rect.unit ![0, 4096] ![3072, 256] inb_S3072x6144_S3072x256_0_4096)) (View.ld (S := S1x6144) (Val := Elt Ideal) (e' := .f32) WS (Rect.unit ![0, 4096] ![1, 256] inb_S1x6144_S1x256_0_4096)) (View.ld (S := S1x6144) (Val := Elt Ideal) (e' := .f32) BB (Rect.unit ![0, 4096] ![1, 256] inb_S1x6144_S1x256_0_4096))⟩,
    ⟨Rect.unit ![0, 3840] ![512, 256] inb_S512x6144_S512x256_0_3840,
      k0_pay10 (F := Ideal) v0 v1 x (View.ld (S := S3072x6144) (Val := Elt Ideal) (e' := .fp8e4m3) W (Rect.unit ![0, 3840] ![3072, 256] inb_S3072x6144_S3072x256_0_3840)) (View.ld (S := S1x6144) (Val := Elt Ideal) (e' := .f32) WS (Rect.unit ![0, 3840] ![1, 256] inb_S1x6144_S1x256_0_3840)) (View.ld (S := S1x6144) (Val := Elt Ideal) (e' := .f32) BB (Rect.unit ![0, 3840] ![1, 256] inb_S1x6144_S1x256_0_3840))⟩,
    ⟨Rect.unit ![0, 3584] ![512, 256] inb_S512x6144_S512x256_0_3584,
      k0_pay10 (F := Ideal) v0 v1 x (View.ld (S := S3072x6144) (Val := Elt Ideal) (e' := .fp8e4m3) W (Rect.unit ![0, 3584] ![3072, 256] inb_S3072x6144_S3072x256_0_3584)) (View.ld (S := S1x6144) (Val := Elt Ideal) (e' := .f32) WS (Rect.unit ![0, 3584] ![1, 256] inb_S1x6144_S1x256_0_3584)) (View.ld (S := S1x6144) (Val := Elt Ideal) (e' := .f32) BB (Rect.unit ![0, 3584] ![1, 256] inb_S1x6144_S1x256_0_3584))⟩,
    ⟨Rect.unit ![0, 3328] ![512, 256] inb_S512x6144_S512x256_0_3328,
      k0_pay10 (F := Ideal) v0 v1 x (View.ld (S := S3072x6144) (Val := Elt Ideal) (e' := .fp8e4m3) W (Rect.unit ![0, 3328] ![3072, 256] inb_S3072x6144_S3072x256_0_3328)) (View.ld (S := S1x6144) (Val := Elt Ideal) (e' := .f32) WS (Rect.unit ![0, 3328] ![1, 256] inb_S1x6144_S1x256_0_3328)) (View.ld (S := S1x6144) (Val := Elt Ideal) (e' := .f32) BB (Rect.unit ![0, 3328] ![1, 256] inb_S1x6144_S1x256_0_3328))⟩,
    ⟨Rect.unit ![0, 3072] ![512, 256] inb_S512x6144_S512x256_0_3072,
      k0_pay10 (F := Ideal) v0 v1 x (View.ld (S := S3072x6144) (Val := Elt Ideal) (e' := .fp8e4m3) W (Rect.unit ![0, 3072] ![3072, 256] inb_S3072x6144_S3072x256_0_3072)) (View.ld (S := S1x6144) (Val := Elt Ideal) (e' := .f32) WS (Rect.unit ![0, 3072] ![1, 256] inb_S1x6144_S1x256_0_3072)) (View.ld (S := S1x6144) (Val := Elt Ideal) (e' := .f32) BB (Rect.unit ![0, 3072] ![1, 256] inb_S1x6144_S1x256_0_3072))⟩,
    ⟨Rect.unit ![0, 2816] ![512, 256] inb_S512x6144_S512x256_0_2816,
      k0_pay10 (F := Ideal) v0 v1 x (View.ld (S := S3072x6144) (Val := Elt Ideal) (e' := .fp8e4m3) W (Rect.unit ![0, 2816] ![3072, 256] inb_S3072x6144_S3072x256_0_2816)) (View.ld (S := S1x6144) (Val := Elt Ideal) (e' := .f32) WS (Rect.unit ![0, 2816] ![1, 256] inb_S1x6144_S1x256_0_2816)) (View.ld (S := S1x6144) (Val := Elt Ideal) (e' := .f32) BB (Rect.unit ![0, 2816] ![1, 256] inb_S1x6144_S1x256_0_2816))⟩,
    ⟨Rect.unit ![0, 2560] ![512, 256] inb_S512x6144_S512x256_0_2560,
      k0_pay10 (F := Ideal) v0 v1 x (View.ld (S := S3072x6144) (Val := Elt Ideal) (e' := .fp8e4m3) W (Rect.unit ![0, 2560] ![3072, 256] inb_S3072x6144_S3072x256_0_2560)) (View.ld (S := S1x6144) (Val := Elt Ideal) (e' := .f32) WS (Rect.unit ![0, 2560] ![1, 256] inb_S1x6144_S1x256_0_2560)) (View.ld (S := S1x6144) (Val := Elt Ideal) (e' := .f32) BB (Rect.unit ![0, 2560] ![1, 256] inb_S1x6144_S1x256_0_2560))⟩,
    ⟨Rect.unit ![0, 2304] ![512, 256] inb_S512x6144_S512x256_0_2304,
      k0_pay10 (F := Ideal) v0 v1 x (View.ld (S := S3072x6144) (Val := Elt Ideal) (e' := .fp8e4m3) W (Rect.unit ![0, 2304] ![3072, 256] inb_S3072x6144_S3072x256_0_2304)) (View.ld (S := S1x6144) (Val := Elt Ideal) (e' := .f32) WS (Rect.unit ![0, 2304] ![1, 256] inb_S1x6144_S1x256_0_2304)) (View.ld (S := S1x6144) (Val := Elt Ideal) (e' := .f32) BB (Rect.unit ![0, 2304] ![1, 256] inb_S1x6144_S1x256_0_2304))⟩,
    ⟨Rect.unit ![0, 2048] ![512, 256] inb_S512x6144_S512x256_0_2048,
      k0_pay10 (F := Ideal) v0 v1 x (View.ld (S := S3072x6144) (Val := Elt Ideal) (e' := .fp8e4m3) W (Rect.unit ![0, 2048] ![3072, 256] inb_S3072x6144_S3072x256_0_2048)) (View.ld (S := S1x6144) (Val := Elt Ideal) (e' := .f32) WS (Rect.unit ![0, 2048] ![1, 256] inb_S1x6144_S1x256_0_2048)) (View.ld (S := S1x6144) (Val := Elt Ideal) (e' := .f32) BB (Rect.unit ![0, 2048] ![1, 256] inb_S1x6144_S1x256_0_2048))⟩,
    ⟨Rect.unit ![0, 1792] ![512, 256] inb_S512x6144_S512x256_0_1792,
      k0_pay10 (F := Ideal) v0 v1 x (View.ld (S := S3072x6144) (Val := Elt Ideal) (e' := .fp8e4m3) W (Rect.unit ![0, 1792] ![3072, 256] inb_S3072x6144_S3072x256_0_1792)) (View.ld (S := S1x6144) (Val := Elt Ideal) (e' := .f32) WS (Rect.unit ![0, 1792] ![1, 256] inb_S1x6144_S1x256_0_1792)) (View.ld (S := S1x6144) (Val := Elt Ideal) (e' := .f32) BB (Rect.unit ![0, 1792] ![1, 256] inb_S1x6144_S1x256_0_1792))⟩,
    ⟨Rect.unit ![0, 1536] ![512, 256] inb_S512x6144_S512x256_0_1536,
      k0_pay10 (F := Ideal) v0 v1 x (View.ld (S := S3072x6144) (Val := Elt Ideal) (e' := .fp8e4m3) W (Rect.unit ![0, 1536] ![3072, 256] inb_S3072x6144_S3072x256_0_1536)) (View.ld (S := S1x6144) (Val := Elt Ideal) (e' := .f32) WS (Rect.unit ![0, 1536] ![1, 256] inb_S1x6144_S1x256_0_1536)) (View.ld (S := S1x6144) (Val := Elt Ideal) (e' := .f32) BB (Rect.unit ![0, 1536] ![1, 256] inb_S1x6144_S1x256_0_1536))⟩,
    ⟨Rect.unit ![0, 1280] ![512, 256] inb_S512x6144_S512x256_0_1280,
      k0_pay10 (F := Ideal) v0 v1 x (View.ld (S := S3072x6144) (Val := Elt Ideal) (e' := .fp8e4m3) W (Rect.unit ![0, 1280] ![3072, 256] inb_S3072x6144_S3072x256_0_1280)) (View.ld (S := S1x6144) (Val := Elt Ideal) (e' := .f32) WS (Rect.unit ![0, 1280] ![1, 256] inb_S1x6144_S1x256_0_1280)) (View.ld (S := S1x6144) (Val := Elt Ideal) (e' := .f32) BB (Rect.unit ![0, 1280] ![1, 256] inb_S1x6144_S1x256_0_1280))⟩,
    ⟨Rect.unit ![0, 1024] ![512, 256] inb_S512x6144_S512x256_0_1024,
      k0_pay10 (F := Ideal) v0 v1 x (View.ld (S := S3072x6144) (Val := Elt Ideal) (e' := .fp8e4m3) W (Rect.unit ![0, 1024] ![3072, 256] inb_S3072x6144_S3072x256_0_1024)) (View.ld (S := S1x6144) (Val := Elt Ideal) (e' := .f32) WS (Rect.unit ![0, 1024] ![1, 256] inb_S1x6144_S1x256_0_1024)) (View.ld (S := S1x6144) (Val := Elt Ideal) (e' := .f32) BB (Rect.unit ![0, 1024] ![1, 256] inb_S1x6144_S1x256_0_1024))⟩,
    ⟨Rect.unit ![0, 768] ![512, 256] inb_S512x6144_S512x256_0_768,
      k0_pay10 (F := Ideal) v0 v1 x (View.ld (S := S3072x6144) (Val := Elt Ideal) (e' := .fp8e4m3) W (Rect.unit ![0, 768] ![3072, 256] inb_S3072x6144_S3072x256_0_768)) (View.ld (S := S1x6144) (Val := Elt Ideal) (e' := .f32) WS (Rect.unit ![0, 768] ![1, 256] inb_S1x6144_S1x256_0_768)) (View.ld (S := S1x6144) (Val := Elt Ideal) (e' := .f32) BB (Rect.unit ![0, 768] ![1, 256] inb_S1x6144_S1x256_0_768))⟩,
    ⟨Rect.unit ![0, 512] ![512, 256] inb_S512x6144_S512x256_0_512,
      k0_pay10 (F := Ideal) v0 v1 x (View.ld (S := S3072x6144) (Val := Elt Ideal) (e' := .fp8e4m3) W (Rect.unit ![0, 512] ![3072, 256] inb_S3072x6144_S3072x256_0_512)) (View.ld (S := S1x6144) (Val := Elt Ideal) (e' := .f32) WS (Rect.unit ![0, 512] ![1, 256] inb_S1x6144_S1x256_0_512)) (View.ld (S := S1x6144) (Val := Elt Ideal) (e' := .f32) BB (Rect.unit ![0, 512] ![1, 256] inb_S1x6144_S1x256_0_512))⟩,
    ⟨Rect.unit ![0, 256] ![512, 256] inb_S512x6144_S512x256_0_256,
      k0_pay10 (F := Ideal) v0 v1 x (View.ld (S := S3072x6144) (Val := Elt Ideal) (e' := .fp8e4m3) W (Rect.unit ![0, 256] ![3072, 256] inb_S3072x6144_S3072x256_0_256)) (View.ld (S := S1x6144) (Val := Elt Ideal) (e' := .f32) WS (Rect.unit ![0, 256] ![1, 256] inb_S1x6144_S1x256_0_256)) (View.ld (S := S1x6144) (Val := Elt Ideal) (e' := .f32) BB (Rect.unit ![0, 256] ![1, 256] inb_S1x6144_S1x256_0_256))⟩,
    ⟨Rect.unit ![0, 0] ![512, 256] inb_S512x6144_S512x256_0_0,
      k0_pay10 (F := Ideal) v0 v1 x (View.ld (S := S3072x6144) (Val := Elt Ideal) (e' := .fp8e4m3) W (Rect.unit ![0, 0] ![3072, 256] inb_S3072x6144_S3072x256_0_0)) (View.ld (S := S1x6144) (Val := Elt Ideal) (e' := .f32) WS (Rect.unit ![0, 0] ![1, 256] inb_S1x6144_S1x256_0_0)) (View.ld (S := S1x6144) (Val := Elt Ideal) (e' := .f32) BB (Rect.unit ![0, 0] ![1, 256] inb_S1x6144_S1x256_0_0))⟩]

/-- The running maximum after the 24 tiles of a block, from what it was before. -/
def run (v0 : EReal) (p : FVec Ideal S8x256 .f32) (x : FVec Ideal S512x3072 .fp8e4m3) (W : FVec Ideal S3072x6144 .fp8e4m3)
    (WS BB : FVec Ideal S1x6144 .f32) : FVec Ideal S8x256 .f32 :=
  k0_pay9 (F := Ideal) v0 (
  k0_pay9 (F := Ideal) v0 (
  k0_pay9 (F := Ideal) v0 (
  k0_pay9 (F := Ideal) v0 (
  k0_pay9 (F := Ideal) v0 (
  k0_pay9 (F := Ideal) v0 (
  k0_pay9 (F := Ideal) v0 (
  k0_pay9 (F := Ideal) v0 (
  k0_pay9 (F := Ideal) v0 (
  k0_pay9 (F := Ideal) v0 (
  k0_pay9 (F := Ideal) v0 (
  k0_pay9 (F := Ideal) v0 (
  k0_pay9 (F := Ideal) v0 (
  k0_pay9 (F := Ideal) v0 (
  k0_pay9 (F := Ideal) v0 (
  k0_pay9 (F := Ideal) v0 (
  k0_pay9 (F := Ideal) v0 (
  k0_pay9 (F := Ideal) v0 (
  k0_pay9 (F := Ideal) v0 (
  k0_pay9 (F := Ideal) v0 (
  k0_pay9 (F := Ideal) v0 (
  k0_pay9 (F := Ideal) v0 (
  k0_pay9 (F := Ideal) v0 (
  k0_pay9 (F := Ideal) v0 p x (View.ld (S := S3072x6144) (Val := Elt Ideal) (e' := .fp8e4m3) W (Rect.unit ![0, 0] ![3072, 256] inb_S3072x6144_S3072x256_0_0)) (View.ld (S := S1x6144) (Val := Elt Ideal) (e' := .f32) WS (Rect.unit ![0, 0] ![1, 256] inb_S1x6144_S1x256_0_0)) (View.ld (S := S1x6144) (Val := Elt Ideal) (e' := .f32) BB (Rect.unit ![0, 0] ![1, 256] inb_S1x6144_S1x256_0_0))) x (View.ld (S := S3072x6144) (Val := Elt Ideal) (e' := .fp8e4m3) W (Rect.unit ![0, 256] ![3072, 256] inb_S3072x6144_S3072x256_0_256)) (View.ld (S := S1x6144) (Val := Elt Ideal) (e' := .f32) WS (Rect.unit ![0, 256] ![1, 256] inb_S1x6144_S1x256_0_256)) (View.ld (S := S1x6144) (Val := Elt Ideal) (e' := .f32) BB (Rect.unit ![0, 256] ![1, 256] inb_S1x6144_S1x256_0_256))) x (View.ld (S := S3072x6144) (Val := Elt Ideal) (e' := .fp8e4m3) W (Rect.unit ![0, 512] ![3072, 256] inb_S3072x6144_S3072x256_0_512)) (View.ld (S := S1x6144) (Val := Elt Ideal) (e' := .f32) WS (Rect.unit ![0, 512] ![1, 256] inb_S1x6144_S1x256_0_512)) (View.ld (S := S1x6144) (Val := Elt Ideal) (e' := .f32) BB (Rect.unit ![0, 512] ![1, 256] inb_S1x6144_S1x256_0_512))) x (View.ld (S := S3072x6144) (Val := Elt Ideal) (e' := .fp8e4m3) W (Rect.unit ![0, 768] ![3072, 256] inb_S3072x6144_S3072x256_0_768)) (View.ld (S := S1x6144) (Val := Elt Ideal) (e' := .f32) WS (Rect.unit ![0, 768] ![1, 256] inb_S1x6144_S1x256_0_768)) (View.ld (S := S1x6144) (Val := Elt Ideal) (e' := .f32) BB (Rect.unit ![0, 768] ![1, 256] inb_S1x6144_S1x256_0_768))) x (View.ld (S := S3072x6144) (Val := Elt Ideal) (e' := .fp8e4m3) W (Rect.unit ![0, 1024] ![3072, 256] inb_S3072x6144_S3072x256_0_1024)) (View.ld (S := S1x6144) (Val := Elt Ideal) (e' := .f32) WS (Rect.unit ![0, 1024] ![1, 256] inb_S1x6144_S1x256_0_1024)) (View.ld (S := S1x6144) (Val := Elt Ideal) (e' := .f32) BB (Rect.unit ![0, 1024] ![1, 256] inb_S1x6144_S1x256_0_1024))) x (View.ld (S := S3072x6144) (Val := Elt Ideal) (e' := .fp8e4m3) W (Rect.unit ![0, 1280] ![3072, 256] inb_S3072x6144_S3072x256_0_1280)) (View.ld (S := S1x6144) (Val := Elt Ideal) (e' := .f32) WS (Rect.unit ![0, 1280] ![1, 256] inb_S1x6144_S1x256_0_1280)) (View.ld (S := S1x6144) (Val := Elt Ideal) (e' := .f32) BB (Rect.unit ![0, 1280] ![1, 256] inb_S1x6144_S1x256_0_1280))) x (View.ld (S := S3072x6144) (Val := Elt Ideal) (e' := .fp8e4m3) W (Rect.unit ![0, 1536] ![3072, 256] inb_S3072x6144_S3072x256_0_1536)) (View.ld (S := S1x6144) (Val := Elt Ideal) (e' := .f32) WS (Rect.unit ![0, 1536] ![1, 256] inb_S1x6144_S1x256_0_1536)) (View.ld (S := S1x6144) (Val := Elt Ideal) (e' := .f32) BB (Rect.unit ![0, 1536] ![1, 256] inb_S1x6144_S1x256_0_1536))) x (View.ld (S := S3072x6144) (Val := Elt Ideal) (e' := .fp8e4m3) W (Rect.unit ![0, 1792] ![3072, 256] inb_S3072x6144_S3072x256_0_1792)) (View.ld (S := S1x6144) (Val := Elt Ideal) (e' := .f32) WS (Rect.unit ![0, 1792] ![1, 256] inb_S1x6144_S1x256_0_1792)) (View.ld (S := S1x6144) (Val := Elt Ideal) (e' := .f32) BB (Rect.unit ![0, 1792] ![1, 256] inb_S1x6144_S1x256_0_1792))) x (View.ld (S := S3072x6144) (Val := Elt Ideal) (e' := .fp8e4m3) W (Rect.unit ![0, 2048] ![3072, 256] inb_S3072x6144_S3072x256_0_2048)) (View.ld (S := S1x6144) (Val := Elt Ideal) (e' := .f32) WS (Rect.unit ![0, 2048] ![1, 256] inb_S1x6144_S1x256_0_2048)) (View.ld (S := S1x6144) (Val := Elt Ideal) (e' := .f32) BB (Rect.unit ![0, 2048] ![1, 256] inb_S1x6144_S1x256_0_2048))) x (View.ld (S := S3072x6144) (Val := Elt Ideal) (e' := .fp8e4m3) W (Rect.unit ![0, 2304] ![3072, 256] inb_S3072x6144_S3072x256_0_2304)) (View.ld (S := S1x6144) (Val := Elt Ideal) (e' := .f32) WS (Rect.unit ![0, 2304] ![1, 256] inb_S1x6144_S1x256_0_2304)) (View.ld (S := S1x6144) (Val := Elt Ideal) (e' := .f32) BB (Rect.unit ![0, 2304] ![1, 256] inb_S1x6144_S1x256_0_2304))) x (View.ld (S := S3072x6144) (Val := Elt Ideal) (e' := .fp8e4m3) W (Rect.unit ![0, 2560] ![3072, 256] inb_S3072x6144_S3072x256_0_2560)) (View.ld (S := S1x6144) (Val := Elt Ideal) (e' := .f32) WS (Rect.unit ![0, 2560] ![1, 256] inb_S1x6144_S1x256_0_2560)) (View.ld (S := S1x6144) (Val := Elt Ideal) (e' := .f32) BB (Rect.unit ![0, 2560] ![1, 256] inb_S1x6144_S1x256_0_2560))) x (View.ld (S := S3072x6144) (Val := Elt Ideal) (e' := .fp8e4m3) W (Rect.unit ![0, 2816] ![3072, 256] inb_S3072x6144_S3072x256_0_2816)) (View.ld (S := S1x6144) (Val := Elt Ideal) (e' := .f32) WS (Rect.unit ![0, 2816] ![1, 256] inb_S1x6144_S1x256_0_2816)) (View.ld (S := S1x6144) (Val := Elt Ideal) (e' := .f32) BB (Rect.unit ![0, 2816] ![1, 256] inb_S1x6144_S1x256_0_2816))) x (View.ld (S := S3072x6144) (Val := Elt Ideal) (e' := .fp8e4m3) W (Rect.unit ![0, 3072] ![3072, 256] inb_S3072x6144_S3072x256_0_3072)) (View.ld (S := S1x6144) (Val := Elt Ideal) (e' := .f32) WS (Rect.unit ![0, 3072] ![1, 256] inb_S1x6144_S1x256_0_3072)) (View.ld (S := S1x6144) (Val := Elt Ideal) (e' := .f32) BB (Rect.unit ![0, 3072] ![1, 256] inb_S1x6144_S1x256_0_3072))) x (View.ld (S := S3072x6144) (Val := Elt Ideal) (e' := .fp8e4m3) W (Rect.unit ![0, 3328] ![3072, 256] inb_S3072x6144_S3072x256_0_3328)) (View.ld (S := S1x6144) (Val := Elt Ideal) (e' := .f32) WS (Rect.unit ![0, 3328] ![1, 256] inb_S1x6144_S1x256_0_3328)) (View.ld (S := S1x6144) (Val := Elt Ideal) (e' := .f32) BB (Rect.unit ![0, 3328] ![1, 256] inb_S1x6144_S1x256_0_3328))) x (View.ld (S := S3072x6144) (Val := Elt Ideal) (e' := .fp8e4m3) W (Rect.unit ![0, 3584] ![3072, 256] inb_S3072x6144_S3072x256_0_3584)) (View.ld (S := S1x6144) (Val := Elt Ideal) (e' := .f32) WS (Rect.unit ![0, 3584] ![1, 256] inb_S1x6144_S1x256_0_3584)) (View.ld (S := S1x6144) (Val := Elt Ideal) (e' := .f32) BB (Rect.unit ![0, 3584] ![1, 256] inb_S1x6144_S1x256_0_3584))) x (View.ld (S := S3072x6144) (Val := Elt Ideal) (e' := .fp8e4m3) W (Rect.unit ![0, 3840] ![3072, 256] inb_S3072x6144_S3072x256_0_3840)) (View.ld (S := S1x6144) (Val := Elt Ideal) (e' := .f32) WS (Rect.unit ![0, 3840] ![1, 256] inb_S1x6144_S1x256_0_3840)) (View.ld (S := S1x6144) (Val := Elt Ideal) (e' := .f32) BB (Rect.unit ![0, 3840] ![1, 256] inb_S1x6144_S1x256_0_3840))) x (View.ld (S := S3072x6144) (Val := Elt Ideal) (e' := .fp8e4m3) W (Rect.unit ![0, 4096] ![3072, 256] inb_S3072x6144_S3072x256_0_4096)) (View.ld (S := S1x6144) (Val := Elt Ideal) (e' := .f32) WS (Rect.unit ![0, 4096] ![1, 256] inb_S1x6144_S1x256_0_4096)) (View.ld (S := S1x6144) (Val := Elt Ideal) (e' := .f32) BB (Rect.unit ![0, 4096] ![1, 256] inb_S1x6144_S1x256_0_4096))) x (View.ld (S := S3072x6144) (Val := Elt Ideal) (e' := .fp8e4m3) W (Rect.unit ![0, 4352] ![3072, 256] inb_S3072x6144_S3072x256_0_4352)) (View.ld (S := S1x6144) (Val := Elt Ideal) (e' := .f32) WS (Rect.unit ![0, 4352] ![1, 256] inb_S1x6144_S1x256_0_4352)) (View.ld (S := S1x6144) (Val := Elt Ideal) (e' := .f32) BB (Rect.unit ![0, 4352] ![1, 256] inb_S1x6144_S1x256_0_4352))) x (View.ld (S := S3072x6144) (Val := Elt Ideal) (e' := .fp8e4m3) W (Rect.unit ![0, 4608] ![3072, 256] inb_S3072x6144_S3072x256_0_4608)) (View.ld (S := S1x6144) (Val := Elt Ideal) (e' := .f32) WS (Rect.unit ![0, 4608] ![1, 256] inb_S1x6144_S1x256_0_4608)) (View.ld (S := S1x6144) (Val := Elt Ideal) (e' := .f32) BB (Rect.unit ![0, 4608] ![1, 256] inb_S1x6144_S1x256_0_4608))) x (View.ld (S := S3072x6144) (Val := Elt Ideal) (e' := .fp8e4m3) W (Rect.unit ![0, 4864] ![3072, 256] inb_S3072x6144_S3072x256_0_4864)) (View.ld (S := S1x6144) (Val := Elt Ideal) (e' := .f32) WS (Rect.unit ![0, 4864] ![1, 256] inb_S1x6144_S1x256_0_4864)) (View.ld (S := S1x6144) (Val := Elt Ideal) (e' := .f32) BB (Rect.unit ![0, 4864] ![1, 256] inb_S1x6144_S1x256_0_4864))) x (View.ld (S := S3072x6144) (Val := Elt Ideal) (e' := .fp8e4m3) W (Rect.unit ![0, 5120] ![3072, 256] inb_S3072x6144_S3072x256_0_5120)) (View.ld (S := S1x6144) (Val := Elt Ideal) (e' := .f32) WS (Rect.unit ![0, 5120] ![1, 256] inb_S1x6144_S1x256_0_5120)) (View.ld (S := S1x6144) (Val := Elt Ideal) (e' := .f32) BB (Rect.unit ![0, 5120] ![1, 256] inb_S1x6144_S1x256_0_5120))) x (View.ld (S := S3072x6144) (Val := Elt Ideal) (e' := .fp8e4m3) W (Rect.unit ![0, 5376] ![3072, 256] inb_S3072x6144_S3072x256_0_5376)) (View.ld (S := S1x6144) (Val := Elt Ideal) (e' := .f32) WS (Rect.unit ![0, 5376] ![1, 256] inb_S1x6144_S1x256_0_5376)) (View.ld (S := S1x6144) (Val := Elt Ideal) (e' := .f32) BB (Rect.unit ![0, 5376] ![1, 256] inb_S1x6144_S1x256_0_5376))) x (View.ld (S := S3072x6144) (Val := Elt Ideal) (e' := .fp8e4m3) W (Rect.unit ![0, 5632] ![3072, 256] inb_S3072x6144_S3072x256_0_5632)) (View.ld (S := S1x6144) (Val := Elt Ideal) (e' := .f32) WS (Rect.unit ![0, 5632] ![1, 256] inb_S1x6144_S1x256_0_5632)) (View.ld (S := S1x6144) (Val := Elt Ideal) (e' := .f32) BB (Rect.unit ![0, 5632] ![1, 256] inb_S1x6144_S1x256_0_5632))) x (View.ld (S := S3072x6144) (Val := Elt Ideal) (e' := .fp8e4m3) W (Rect.unit ![0, 5888] ![3072, 256] inb_S3072x6144_S3072x256_0_5888)) (View.ld (S := S1x6144) (Val := Elt Ideal) (e' := .f32) WS (Rect.unit ![0, 5888] ![1, 256] inb_S1x6144_S1x256_0_5888)) (View.ld (S := S1x6144) (Val := Elt Ideal) (e' := .f32) BB (Rect.unit ![0, 5888] ![1, 256] inb_S1x6144_S1x256_0_5888))

/-- The block of codes, entry by entry. -/
theorem codeTiles_at (v0 v1 : EReal) (x : FVec Ideal S512x3072 .fp8e4m3) (W : FVec Ideal S3072x6144 .fp8e4m3)
    (WS BB : FVec Ideal S1x6144 .f32) (y : S512x6144.Idx) :
    View.canon (codeTiles v0 v1 x W WS BB) y = code (gelu (hb x W WS BB v0 (y 0) (y 1))) v1 := by
  unfold codeTiles
  canon_tiles x h
  all_goals
    idx_vars x
    have e0 : y 0 = x0 := Fin.ext h0
    rw [code_at]
    unfold hb
    pointwise
    simp only [e0, ← h1]
    rfl

/-- The running maximum after a block, by its upper bounds. -/
theorem run_all_le (v0 : EReal) (x : FVec Ideal S512x3072 .fp8e4m3) (W : FVec Ideal S3072x6144 .fp8e4m3)
    (WS BB : FVec Ideal S1x6144 .f32) (p : FVec Ideal S8x256 .f32) (r : Fin 8) (k : Fin 256) (B : EReal) :
    run v0 p x W WS BB (ix2 r k) ≤ B
      ↔ p (ix2 r k) ≤ B ∧ ∀ (j : Fin 24) (i : Fin 64),
          size (gelu (hb x W WS BB v0 ⟨i.val * 8 + r.val, by omega⟩ ⟨j.val * 256 + k.val, by omega⟩)) ≤ B := by
  unfold run
  rw [run_le v0 x W WS BB _ 5888 _ _ _ (by norm_num), run_le v0 x W WS BB _ 5632 _ _ _ (by norm_num), run_le v0 x W WS BB _ 5376 _ _ _ (by norm_num), run_le v0 x W WS BB _ 5120 _ _ _ (by norm_num), run_le v0 x W WS BB _ 4864 _ _ _ (by norm_num), run_le v0 x W WS BB _ 4608 _ _ _ (by norm_num), run_le v0 x W WS BB _ 4352 _ _ _ (by norm_num), run_le v0 x W WS BB _ 4096 _ _ _ (by norm_num), run_le v0 x W WS BB _ 3840 _ _ _ (by norm_num), run_le v0 x W WS BB _ 3584 _ _ _ (by norm_num), run_le v0 x W WS BB _ 3328 _ _ _ (by norm_num), run_le v0 x W WS BB _ 3072 _ _ _ (by norm_num), run_le v0 x W WS BB _ 2816 _ _ _ (by norm_num), run_le v0 x W WS BB _ 2560 _ _ _ (by norm_num), run_le v0 x W WS BB _ 2304 _ _ _ (by norm_num), run_le v0 x W WS BB _ 2048 _ _ _ (by norm_num), run_le v0 x W WS BB _ 1792 _ _ _ (by norm_num), run_le v0 x W WS BB _ 1536 _ _ _ (by norm_num), run_le v0 x W WS BB _ 1280 _ _ _ (by norm_num), run_le v0 x W WS BB _ 1024 _ _ _ (by norm_num), run_le v0 x W WS BB _ 768 _ _ _ (by norm_num), run_le v0 x W WS BB _ 512 _ _ _ (by norm_num), run_le v0 x W WS BB _ 256 _ _ _ (by norm_num), run_le v0 x W WS BB _ 0 _ _ _ (by norm_num)]
  constructor
  · rintro ⟨⟨⟨⟨⟨⟨⟨⟨⟨⟨⟨⟨⟨⟨⟨⟨⟨⟨⟨⟨⟨⟨⟨⟨hp, h0⟩, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩
    refine ⟨hp, fun j i => ?_⟩
    obtain ⟨j, hj⟩ := j
    interval_cases j
    exacts [h0 i, h1 i, h2 i, h3 i, h4 i, h5 i, h6 i, h7 i, h8 i, h9 i, h10 i, h11 i, h12 i, h13 i, h14 i, h15 i, h16 i, h17 i, h18 i, h19 i, h20 i, h21 i, h22 i, h23 i]
  · rintro ⟨hp, h⟩
    exact ⟨⟨⟨⟨⟨⟨⟨⟨⟨⟨⟨⟨⟨⟨⟨⟨⟨⟨⟨⟨⟨⟨⟨⟨hp, fun i => h 0 i⟩, fun i => h 1 i⟩, fun i => h 2 i⟩, fun i => h 3 i⟩, fun i => h 4 i⟩, fun i => h 5 i⟩, fun i => h 6 i⟩, fun i => h 7 i⟩, fun i => h 8 i⟩, fun i => h 9 i⟩, fun i => h 10 i⟩, fun i => h 11 i⟩, fun i => h 12 i⟩, fun i => h 13 i⟩, fun i => h 14 i⟩, fun i => h 15 i⟩, fun i => h 16 i⟩, fun i => h 17 i⟩, fun i => h 18 i⟩, fun i => h 19 i⟩, fun i => h 20 i⟩, fun i => h 21 i⟩, fun i => h 22 i⟩, fun i => h 23 i⟩

end Cert.MlpIdeal.Closed

end
-- ==== Proof.MlpOuts.lean ====
/- The mlp up-projection: what each grid point leaves in its blocks. -/
module

public import proofs.«01_k».proof.Proof.MlpTile

@[expose] public section

set_option maxRecDepth 16384

noncomputable section

open Idealize.ShloMosaic Idealize.ShloMosaic.TcCoe Idealize.SL.Sem
open Idealize.ShloMosaic.Pipeline (Dat)
open Cert.MlpRefIdeal.Closed (hAt gelu code codeAt size amaxAt)

namespace Cert.MlpIdeal.Closed

open Cert.MlpIdeal Cert.MlpIdeal.Gen

/-! ## The grid -/

variable (m : (ℓ : Loc nD τ sig) → Buf (Elt Ideal) ℓ)

/-- Where each window's block lies at grid point `t`: 512 rows of tokens. -/
theorem idx : ∀ t : Fin cfg0.N, win0_0.index t = ![0] ∧ win0_1.index t = ![t.val, 0] ∧ win0_2.index t = ![0, 4608]
    ∧ win0_3.index t = ![0, 0] ∧ win0_4.index t = ![0, 0] ∧ win0_5.index t = ![t.val, 0] ∧ win0_6.index t = ![0, 0] :=
  (by decide +kernel : ∀ t : Fin grid0.N, _)

/-- The weight's block is its last 6144 columns. -/
theorem w_at (c : Dev nD) (t : Fin cfg0.N) (l : Fin 3072) (k : Fin 6144) :
    (iblk m c 2 t : FVec Ideal S3072x6144 .fp8e4m3) (ix2 l k)
      = (m ((c : Thread nD τ).loc main_arg1) : FVec Ideal S3072x10752 .fp8e4m3) (ix2 l ⟨4608 + k.val, by omega⟩) := by
  have e0 : ((win0_2.rect t).emb (ix2 l k) 0).val = l.val := by
    rw [Pipeline.Window.rect_emb_val_off, (idx t).2.2.1]; exact Nat.zero_add _
  have e1 : ((win0_2.rect t).emb (ix2 l k) 1).val = 4608 + k.val := by
    rw [Pipeline.Window.rect_emb_val_off, (idx t).2.2.1]; rfl
  have e : (win0_2.rect t).emb (ix2 l k) = (ix2 l ⟨4608 + k.val, by omega⟩ : S3072x10752.Idx) := by
    funext a
    match a with
    | ⟨0, _⟩ => exact Fin.ext e0
    | ⟨1, _⟩ => exact Fin.ext e1
  exact congrArg (m ((c : Thread nD τ).loc main_arg1)) e

/-- An entry of the block at `t` is the array's entry, 512 t rows further down. -/
theorem hb_eq (c : Dev nD) (t : Fin cfg0.N) (r : Fin 512) (k : Fin 6144) (r' : Fin 8704) (hr : r'.val = t.val * 512 + r.val)
    (v0 : EReal) (hv : v0 = (m ((c : Thread nD τ).loc main_arg4) : FVec Ideal S2 .f32) (ix1 0)) :
    hb (iblk m c 1 t) (iblk m c 2 t) (iblk m c 3 t) (iblk m c 4 t) v0 r k
      = hAt (m ((c : Thread nD τ).loc main_arg0)) (m ((c : Thread nD τ).loc main_arg1)) (m ((c : Thread nD τ).loc main_arg2))
        (m ((c : Thread nD τ).loc main_arg3)) (m ((c : Thread nD τ).loc main_arg4)) r' k := by
  subst hv
  unfold hb hAt
  simp only [w_at]
  blk_point [iblk, V, idx t, hr]

/-- The scale of the codes of `x` and the scale of the codes written, as the body reads them. -/
theorem s0_eq (c : Dev nD) (t : Fin cfg0.N) (h) :
    View.ld (iblk m c 0 t) (Rect.unit ![0] ![1] inb_S2_S1_0) (Shape.Idx.first h)
      = (m ((c : Thread nD τ).loc main_arg4) : FVec Ideal S2 .f32) (ix1 0) := by
  blk_ext! [iblk, V, idx t]

theorem s1_eq (c : Dev nD) (t : Fin cfg0.N) (h) :
    View.ld (iblk m c 0 t) (Rect.unit ![1] ![1] inb_S2_S1_1) (Shape.Idx.first h)
      = (m ((c : Thread nD τ).loc main_arg4) : FVec Ideal S2 .f32) (ix1 1) := by
  blk_ext! [iblk, V, idx t]

/-- The scales after the launch, as the body reads them. -/
def q0 (c : Dev nD) : EReal := (m ((c : Thread nD τ).loc main_arg4) : FVec Ideal S2 .f32) (ix1 0)
def q1 (c : Dev nD) : EReal := (m ((c : Thread nD τ).loc main_arg4) : FVec Ideal S2 .f32) (ix1 1)

set_option maxHeartbeats 4000000 in
/-- The codes' block after grid point `t`. -/
theorem out5 (c : Dev nD) (t : Fin cfg0.N) : (outsAt0 m c t.val t.isLt).1
    = View.canon (codeTiles (q0 m c) (q1 m c) (iblk m c 1 t) (iblk m c 2 t) (iblk m c 3 t) (iblk m c 4 t)) := by
  funext y
  by_cases h0 : t.val % 17 = 0
  · have h1 : ¬t.val % 17 = 16 := by omega
    rw [outsAt0_A m c t h0 h1]
    dsimp only
    frame_out
    simp only [read_unread_whole, s0_eq, s1_eq, c0, c2, c3, c4, c5, c6, c7, c8, c9, c10, c11, c12, c13, c14, c15, c16, c17, c18, c19, c20, c21, c22, c23]
    rfl
  · by_cases h1 : t.val % 17 = 16
    · rw [outsAt0_C m c t h0 h1]
      dsimp only
      frame_out
      simp only [read_unread_whole, s0_eq, s1_eq, c0, c2, c3, c4, c5, c6, c7, c8, c9, c10, c11, c12, c13, c14, c15, c16, c17, c18, c19, c20, c21, c22, c23]
      rfl
    · rw [outsAt0_B m c t h0 h1]
      dsimp only
      frame_out
      simp only [read_unread_whole, s0_eq, s1_eq, c0, c2, c3, c4, c5, c6, c7, c8, c9, c10, c11, c12, c13, c14, c15, c16, c17, c18, c19, c20, c21, c22, c23]
      rfl

set_option maxHeartbeats 4000000 in
/-- The running maximum after the first grid point. -/
theorem sc_first (c : Dev nD) (t : Fin cfg0.N) (h0 : t.val % 17 = 0) : (outsAt0 m c t.val t.isLt).2.2
    = run (q0 m c) (k0_pay2 (F := Ideal)) (iblk m c 1 t) (iblk m c 2 t) (iblk m c 3 t) (iblk m c 4 t) := by
  funext y
  have h1 : ¬t.val % 17 = 16 := by omega
  rw [outsAt0_A m c t h0 h1]
  dsimp only
  frame_out
  simp only [read_unread_whole, s0_eq, r0, r2, r3, r4, r5, r6, r7, r8, r10, r11, r12, r13, r14, r15, r16, r17, r18, r20, r21, r22, r23]
  rfl

set_option maxHeartbeats 4000000 in
/-- The running maximum after a later grid point. -/
theorem sc_next (c : Dev nD) (t : Fin cfg0.N) (h0 : ¬t.val % 17 = 0) : (outsAt0 m c t.val t.isLt).2.2
    = run (q0 m c) (outsAt0 m c (t.val - 1) (Nat.lt_of_le_of_lt (Nat.sub_le _ _) t.isLt)).2.2
        (iblk m c 1 t) (iblk m c 2 t) (iblk m c 3 t) (iblk m c 4 t) := by
  funext y
  by_cases h1 : t.val % 17 = 16
  · rw [outsAt0_C m c t h0 h1]
    dsimp only
    frame_out
    simp only [read_unread_whole, s0_eq, r0, r2, r3, r4, r5, r6, r7, r8, r10, r11, r12, r13, r14, r15, r16, r17, r18, r20, r21, r22, r23]
    rfl
  · rw [outsAt0_B m c t h0 h1]
    dsimp only
    frame_out
    simp only [read_unread_whole, s0_eq, r0, r2, r3, r4, r5, r6, r7, r8, r10, r11, r12, r13, r14, r15, r16, r17, r18, r20, r21, r22, r23]
    rfl

set_option maxHeartbeats 4000000 in
/-- The largest size written at the last grid point. -/
theorem amax_last (c : Dev nD) (t : Fin cfg0.N) (h1 : t.val % 17 = 16) (y) : (outsAt0 m c t.val t.isLt).2.1 y
    = k0_pay1 (F := Ideal) (outsAt0 m c t.val t.isLt).2.2 := by
  have h0 : ¬t.val % 17 = 0 := by omega
  rw [outsAt0_C m c t h0 h1]
  dsimp only
  frame_out

end Cert.MlpIdeal.Closed

end
-- ==== Proof.MlpValue.lean ====
/- The mlp up-projection: the kernel's arrays after its run are the reference's entries. -/
module

public import proofs.«01_k».proof.Proof.MlpOuts

@[expose] public section

set_option maxRecDepth 16384

noncomputable section

open Idealize.ShloMosaic Idealize.ShloMosaic.TcCoe Idealize.SL.Sem
open Idealize.ShloMosaic.Pipeline (Dat)
open Cert.MlpRefIdeal.Closed (hAt gelu code codeAt size amaxAt)

namespace Cert.MlpIdeal.Closed

open Cert.MlpIdeal Cert.MlpIdeal.Gen

variable (m : (ℓ : Loc nD τ sig) → Buf (Elt Ideal) ℓ)

/-- The kernel's codes after its run, entry by entry. -/
theorem final5 (c : Dev nD) : (dats m 0 c).arrAt 5 cfg0.N
    = fun y : S8704x6144.Idx => codeAt (m ((c : Thread nD τ).loc main_arg0)) (m ((c : Thread nD τ).loc main_arg1))
        (m ((c : Thread nD τ).loc main_arg2)) (m ((c : Thread nD τ).loc main_arg3)) (m ((c : Thread nD τ).loc main_arg4))
        (y 0) (y 1) := by
  refine (dats m 0 c).arrAt_eq_of_covers 5 _ (by decide +kernel) fun t _ y => ?_
  blk_simp
  rw [after0_5, out5, codeTiles_at]
  idx_vars y
  have hlt : t.val < 17 := t.isLt
  have he : ((cfg0.win 5).blk t).view.emb (ix2 y0 y1) = (ix2 ⟨t.val * 512 + y0.val, by omega⟩ y1 : S8704x6144.Idx) := by
    blk_ext [idx t]
  rw [he]
  exact congrArg (fun h => code (gelu h) (q1 m c)) (hb_eq m c t y0 y1 ⟨t.val * 512 + y0.val, by omega⟩ rfl (q0 m c) rfl)

/-- The size of the activation at row `r`, column `k`. -/
def sz (c : Dev nD) (r : Fin 8704) (k : Fin 6144) : EReal :=
  size (gelu (hAt (m ((c : Thread nD τ).loc main_arg0)) (m ((c : Thread nD τ).loc main_arg1)) (m ((c : Thread nD τ).loc main_arg2))
        (m ((c : Thread nD τ).loc main_arg3)) (m ((c : Thread nD τ).loc main_arg4)) r k))

theorem size_nonneg (g : EReal) : 0 ≤ size g := by
  unfold size
  rcases le_total 0 g with h | h
  · exact h.trans (le_max_left _ _)
  · exact (EReal.neg_nonneg.2 h).trans (le_max_right _ _)

/-- One block's contribution to the running maximum. -/
theorem step (c : Dev nD) (t : Fin cfg0.N) (p : FVec Ideal S8x256 .f32) (r : Fin 8) (k : Fin 256) (B : EReal) :
    run (q0 m c) p (iblk m c 1 t) (iblk m c 2 t) (iblk m c 3 t) (iblk m c 4 t) (ix2 r k) ≤ B
      ↔ p (ix2 r k) ≤ B ∧ ∀ (j : Fin 24) (i : Fin 64),
          sz m c ⟨t.val * 512 + (i.val * 8 + r.val), by have : t.val < 17 := t.isLt; omega⟩ ⟨j.val * 256 + k.val, by omega⟩ ≤ B := by
  have hlt : t.val < 17 := t.isLt
  rw [run_all_le]
  refine and_congr_right fun _ => forall_congr' fun j => forall_congr' fun i => ?_
  rw [hb_eq m c t _ _ ⟨t.val * 512 + (i.val * 8 + r.val), by omega⟩ rfl (q0 m c) rfl]
  exact Iff.rfl

/-- The running maximum after grid point `n`, by its upper bounds. -/
theorem sweep (c : Dev nD) (r : Fin 8) (k : Fin 256) (B : EReal) : ∀ (n : ℕ) (hn : n < 17),
    (outsAt0 m c n hn).2.2 (ix2 r k) ≤ B
      ↔ 0 ≤ B ∧ ∀ (u : Fin 17), u.val ≤ n → ∀ (j : Fin 24) (i : Fin 64),
          sz m c ⟨u.val * 512 + (i.val * 8 + r.val), by omega⟩ ⟨j.val * 256 + k.val, by omega⟩ ≤ B := by
  intro n
  induction n with
  | zero =>
    intro hn
    have e := sc_first m c ⟨0, hn⟩ rfl
    have e2 := step m c ⟨0, hn⟩ (k0_pay2 (F := Ideal)) r k B
    have ez : k0_pay2 (F := Ideal) (ix2 r k) = 0 := by pointwise [k0_pay2]
    rw [ez] at e2
    dsimp only at e
    rw [e, e2]
    refine and_congr_right fun _ => ⟨fun h u hu => ?_, fun h => h ⟨0, hn⟩ (le_refl _)⟩
    obtain rfl : u = ⟨0, hn⟩ := Fin.ext (Nat.le_zero.1 hu)
    exact h
  | succ n ih =>
    intro hn
    have e := sc_next m c ⟨n + 1, hn⟩ (by dsimp only; omega)
    have e2 := step m c ⟨n + 1, hn⟩ ((outsAt0 m c n (Nat.lt_of_succ_lt hn)).2.2) r k B
    dsimp only at e
    rw [e]
    refine e2.trans ?_
    rw [ih (Nat.lt_of_succ_lt hn), and_assoc]
    refine and_congr_right fun _ => ⟨fun h u hu => ?_, fun h => ⟨fun u hu => h u (by omega), h ⟨n + 1, hn⟩ (le_refl _)⟩⟩
    rcases Nat.lt_or_ge n u.val with h' | h'
    · obtain rfl : u = ⟨n + 1, hn⟩ := Fin.ext (by dsimp only; omega)
      exact h.2
    · exact h.1 u h'

/-- The largest of the running maxima, by its upper bounds. -/
theorem pay1_le (p : FVec Ideal S8x256 .f32) (B : EReal) :
    k0_pay1 (F := Ideal) p ≤ B ↔ ∀ (r : Fin 8) (k : Fin 256), p (ix2 r k) ≤ B := by
  have e : k0_pay1 (F := Ideal) p = Finset.fold max ⊥ (fun x : Fin 8 × Fin 256 => p (ix2 x.1 x.2)) Finset.univ := by
    pointwise [k0_pay1]
    rw [Consts.neg_inf]
  rw [e, Finset.fold_max_le]
  simp only [Finset.mem_univ, bot_le, true_and, forall_true_left, Prod.forall]

/-- The last point's largest size is the largest of all. -/
theorem amax_eq (c : Dev nD) (t : Fin cfg0.N) (h1 : t.val % 17 = 16) (y) : (outsAt0 m c t.val t.isLt).2.1 y
    = amaxAt (m ((c : Thread nD τ).loc main_arg0)) (m ((c : Thread nD τ).loc main_arg1))
        (m ((c : Thread nD τ).loc main_arg2)) (m ((c : Thread nD τ).loc main_arg3)) (m ((c : Thread nD τ).loc main_arg4)) := by
  have hlt : t.val < 17 := t.isLt
  rw [amax_last m c t h1 y]
  refine eq_of_forall_ge_iff (α := EReal) fun B => ?_
  rw [pay1_le]
  unfold amaxAt
  rw [iSup_le_iff]
  simp only [iSup_le_iff]
  constructor
  · intro h R K
    have h' := ((sweep m c ⟨R.val % 8, by omega⟩ ⟨K.val % 256, by omega⟩ B t.val hlt).1 (h _ _)).2
      ⟨R.val / 512, by omega⟩ (by dsimp only; omega) ⟨K.val / 256, by omega⟩ ⟨R.val % 512 / 8, by omega⟩
    have eR : (⟨R.val / 512 * 512 + (R.val % 512 / 8 * 8 + R.val % 8), by omega⟩ : Fin 8704) = R := Fin.ext (by dsimp only; omega)
    have eK : (⟨K.val / 256 * 256 + K.val % 256, by omega⟩ : Fin 6144) = K := Fin.ext (by dsimp only; omega)
    dsimp only at h'
    rw [eR, eK] at h'
    exact h'
  · intro h r k
    exact (sweep m c r k B t.val hlt).2 ⟨(size_nonneg _).trans (h ⟨0, by omega⟩ ⟨0, by omega⟩), fun u _ j i => h _ _⟩

/-- The kernel's largest size after its run. -/
theorem final6 (c : Dev nD) : (dats m 0 c).arrAt 6 cfg0.N
    = fun y : S1x1.Idx => amaxAt (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t ht y => ?_
  have h1 : t.val % 17 = 16 := (by decide +kernel : ∀ t : Fin grid0.N, win0_6.flush t = true → t.val % 17 = 16) t ht
  blk_simp
  rw [after0_6]
  exact amax_eq m c t h1 _

end Cert.MlpIdeal.Closed

end
-- ==== Proof.MlpEq.lean ====
/- The mlp up-projection's claims: the one named constant is the kernel's own to within rounding, and the ideal kernel's
   results are the reference's. -/
module

public import proofs.«01_k».proof.Defs
public import proofs.«01_k».proof.Proof.MlpValue

@[expose] public section

noncomputable section

open Idealize.ShloMosaic Idealize.ShloMosaic.TcCoe Idealize.SL.Sem

namespace Cert.MlpIdeal.Closed

/-- The one replaced constant has its named value. -/
theorem preserves : Cert.preserves_Mlp_MlpIdeal :=
  IdealRules.named_const.statement Cert.MlpIdeal.κ "gelu_cubic" .f32 0x3D122279#32 _ rfl

/-- From agreeing arguments the ideal kernel and the ideal reference both run, and end with the same results. -/
theorem algebraic : Cert.algebraic_MlpIdeal_MlpRefIdeal (hMlpIdeal := Cert.MlpIdeal.Gen.facts)
    (hMlpRefIdeal := Cert.MlpRefIdeal.Gen.facts) := by
  pair_intro
  · run_from Cert.MlpIdeal.Gen.run_main m g
  · run_from Cert.MlpRefIdeal.Gen.run_main m' g'
    · obtain ⟨h0, h1, h2, h3, h4⟩ := hagree c
      have e := MlpRefIdeal.Closed.final5 m' c
      rw [h0, h1, h2, h3, h4] at e
      exact e.trans (final5 m c).symm
    · obtain ⟨h0, h1, h2, h3, h4⟩ := hagree c
      have e := MlpRefIdeal.Closed.final6 m' c
      rw [h0, h1, h2, h3, h4] at e
      exact e.trans (final6 m c).symm

end Cert.MlpIdeal.Closed

end
-- ==== Proof.AttTile.lean ====
/- The attention: what a block of 256 queries computes over the 17 chunks of 256 keys, in the mathematics. -/
module

public import proofs.«01_k».proof.Proof.AttIdealFrame
public import proofs.«01_k».proof.Proof.Consts
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttIdeal.Closed

open Cert.AttIdeal Cert.AttIdeal.Gen

/-- The scale of a score, as one constant. -/
abbrev scale : EReal := Named.named (F := Ideal) κ "score_scale" (φ := .f32) 0x3E0293EE#32

/-! ## The steps over one chunk of keys, and over all 17 -/

/-- The running maximum over one more chunk, folded to 8 rows. -/
def mx8 (p : FVec Ideal S8x256 .f32) (t : FVec Ideal S256x256 .f32) : FVec Ideal S8x256 .f32 :=
  maximumf p (multiReduction .maximumf [0] S8x256 (shapeCast S32x8x256 t shapeCasts_S256x256_S32x8x256) 0xFF800000#32 reduces_S32x8x256_S8x256 (.inl rfl) rfl)

/-- The running sum likewise. -/
def sm8 (p : FVec Ideal S8x256 .f32) (t : FVec Ideal S256x256 .f32) : FVec Ideal S8x256 .f32 :=
  addf p (multiReduction .add [0] S8x256 (shapeCast S32x8x256 t shapeCasts_S256x256_S32x8x256) 0x00000000#32 reduces_S32x8x256_S8x256 (.inl rfl) rfl)

/-- The running weighted sum of values. -/
def acc (o : FVec Ideal S128x256 .f32) (v : FVec Ideal S128x256 .bf16) (e : FVec Ideal S256x256 .f32) : FVec Ideal S128x256 .f32 :=
  addf o (matmul dot_S128x256_S256x256_S128x256_1_0_0_1_n_n none v (truncf .bf16 e bitsLt_bf16_f32) (constant S128x256 .f32 0x00000000#32))

/-- The exponent a query is shifted by. -/
def top (p : FVec Ideal S8x256 .f32) : FVec Ideal S1x256 .f32 :=
  ceil (mulf (shapeCast S1x256 (multiReduction .maximumf [0] S256 p 0xFF800000#32 reduces_S8x256_S256 (.inl rfl) rfl) shapeCasts_S256_S1x256) (broadcast S1x256 scale))

/-- The weights of one chunk. -/
def wt (m : FVec Ideal S1x256 .f32) (t : FVec Ideal S256x256 .f32) : FVec Ideal S256x256 .f32 :=
  exp2 (subf (mulf t (broadcast S256x256 scale)) (broadcastTo S256x256 m broadcasts_S1x256_S256x256))

/-- The weighted mean. -/
def quo (p : FVec Ideal S8x256 .f32) (o : FVec Ideal S128x256 .f32) : FVec Ideal S128x256 .f32 :=
  divf o (broadcastTo S128x256 (shapeCast S1x256 (multiReduction .add [0] S256 p 0x00000000#32 reduces_S8x256_S256 (.inl rfl) rfl) shapeCasts_S256_S1x256) broadcasts_S1x256_S128x256)

/-- The codes. -/
def codes (o : FVec Ideal S128x256 .f32) (sa : Ideal .f32) : FVec Ideal S256x128 .fp8e4m3 :=
  truncf .fp8e4m3 (minimumf (broadcast S256x128 (Scalar.ofBits .f32 0x43E00000#32)) (maximumf (broadcast S256x128 (Scalar.ofBits .f32 0xC3E00000#32))
    (divf (transpose S256x128 [1, 0] o transposes_S128x256_p1_0_S256x128) (broadcast S256x128 sa)))) bitsLt_fp8e4m3_f32

/-- The first `n` chunks' maximum, sum and weighted sum. -/
def mxs (T : ℕ → FVec Ideal S256x256 .f32) : ℕ → FVec Ideal S8x256 .f32
  | 0 => broadcast S8x256 (Scalar.ofBits (F := Ideal) .f32 0xFF800000#32)
  | n + 1 => mx8 (mxs T n) (T n)

def sms (T : ℕ → FVec Ideal S256x256 .f32) : ℕ → FVec Ideal S8x256 .f32
  | 0 => broadcast S8x256 (Scalar.ofBits (F := Ideal) .f32 0x00000000#32)
  | n + 1 => sm8 (sms T n) (T n)

def accs (V : ℕ → FVec Ideal S128x256 .bf16) (T : ℕ → FVec Ideal S256x256 .f32) : ℕ → FVec Ideal S128x256 .f32
  | 0 => broadcast S128x256 (Scalar.ofBits (F := Ideal) .f32 0x00000000#32)
  | n + 1 => acc (accs V T n) (V n) (T n)

/-- The weighted mean of the values under the scores `T`. -/
def att (T : ℕ → FVec Ideal S256x256 .f32) (V : ℕ → FVec Ideal S128x256 .bf16) : FVec Ideal S128x256 .f32 :=
  quo (sms (fun n => wt (top (mxs T 17)) (T n)) 17) (accs V (fun n => wt (top (mxs T 17)) (T n)) 17)

/-! ## Entry by entry -/

theorem mx8_le (p : FVec Ideal S8x256 .f32) (t : FVec Ideal S256x256 .f32) (r : Fin 8) (q : Fin 256) (B : EReal) :
    mx8 p t (ix2 r q) ≤ B ↔ p (ix2 r q) ≤ B ∧ ∀ i : Fin 32, t (ix2 ⟨i.val * 8 + r.val, by omega⟩ q) ≤ B := by
  pointwise [mx8]
  simp only [Consts.neg_inf]
  rw [max_le_iff, Finset.fold_max_le]
  simp only [Finset.mem_univ, bot_le, true_and, forall_true_left]

theorem sm8_at (p : FVec Ideal S8x256 .f32) (t : FVec Ideal S256x256 .f32) (r : Fin 8) (q : Fin 256) :
    sm8 p t (ix2 r q) = p (ix2 r q) + ∑ i : Fin 32, t (ix2 ⟨i.val * 8 + r.val, by omega⟩ q) := by
  pointwise [sm8]

theorem acc_at (o : FVec Ideal S128x256 .f32) (v : FVec Ideal S128x256 .bf16) (e : FVec Ideal S256x256 .f32) (d : Fin 128) (q : Fin 256) :
    acc o v e (ix2 d q) = o (ix2 d q) + ∑ r : Fin 256, v (ix2 d r) * e (ix2 r q) := by
  pointwise [acc]

theorem top_at (p : FVec Ideal S8x256 .f32) (z : Fin 1) (q : Fin 256) (S : EReal)
    (h : ∀ B : EReal, S ≤ B ↔ ∀ r : Fin 8, p (ix2 r q) ≤ B) : top p (ix2 z q) = FloatOps.ceil (F := Ideal) (φ := .f32) (S * scale) := by
  have e : Finset.univ.fold max ⊥ (fun r : Fin 8 => p (ix2 r q)) = S := by
    refine eq_of_forall_ge_iff fun B => ?_
    rw [Finset.fold_max_le, h]
    simp only [Finset.mem_univ, bot_le, true_and, forall_true_left]
  rw [← e]
  pointwise [top]
  simp only [Consts.neg_inf]

theorem wt_at (m : FVec Ideal S1x256 .f32) (t : FVec Ideal S256x256 .f32) (r q : Fin 256) :
    wt m t (ix2 r q) = Ideal.exp2 (t (ix2 r q) * scale - m (ix2 0 q)) := by
  pointwise [wt]
  rfl

theorem quo_at (p : FVec Ideal S8x256 .f32) (o : FVec Ideal S128x256 .f32) (d : Fin 128) (q : Fin 256) :
    quo p o (ix2 d q) = Ideal.div (o (ix2 d q)) (∑ r : Fin 8, p (ix2 r q)) := by
  pointwise [quo]

/-- One code. -/
def code (x s : EReal) : EReal :=
  min (Ideal.ofBits .f32 0x43E00000#32) (max (Ideal.ofBits .f32 0xC3E00000#32) (Ideal.div x s))

theorem codes_at (o : FVec Ideal S128x256 .f32) (sa : EReal) (q : Fin 256) (d : Fin 128) :
    codes o sa (ix2 q d) = code (o (ix2 d q)) sa := by
  unfold code
  pointwise [codes]

/-- The maximum over the chunks so far, by its upper bounds. -/
theorem mxs_le (T : ℕ → FVec Ideal S256x256 .f32) (n : ℕ) (r : Fin 8) (q : Fin 256) (B : EReal) :
    mxs T n (ix2 r q) ≤ B ↔ ∀ c < n, ∀ i : Fin 32, T c (ix2 ⟨i.val * 8 + r.val, by omega⟩ q) ≤ B := by
  induction n with
  | zero =>
    have e : mxs T 0 (ix2 r q) = ⊥ := Consts.neg_inf
    rw [e]
    simp
  | succ n ih =>
    show mx8 (mxs T n) (T n) (ix2 r q) ≤ B ↔ _
    rw [mx8_le, ih]
    constructor
    · rintro ⟨h1, h2⟩ c hc
      rcases Nat.lt_succ_iff_lt_or_eq.1 hc with h | rfl
      · exact h1 c h
      · exact h2
    · intro h
      exact ⟨fun c hc => h c (by omega), h n (by omega)⟩

theorem sms_at (T : ℕ → FVec Ideal S256x256 .f32) (n : ℕ) (r : Fin 8) (q : Fin 256) :
    sms T n (ix2 r q) = ∑ c ∈ Finset.range n, ∑ i : Fin 32, T c (ix2 ⟨i.val * 8 + r.val, by omega⟩ q) := by
  induction n with
  | zero => exact Consts.zero
  | succ n ih =>
    show sm8 (sms T n) (T n) (ix2 r q) = _
    rw [sm8_at, ih, Finset.sum_range_succ]

theorem accs_at (V : ℕ → FVec Ideal S128x256 .bf16) (T : ℕ → FVec Ideal S256x256 .f32) (n : ℕ) (d : Fin 128) (q : Fin 256) :
    accs V T n (ix2 d q) = ∑ c ∈ Finset.range n, ∑ r : Fin 256, V c (ix2 d r) * T c (ix2 r q) := by
  induction n with
  | zero => exact Consts.zero
  | succ n ih =>
    show acc (accs V T n) (V n) (T n) (ix2 d q) = _
    rw [acc_at, ih, Finset.sum_range_succ]

/-! ## The sums over chunks, as sums over all 4352 keys -/

/-- A sum over 256 rows, by 32 rows of 8. -/
theorem sum_rows (f : Fin 256 → EReal) : ∑ r : Fin 8, ∑ i : Fin 32, f ⟨i.val * 8 + r.val, by omega⟩ = ∑ x : Fin 256, f x := by
  rw [Finset.sum_comm, ← Fintype.sum_prod_type']
  refine Fintype.sum_equiv (finProdFinEquiv (m := 32) (n := 8)) _ _ fun ⟨i, r⟩ => ?_
  refine congrArg f (Fin.ext ?_)
  show i.val * 8 + r.val = r.val + 8 * i.val
  omega

/-- A sum over 4352 keys, by 17 chunks of 256. -/
theorem sum_chunks (f : Fin 4352 → EReal) (g : ℕ → Fin 256 → EReal)
    (h : ∀ (c : Fin 17) (r : Fin 256), g c.val r = f ⟨c.val * 256 + r.val, by omega⟩) :
    ∑ c ∈ Finset.range 17, ∑ r : Fin 256, g c r = ∑ j : Fin 4352, f j := by
  rw [Finset.sum_range, ← Fintype.sum_prod_type']
  refine Fintype.sum_equiv (finProdFinEquiv (m := 17) (n := 256)) _ _ fun ⟨c, r⟩ => ?_
  rw [h c r]
  refine congrArg f (Fin.ext ?_)
  show c.val * 256 + r.val = r.val + 256 * c.val
  omega

/-- The shift of a query with the scores `s`. -/
def mAt (s : Fin 4352 → EReal) : EReal := FloatOps.ceil (F := Ideal) (φ := .f32) ((⨆ j, s j) * scale)

/-- The weight of key `j`. -/
def pAt (s : Fin 4352 → EReal) (j : Fin 4352) : EReal := Ideal.exp2 (s j * scale - mAt s)

/-- The weighted mean of the values `v`. -/
def oAt (s v : Fin 4352 → EReal) : EReal := Ideal.div (∑ j, v j * pAt s j) (∑ j, pAt s j)

/-- The whole softmax over 17 chunks, entry by entry. -/
theorem att_at (T : ℕ → FVec Ideal S256x256 .f32) (V : ℕ → FVec Ideal S128x256 .bf16) (d : Fin 128) (q : Fin 256)
    (s v : Fin 4352 → EReal) (hT : ∀ (c : Fin 17) (r : Fin 256), T c.val (ix2 r q) = s ⟨c.val * 256 + r.val, by omega⟩)
    (hV : ∀ (c : Fin 17) (r : Fin 256), V c.val (ix2 d r) = v ⟨c.val * 256 + r.val, by omega⟩) :
    att T V (ix2 d q) = oAt s v := by
  have hm : top (mxs T 17) (ix2 0 q) = mAt s := by
    refine top_at _ _ _ (⨆ j, s j) fun B => ?_
    rw [iSup_le_iff]
    simp only [mxs_le]
    constructor
    · intro h r c hc i
      rw [hT ⟨c, hc⟩]
      exact h _
    · intro h j
      have := h ⟨j.val % 8, by omega⟩ (j.val / 256) (by omega) ⟨j.val % 256 / 8, by omega⟩
      rw [hT ⟨j.val / 256, by omega⟩] at this
      have e : (⟨(⟨j.val / 256, by omega⟩ : Fin 17).val * 256 + (⟨j.val % 256 / 8 * 8 + j.val % 8, by omega⟩ : Fin 256).val, by dsimp only; omega⟩ : Fin 4352) = j :=
        Fin.ext (by dsimp only; omega)
      rwa [e] at this
  have hw : ∀ (c : Fin 17) (r : Fin 256), wt (top (mxs T 17)) (T c.val) (ix2 r q) = pAt s ⟨c.val * 256 + r.val, by omega⟩ := fun c r => by
    rw [wt_at, hm, hT]; rfl
  unfold att oAt
  rw [quo_at, accs_at]
  congr 1
  · exact sum_chunks _ _ fun c r => by rw [hw, hV]
  · simp only [sms_at]
    rw [Finset.sum_comm]
    have := sum_chunks (pAt s) (fun c r => wt (top (mxs T 17)) (T c) (ix2 r q)) hw
    rw [← this]
    exact Finset.sum_congr rfl fun c _ => sum_rows fun x => wt (top (mxs T 17)) (T c) (ix2 x q)

end Cert.AttIdeal.Closed

end
-- ==== Proof.AttTrip.lean ====
/- The attention: what one trip of the loop over blocks of queries writes is the softmax of its scores over the 17 chunks. -/
module

public import proofs.«01_k».proof.Proof.AttTile

@[expose] public section

set_option maxRecDepth 16384

noncomputable section

open Idealize.ShloMosaic Idealize.ShloMosaic.TcCoe Idealize.SL.Sem
open Idealize.ShloMosaic.Pipeline (Dat)

namespace Cert.AttIdeal.Closed

open Cert.AttIdeal Cert.AttIdeal.Gen Cert.AttIdeal.Gen.trip_k0_t1

section

variable (arg3 : Memref sig .tc .smem S1 .f32) (arg4 arg5 : Memref sig .tc .vmem S1x1x4352x128 .bf16) (arg6 : Memref sig .tc .vmem S128x4352 .bf16) (arg9 : Memref sig .tc .vmem S4352x256 .f32) (v7 : Elt Ideal .i32) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (k : Fin k0_t1_loop.trips)

/-- The queries of the block. -/
abbrev qs : Vec Ideal S1x1x256x128 .bf16 :=
  View.readAt (Elt Ideal) arg4.view (Rect.unit (s := S1x1x4352x128) (k0_off2 k) S1x1x256x128.size (k0_off2_inb k)).toLoadRect X4

/-- The scores of the chunk of keys `n`, before the scale. -/
def tl : ℕ → FVec Ideal S256x256 .f32
  | 0 => k0_pay5 (F := Ideal) (k0_pay2 (F := Ideal) v7) (qs arg4 X4 k) (View.readAt (Elt Ideal) arg5.view (Rect.unit (s := S1x1x4352x128) ![0, 0, 0, 0] S1x1x256x128.size inb_S1x1x4352x128_S1x1x256x128_0_0_0_0).toLoadRect X5)
  | 1 => k0_pay12 (F := Ideal) (k0_pay4 (F := Ideal) (qs arg4 X4 k)) (View.readAt (Elt Ideal) arg5.view (Rect.unit (s := S1x1x4352x128) ![0, 0, 256, 0] S1x1x256x128.size inb_S1x1x4352x128_S1x1x256x128_0_0_256_0).toLoadRect X5)
  | 2 => k0_pay12 (F := Ideal) (k0_pay4 (F := Ideal) (qs arg4 X4 k)) (View.readAt (Elt Ideal) arg5.view (Rect.unit (s := S1x1x4352x128) ![0, 0, 512, 0] S1x1x256x128.size inb_S1x1x4352x128_S1x1x256x128_0_0_512_0).toLoadRect X5)
  | 3 => k0_pay12 (F := Ideal) (k0_pay4 (F := Ideal) (qs arg4 X4 k)) (View.readAt (Elt Ideal) arg5.view (Rect.unit (s := S1x1x4352x128) ![0, 0, 768, 0] S1x1x256x128.size inb_S1x1x4352x128_S1x1x256x128_0_0_768_0).toLoadRect X5)
  | 4 => k0_pay12 (F := Ideal) (k0_pay4 (F := Ideal) (qs arg4 X4 k)) (View.readAt (Elt Ideal) arg5.view (Rect.unit (s := S1x1x4352x128) ![0, 0, 1024, 0] S1x1x256x128.size inb_S1x1x4352x128_S1x1x256x128_0_0_1024_0).toLoadRect X5)
  | 5 => k0_pay12 (F := Ideal) (k0_pay4 (F := Ideal) (qs arg4 X4 k)) (View.readAt (Elt Ideal) arg5.view (Rect.unit (s := S1x1x4352x128) ![0, 0, 1280, 0] S1x1x256x128.size inb_S1x1x4352x128_S1x1x256x128_0_0_1280_0).toLoadRect X5)
  | 6 => k0_pay12 (F := Ideal) (k0_pay4 (F := Ideal) (qs arg4 X4 k)) (View.readAt (Elt Ideal) arg5.view (Rect.unit (s := S1x1x4352x128) ![0, 0, 1536, 0] S1x1x256x128.size inb_S1x1x4352x128_S1x1x256x128_0_0_1536_0).toLoadRect X5)
  | 7 => k0_pay12 (F := Ideal) (k0_pay4 (F := Ideal) (qs arg4 X4 k)) (View.readAt (Elt Ideal) arg5.view (Rect.unit (s := S1x1x4352x128) ![0, 0, 1792, 0] S1x1x256x128.size inb_S1x1x4352x128_S1x1x256x128_0_0_1792_0).toLoadRect X5)
  | 8 => k0_pay12 (F := Ideal) (k0_pay4 (F := Ideal) (qs arg4 X4 k)) (View.readAt (Elt Ideal) arg5.view (Rect.unit (s := S1x1x4352x128) ![0, 0, 2048, 0] S1x1x256x128.size inb_S1x1x4352x128_S1x1x256x128_0_0_2048_0).toLoadRect X5)
  | 9 => k0_pay12 (F := Ideal) (k0_pay4 (F := Ideal) (qs arg4 X4 k)) (View.readAt (Elt Ideal) arg5.view (Rect.unit (s := S1x1x4352x128) ![0, 0, 2304, 0] S1x1x256x128.size inb_S1x1x4352x128_S1x1x256x128_0_0_2304_0).toLoadRect X5)
  | 10 => k0_pay12 (F := Ideal) (k0_pay4 (F := Ideal) (qs arg4 X4 k)) (View.readAt (Elt Ideal) arg5.view (Rect.unit (s := S1x1x4352x128) ![0, 0, 2560, 0] S1x1x256x128.size inb_S1x1x4352x128_S1x1x256x128_0_0_2560_0).toLoadRect X5)
  | 11 => k0_pay12 (F := Ideal) (k0_pay4 (F := Ideal) (qs arg4 X4 k)) (View.readAt (Elt Ideal) arg5.view (Rect.unit (s := S1x1x4352x128) ![0, 0, 2816, 0] S1x1x256x128.size inb_S1x1x4352x128_S1x1x256x128_0_0_2816_0).toLoadRect X5)
  | 12 => k0_pay12 (F := Ideal) (k0_pay4 (F := Ideal) (qs arg4 X4 k)) (View.readAt (Elt Ideal) arg5.view (Rect.unit (s := S1x1x4352x128) ![0, 0, 3072, 0] S1x1x256x128.size inb_S1x1x4352x128_S1x1x256x128_0_0_3072_0).toLoadRect X5)
  | 13 => k0_pay12 (F := Ideal) (k0_pay4 (F := Ideal) (qs arg4 X4 k)) (View.readAt (Elt Ideal) arg5.view (Rect.unit (s := S1x1x4352x128) ![0, 0, 3328, 0] S1x1x256x128.size inb_S1x1x4352x128_S1x1x256x128_0_0_3328_0).toLoadRect X5)
  | 14 => k0_pay12 (F := Ideal) (k0_pay4 (F := Ideal) (qs arg4 X4 k)) (View.readAt (Elt Ideal) arg5.view (Rect.unit (s := S1x1x4352x128) ![0, 0, 3584, 0] S1x1x256x128.size inb_S1x1x4352x128_S1x1x256x128_0_0_3584_0).toLoadRect X5)
  | 15 => k0_pay12 (F := Ideal) (k0_pay4 (F := Ideal) (qs arg4 X4 k)) (View.readAt (Elt Ideal) arg5.view (Rect.unit (s := S1x1x4352x128) ![0, 0, 3840, 0] S1x1x256x128.size inb_S1x1x4352x128_S1x1x256x128_0_0_3840_0).toLoadRect X5)
  | 16 => k0_pay12 (F := Ideal) (k0_pay4 (F := Ideal) (qs arg4 X4 k)) (View.readAt (Elt Ideal) arg5.view (Rect.unit (s := S1x1x4352x128) ![0, 0, 4096, 0] S1x1x256x128.size inb_S1x1x4352x128_S1x1x256x128_0_0_4096_0).toLoadRect X5)
  | _ => fun _ => 0

/-- The values of the chunk of keys `n`. -/
def vl : ℕ → FVec Ideal S128x256 .bf16
  | 0 => View.readAt (Elt Ideal) arg6.view (Rect.unit (s := S128x4352) ![0, 0] S128x256.size inb_S128x4352_S128x256_0_0).toLoadRect X6
  | 1 => View.readAt (Elt Ideal) arg6.view (Rect.unit (s := S128x4352) ![0, 256] S128x256.size inb_S128x4352_S128x256_0_256).toLoadRect X6
  | 2 => View.readAt (Elt Ideal) arg6.view (Rect.unit (s := S128x4352) ![0, 512] S128x256.size inb_S128x4352_S128x256_0_512).toLoadRect X6
  | 3 => View.readAt (Elt Ideal) arg6.view (Rect.unit (s := S128x4352) ![0, 768] S128x256.size inb_S128x4352_S128x256_0_768).toLoadRect X6
  | 4 => View.readAt (Elt Ideal) arg6.view (Rect.unit (s := S128x4352) ![0, 1024] S128x256.size inb_S128x4352_S128x256_0_1024).toLoadRect X6
  | 5 => View.readAt (Elt Ideal) arg6.view (Rect.unit (s := S128x4352) ![0, 1280] S128x256.size inb_S128x4352_S128x256_0_1280).toLoadRect X6
  | 6 => View.readAt (Elt Ideal) arg6.view (Rect.unit (s := S128x4352) ![0, 1536] S128x256.size inb_S128x4352_S128x256_0_1536).toLoadRect X6
  | 7 => View.readAt (Elt Ideal) arg6.view (Rect.unit (s := S128x4352) ![0, 1792] S128x256.size inb_S128x4352_S128x256_0_1792).toLoadRect X6
  | 8 => View.readAt (Elt Ideal) arg6.view (Rect.unit (s := S128x4352) ![0, 2048] S128x256.size inb_S128x4352_S128x256_0_2048).toLoadRect X6
  | 9 => View.readAt (Elt Ideal) arg6.view (Rect.unit (s := S128x4352) ![0, 2304] S128x256.size inb_S128x4352_S128x256_0_2304).toLoadRect X6
  | 10 => View.readAt (Elt Ideal) arg6.view (Rect.unit (s := S128x4352) ![0, 2560] S128x256.size inb_S128x4352_S128x256_0_2560).toLoadRect X6
  | 11 => View.readAt (Elt Ideal) arg6.view (Rect.unit (s := S128x4352) ![0, 2816] S128x256.size inb_S128x4352_S128x256_0_2816).toLoadRect X6
  | 12 => View.readAt (Elt Ideal) arg6.view (Rect.unit (s := S128x4352) ![0, 3072] S128x256.size inb_S128x4352_S128x256_0_3072).toLoadRect X6
  | 13 => View.readAt (Elt Ideal) arg6.view (Rect.unit (s := S128x4352) ![0, 3328] S128x256.size inb_S128x4352_S128x256_0_3328).toLoadRect X6
  | 14 => View.readAt (Elt Ideal) arg6.view (Rect.unit (s := S128x4352) ![0, 3584] S128x256.size inb_S128x4352_S128x256_0_3584).toLoadRect X6
  | 15 => View.readAt (Elt Ideal) arg6.view (Rect.unit (s := S128x4352) ![0, 3840] S128x256.size inb_S128x4352_S128x256_0_3840).toLoadRect X6
  | 16 => View.readAt (Elt Ideal) arg6.view (Rect.unit (s := S128x4352) ![0, 4096] S128x256.size inb_S128x4352_S128x256_0_4096).toLoadRect X6
  | _ => fun _ => 0

/-- What the scratch holds where a chunk was stored whole. -/
theorem rd (L : List (View.Piece (Elt Ideal) S4352x256 .f32)) (J J' : ℕ) (i : ∀ a, (![J, 0] : Fin 2 → ℕ) a + S256x256.size a ≤ S4352x256.size a)
    (i' : ∀ a, (![J', 0] : Fin 2 → ℕ) a + S256x256.size a ≤ S4352x256.size a) (w : S256x256.Idx → Elt Ideal .f32) (h : J' + 256 ≤ J ∨ J + 256 ≤ J') :
    arg9.view.readCov ((⟨Rect.unit (s := S4352x256) ![J, 0] S256x256.size i, w⟩ : View.Piece (Elt Ideal) S4352x256 .f32) :: L) (Rect.unit (s := S4352x256) ![J', 0] S256x256.size i').toLoadRect
      = arg9.view.readCov L (Rect.unit (s := S4352x256) ![J', 0] S256x256.size i').toLoadRect :=
  View.readCov_cons_of_disjoint _ _ _ _ (by
    have := Rect.unit_disjoint (s := S4352x256) (inb := i) (inb' := i') 0 (by
      show J + 256 ≤ J' ∨ J' + 256 ≤ J
      omega)
    exact this)

theorem rd0 : sl.v187 (F := Ideal) arg4 arg5 arg9 v7 X4 X5 k = tl arg4 arg5 v7 X4 X5 k 0 := by
  unfold sl.v187 sl.HW_arg9_17
  rw [rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num)]
  refine (View.readCov_cons_toLoadRect _ _ _ _).trans ?_
  exact shapeCast_self _ _

theorem rd1 : sl.v200 (F := Ideal) arg4 arg5 arg9 v7 X4 X5 k = tl arg4 arg5 v7 X4 X5 k 1 := by
  unfold sl.v200 sl.HW_arg9_17
  rw [rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num)]
  refine (View.readCov_cons_toLoadRect _ _ _ _).trans ?_
  exact shapeCast_self _ _

theorem rd2 : sl.v213 (F := Ideal) arg4 arg5 arg9 v7 X4 X5 k = tl arg4 arg5 v7 X4 X5 k 2 := by
  unfold sl.v213 sl.HW_arg9_17
  rw [rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num)]
  refine (View.readCov_cons_toLoadRect _ _ _ _).trans ?_
  exact shapeCast_self _ _

theorem rd3 : sl.v226 (F := Ideal) arg4 arg5 arg9 v7 X4 X5 k = tl arg4 arg5 v7 X4 X5 k 3 := by
  unfold sl.v226 sl.HW_arg9_17
  rw [rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num)]
  refine (View.readCov_cons_toLoadRect _ _ _ _).trans ?_
  exact shapeCast_self _ _

theorem rd4 : sl.v239 (F := Ideal) arg4 arg5 arg9 v7 X4 X5 k = tl arg4 arg5 v7 X4 X5 k 4 := by
  unfold sl.v239 sl.HW_arg9_17
  rw [rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num)]
  refine (View.readCov_cons_toLoadRect _ _ _ _).trans ?_
  exact shapeCast_self _ _

theorem rd5 : sl.v252 (F := Ideal) arg4 arg5 arg9 v7 X4 X5 k = tl arg4 arg5 v7 X4 X5 k 5 := by
  unfold sl.v252 sl.HW_arg9_17
  rw [rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num)]
  refine (View.readCov_cons_toLoadRect _ _ _ _).trans ?_
  exact shapeCast_self _ _

theorem rd6 : sl.v265 (F := Ideal) arg4 arg5 arg9 v7 X4 X5 k = tl arg4 arg5 v7 X4 X5 k 6 := by
  unfold sl.v265 sl.HW_arg9_17
  rw [rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num)]
  refine (View.readCov_cons_toLoadRect _ _ _ _).trans ?_
  exact shapeCast_self _ _

theorem rd7 : sl.v278 (F := Ideal) arg4 arg5 arg9 v7 X4 X5 k = tl arg4 arg5 v7 X4 X5 k 7 := by
  unfold sl.v278 sl.HW_arg9_17
  rw [rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num)]
  refine (View.readCov_cons_toLoadRect _ _ _ _).trans ?_
  exact shapeCast_self _ _

theorem rd8 : sl.v291 (F := Ideal) arg4 arg5 arg9 v7 X4 X5 k = tl arg4 arg5 v7 X4 X5 k 8 := by
  unfold sl.v291 sl.HW_arg9_17
  rw [rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num)]
  refine (View.readCov_cons_toLoadRect _ _ _ _).trans ?_
  exact shapeCast_self _ _

theorem rd9 : sl.v304 (F := Ideal) arg4 arg5 arg9 v7 X4 X5 k = tl arg4 arg5 v7 X4 X5 k 9 := by
  unfold sl.v304 sl.HW_arg9_17
  rw [rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num)]
  refine (View.readCov_cons_toLoadRect _ _ _ _).trans ?_
  exact shapeCast_self _ _

theorem rd10 : sl.v317 (F := Ideal) arg4 arg5 arg9 v7 X4 X5 k = tl arg4 arg5 v7 X4 X5 k 10 := by
  unfold sl.v317 sl.HW_arg9_17
  rw [rd _ _ _ _ _ _ _ (by norm_num), rd _ _ _ _ _ _ _ (by norm_num), rd _ _ _ _ _ _ _ (by norm_num), rd _ _ _ _ _ _ _ (by norm_num), rd _ _ _ _ _ _ _ (by norm_num), rd _ _ _ _ _ _ _ (by norm_num)]
  refine (View.readCov_cons_toLoadRect _ _ _ _).trans ?_
  exact shapeCast_self _ _

theorem rd11 : sl.v330 (F := Ideal) arg4 arg5 arg9 v7 X4 X5 k = tl arg4 arg5 v7 X4 X5 k 11 := by
  unfold sl.v330 sl.HW_arg9_17
  rw [rd _ _ _ _ _ _ _ (by norm_num), rd _ _ _ _ _ _ _ (by norm_num), rd _ _ _ _ _ _ _ (by norm_num), rd _ _ _ _ _ _ _ (by norm_num), rd _ _ _ _ _ _ _ (by norm_num)]
  refine (View.readCov_cons_toLoadRect _ _ _ _).trans ?_
  exact shapeCast_self _ _

theorem rd12 : sl.v343 (F := Ideal) arg4 arg5 arg9 v7 X4 X5 k = tl arg4 arg5 v7 X4 X5 k 12 := by
  unfold sl.v343 sl.HW_arg9_17
  rw [rd _ _ _ _ _ _ _ (by norm_num), rd _ _ _ _ _ _ _ (by norm_num), rd _ _ _ _ _ _ _ (by norm_num), rd _ _ _ _ _ _ _ (by norm_num)]
  refine (View.readCov_cons_toLoadRect _ _ _ _).trans ?_
  exact shapeCast_self _ _

theorem rd13 : sl.v356 (F := Ideal) arg4 arg5 arg9 v7 X4 X5 k = tl arg4 arg5 v7 X4 X5 k 13 := by
  unfold sl.v356 sl.HW_arg9_17
  rw [rd _ _ _ _ _ _ _ (by norm_num), rd _ _ _ _ _ _ _ (by norm_num), rd _ _ _ _ _ _ _ (by norm_num)]
  refine (View.readCov_cons_toLoadRect _ _ _ _).trans ?_
  exact shapeCast_self _ _

theorem rd14 : sl.v369 (F := Ideal) arg4 arg5 arg9 v7 X4 X5 k = tl arg4 arg5 v7 X4 X5 k 14 := by
  unfold sl.v369 sl.HW_arg9_17
  rw [rd _ _ _ _ _ _ _ (by norm_num), rd _ _ _ _ _ _ _ (by norm_num)]
  refine (View.readCov_cons_toLoadRect _ _ _ _).trans ?_
  exact shapeCast_self _ _

theorem rd15 : sl.v382 (F := Ideal) arg4 arg5 arg9 v7 X4 X5 k = tl arg4 arg5 v7 X4 X5 k 15 := by
  unfold sl.v382 sl.HW_arg9_17
  rw [rd _ _ _ _ _ _ _ (by norm_num)]
  refine (View.readCov_cons_toLoadRect _ _ _ _).trans ?_
  exact shapeCast_self _ _

theorem rd16 : sl.v395 (F := Ideal) arg4 arg5 arg9 v7 X4 X5 k = tl arg4 arg5 v7 X4 X5 k 16 := by
  unfold sl.v395 sl.HW_arg9_17
  refine (View.readCov_cons_toLoadRect _ _ _ _).trans ?_
  exact shapeCast_self _ _

/-- The shift is that of the running maximum over the 17 chunks. -/
theorem shift_eq : sl.r (F := Ideal) arg4 arg5 v7 X4 X5 k = top (mxs (tl arg4 arg5 v7 X4 X5 k) 17) := rfl

/-- The weighted mean of the trip. -/
theorem mean_eq : k0_pay81 (F := Ideal) (sl.r_16 (F := Ideal) arg4 arg5 arg9 v7 X4 X5 k) (sl.r_17 (F := Ideal) arg4 arg5 arg6 arg9 v7 X4 X5 X6 k)
      (sl.r_18 (F := Ideal) arg4 arg5 arg9 v7 X4 X5 k) (View.readAt (Elt Ideal) arg6.view (Rect.unit (s := S128x4352) ![0, 4096] S128x256.size inb_S128x4352_S128x256_0_4096).toLoadRect X6)
    = att (tl arg4 arg5 v7 X4 X5 k) (vl arg6 X6) := by
  unfold sl.r_16 sl.r_17 sl.r_18 sl.r_15 sl.r_14 sl.r_13 sl.r_12 sl.r_11 sl.r_10 sl.r_9 sl.r_8 sl.r_7 sl.r_6 sl.r_5 sl.r_4 sl.r_3 sl.r_2 sl.r_1
  rw [rd0, rd1, rd2, rd3, rd4, rd5, rd6, rd7, rd8, rd9, rd10, rd11, rd12, rd13, rd14, rd15, rd16]
  rfl

/-- The codes of the trip. -/
theorem codes_eq : sl.r_20 (F := Ideal) arg3 arg4 arg5 arg6 arg9 v7 X3 X4 X5 X6 k
    = codes (att (tl arg4 arg5 v7 X4 X5 k) (vl arg6 X6)) (sl.r_19 (F := Ideal) arg3 X3) := by
  rw [← mean_eq arg4 arg5 arg6 arg9 v7 X4 X5 X6 k]
  rfl

end

end Cert.AttIdeal.Closed

end
-- ==== Proof.AttBlock.lean ====
/- The attention: one block's codes, and what one block leaves of the running largest size. -/
module

public import proofs.«01_k».proof.Proof.AttTrip

@[expose] public section

set_option maxRecDepth 16384

noncomputable section

open Idealize.ShloMosaic Idealize.ShloMosaic.TcCoe Idealize.SL.Sem
open Idealize.ShloMosaic.Pipeline (Dat)

namespace Cert.AttIdeal.Closed

open Cert.AttIdeal Cert.AttIdeal.Gen Cert.AttIdeal.Gen.trip_k0_t1

/-- Whether key `j` is seen: a text token before the text's length, or an image token. -/
def seen (len : BitVec 32) (j : ℕ) : BitVec 1 :=
  IntOp.ori (IntOp.cmpi .slt (BitVec.ofNat 32 j) len) (IntOp.cmpi .sge (BitVec.ofNat 32 j) 256#32)

theorem seen_image (len : BitVec 32) (j : ℕ) (h0 : 256 ≤ j) (h1 : j < 4352) : seen len j = 1#1 := by
  have e : IntOp.cmpi .sge (BitVec.ofNat 32 j) 256#32 = 1#1 := by
    simp only [IntOp.cmpi]
    have : (256#32).sle (BitVec.ofNat 32 j) = true := by
      rw [BitVec.sle_eq_decide]
      have a1 : (BitVec.ofNat 32 j).toInt = j := by
        have a2 : (BitVec.ofNat 32 j).toNat = j := by rw [BitVec.toNat_ofNat]; omega
        rw [BitVec.toInt_eq_toNat_of_lt (by rw [a2]; omega), a2]
      rw [a1]; simp; omega
    simp [this]
  unfold seen
  rw [e]
  unfold IntOp.ori
  generalize IntOp.cmpi .slt (BitVec.ofNat 32 j) len = x
  revert x; decide

/-- The score of key `j` for query `i`, before the scale. -/
def sK (len : BitVec 32) (q k : Vec Ideal S1x1x4352x128 .bf16) (i j : Fin 4352) : EReal :=
  Scalar.select (seen len j.val) (∑ d : Fin 128, k (ix4 0 0 j d) * q (ix4 0 0 i d)) (Ideal.ofBits .f32 0xFF800000#32)

theorem pay5_at (v7 : BitVec 32) (q k : Vec Ideal S1x1x256x128 .bf16) (r c : Fin 256) : k0_pay5 (F := Ideal) (k0_pay2 (F := Ideal) v7) q k (ix2 r c)
    = Scalar.select (seen v7 r.val) (∑ d : Fin 128, k (ix4 0 0 r d) * q (ix4 0 0 c d)) (Ideal.ofBits .f32 0xFF800000#32) := by
  unfold seen
  pointwise [k0_pay5, k0_pay4, k0_pay2]

theorem pay12_at (q k : Vec Ideal S1x1x256x128 .bf16) (r c : Fin 256) : k0_pay12 (F := Ideal) (k0_pay4 (F := Ideal) q) k (ix2 r c)
    = ∑ d : Fin 128, k (ix4 0 0 r d) * q (ix4 0 0 c d) := by
  pointwise [k0_pay12, k0_pay4]

/-- The running largest size after one block of queries. -/
def mx82 (o : FVec Ideal S128x256 .f32) (p : FVec Ideal S8x256 .f32) : FVec Ideal S8x256 .f32 :=
  shapeCast S8x256 (maximumf p (multiReduction .maximumf [0] S8x256 (shapeCast S16x8x256 (absf o) shapeCasts_S128x256_S16x8x256) 0xFF800000#32 reduces_S16x8x256_S8x256 (.inl rfl) rfl)) shapeCasts_S8x256_S8x256

theorem mx82_le (o : FVec Ideal S128x256 .f32) (p : FVec Ideal S8x256 .f32) (r : Fin 8) (q : Fin 256) (B : EReal) : mx82 o p (ix2 r q) ≤ B
    ↔ p (ix2 r q) ≤ B ∧ ∀ i : Fin 16, o (ix2 ⟨i.val * 8 + r.val, by omega⟩ q) ⊔ -o (ix2 ⟨i.val * 8 + r.val, by omega⟩ q) ≤ B := by
  have e : mx82 o p (ix2 r q) = p (ix2 r q) ⊔ Finset.univ.fold max (⊥ : EReal) (fun i : Fin 16 => o (ix2 ⟨i.val * 8 + r.val, by omega⟩ q) ⊔ -o (ix2 ⟨i.val * 8 + r.val, by omega⟩ q)) := by
    pointwise [mx82]
    rw [Consts.neg_inf]
    rfl
  rw [e, sup_le_iff, Finset.fold_max_le]
  simp only [Finset.mem_univ, bot_le, true_and, forall_true_left]

section

variable (arg3 : Memref sig .tc .smem S1 .f32) (arg4 arg5 : Memref sig .tc .vmem S1x1x4352x128 .bf16) (arg6 : Memref sig .tc .vmem S128x4352 .bf16) (v7 : Elt Ideal .i32) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (k : Fin k0_t1_loop.trips)

theorem tl_pos (n : ℕ) (h0 : 0 < n) (h1 : n < 17) (inb) : tl arg4 arg5 v7 X4 X5 k n
    = k0_pay12 (F := Ideal) (k0_pay4 (F := Ideal) (qs arg4 X4 k)) (View.readAt (Elt Ideal) arg5.view (Rect.unit (s := S1x1x4352x128) ![0, 0, n * 256, 0] S1x1x256x128.size inb).toLoadRect X5) := by
  interval_cases n <;> rfl

theorem vl_eq (n : ℕ) (h1 : n < 17) (inb) : vl arg6 X6 n
    = View.readAt (Elt Ideal) arg6.view (Rect.unit (s := S128x4352) ![0, n * 256] S128x256.size inb).toLoadRect X6 := by
  interval_cases n <;> rfl

theorem key_at (o : ℕ) (ho : o + 256 ≤ 4352) (inb) (r : Fin 256) (d : Fin 128) :
    View.readAt (Elt Ideal) arg5.view (Rect.unit (s := S1x1x4352x128) ![0, 0, o, 0] S1x1x256x128.size inb).toLoadRect X5 (ix4 0 0 r d)
      = View.read (Elt Ideal) arg5.view X5 (ix4 0 0 ⟨o + r.val, by omega⟩ d) := by
  rw [View.readAt_apply]
  congr 1
  funext a
  fin_cases a <;> apply Fin.ext <;> simp [ix4, Rect.unit]

theorem val_at (o : ℕ) (ho : o + 256 ≤ 4352) (inb) (r : Fin 256) (d : Fin 128) :
    View.readAt (Elt Ideal) arg6.view (Rect.unit (s := S128x4352) ![0, o] S128x256.size inb).toLoadRect X6 (ix2 d r)
      = View.read (Elt Ideal) arg6.view X6 (ix2 d ⟨o + r.val, by omega⟩) := by
  rw [View.readAt_apply]
  congr 1
  funext a
  fin_cases a <;> apply Fin.ext <;> simp [ix2, Rect.unit]

theorem off2_eq : k0_off2 k = ![0, 0, k.val * 256, 0] := by
  revert k; decide +kernel
theorem off3_eq : k0_off3 k = ![k.val * 256, 0] := by
  revert k; decide +kernel

theorem trips_lt (k : Fin k0_t1_loop.trips) : k.val < 17 := k.isLt

theorem qs_at (c : Fin 256) (d : Fin 128) : qs arg4 X4 k (ix4 0 0 c d)
    = View.read (Elt Ideal) arg4.view X4 (ix4 0 0 ⟨k.val * 256 + c.val, by have := trips_lt k; omega⟩ d) := by
  unfold qs
  rw [View.readAt_apply]
  congr 1
  funext a
  have e := off2_eq k
  fin_cases a <;> apply Fin.ext <;> simp [ix4, Rect.unit, e]

/-- The scores of one chunk. -/
theorem tl_at (c : Fin 17) (r q : Fin 256) : tl arg4 arg5 v7 X4 X5 k c.val (ix2 r q)
    = sK v7 (View.read (Elt Ideal) arg4.view X4) (View.read (Elt Ideal) arg5.view X5) ⟨k.val * 256 + q.val, by have := trips_lt k; omega⟩ ⟨c.val * 256 + r.val, by omega⟩ := by
  unfold sK
  obtain ⟨n, hn⟩ := c
  rcases Nat.eq_zero_or_pos n with rfl | h0
  · have e : tl arg4 arg5 v7 X4 X5 k 0 = k0_pay5 (F := Ideal) (k0_pay2 (F := Ideal) v7) (qs arg4 X4 k) (View.readAt (Elt Ideal) arg5.view (Rect.unit (s := S1x1x4352x128) ![0, 0, 0, 0] S1x1x256x128.size inb_S1x1x4352x128_S1x1x256x128_0_0_0_0).toLoadRect X5) := rfl
    dsimp only
    rw [e, pay5_at]
    simp only [qs_at, key_at _ _ 0 (by omega), Nat.zero_mul, Nat.zero_add]
  · dsimp only
    rw [tl_pos _ _ _ _ _ _ n h0 hn (by intro a; fin_cases a <;> simp <;> omega), pay12_at, seen_image v7 _ (by omega) (by omega)]
    simp only [qs_at, key_at _ _ (n * 256) (by omega)]
    rfl

theorem vl_at (c : Fin 17) (r : Fin 256) (d : Fin 128) : vl arg6 X6 c.val (ix2 d r)
    = View.read (Elt Ideal) arg6.view X6 (ix2 d ⟨c.val * 256 + r.val, by omega⟩) := by
  rw [vl_eq _ _ c.val c.isLt (by intro a; fin_cases a <;> simp <;> omega), val_at _ _ _ (by omega)]

/-- One entry of a trip's weighted means. -/
theorem trip_at (d : Fin 128) (q : Fin 256) : att (tl arg4 arg5 v7 X4 X5 k) (vl arg6 X6) (ix2 d q)
    = oAt (sK v7 (View.read (Elt Ideal) arg4.view X4) (View.read (Elt Ideal) arg5.view X5) ⟨k.val * 256 + q.val, by have := trips_lt k; omega⟩)
        (fun j => View.read (Elt Ideal) arg6.view X6 (ix2 d j)) :=
  att_at _ _ d q _ _ (fun c r => tl_at arg4 arg5 v7 X4 X5 k c r q) (fun c r => vl_at arg6 X6 c r d)

end

end Cert.AttIdeal.Closed

end
-- ==== Proof.AttLoop.lean ====
/- The attention: the codes one grid point writes, and how it moves the running largest size. -/
module

public import proofs.«01_k».proof.Proof.AttBlock
public import proofs.«01_k».proof.Proof.AttIdealFrame

@[expose] public section

set_option maxRecDepth 16384

noncomputable section

open Idealize.ShloMosaic Idealize.ShloMosaic.TcCoe Idealize.SL.Sem
open Idealize.ShloMosaic.Pipeline (Dat)

namespace Cert.AttIdeal.Closed

open Cert.AttIdeal Cert.AttIdeal.Gen Cert.AttIdeal.Gen.trip_k0_t1

/-- The size of a value. -/
def size (x : EReal) : EReal := x ⊔ -x

section

variable (c : Dev nD) (i : grid0.Coords) (arg2 : Memref sig .tc .smem S2 .i32) (harg2 : arg2.IsWhole) (arg3 : Memref sig .tc .smem S1 .f32) (harg3 : arg3.IsWhole) (arg4 : Memref sig .tc .vmem S1x1x4352x128 .bf16) (harg4 : arg4.IsWhole) (arg5 : Memref sig .tc .vmem S1x1x4352x128 .bf16) (harg5 : arg5.IsWhole) (arg6 : Memref sig .tc .vmem S128x4352 .bf16) (harg6 : arg6.IsWhole) (arg7 : Memref sig .tc .vmem S4352x128 .fp8e4m3) (harg7 : arg7.IsWhole) (arg8 : Memref sig .tc .smem S1x1 .f32) (harg8 : arg8.IsWhole) (arg9 : Memref sig .tc .vmem S4352x256 .f32) (harg9 : arg9.IsWhole) (arg10 : Memref sig .tc .vmem S8x256 .f32) (harg10 : arg10.IsWhole)

theorem whole_emb (y : S8x256.Idx) : (Rect.unit (s := S8x256) ![0, 0] S8x256.size inb_S8x256_S8x256_0_0).emb y = y := by
  funext a
  fin_cases a <;> apply Fin.ext <;> simp [Rect.emb, Rect.unit]

/-- A store of the whole array is what is read after it. -/
theorem read_whole {κ : Kind} {sp : Space} (v : View sig κ sp S8x256 .f32) (f : v.ty.Contents (Elt Ideal)) (P : FVec Ideal S8x256 .f32) (L : List (View.Piece (Elt Ideal) S8x256 .f32))
    (y : S8x256.Idx) : v.read (Elt Ideal) (v.writes (Elt Ideal) f (⟨(Rect.unit (s := S8x256) ![0, 0] S8x256.size inb_S8x256_S8x256_0_0), P⟩ :: L)) y = P y := by
  have := View.read_writes_cons_emb (v := v) (f := f) (Rect.unit (s := S8x256) ![0, 0] S8x256.size inb_S8x256_S8x256_0_0) P L y
  rwa [whole_emb] at this

theorem readAt_whole (f : BufTy.Contents (Elt Ideal) arg10.view.ty) (y : S8x256.Idx) : View.readAt (Elt Ideal) arg10.view (Rect.unit (s := S8x256) ![0, 0] S8x256.size inb_S8x256_S8x256_0_0).toLoadRect f y = View.read (Elt Ideal) arg10.view f y := by
  rw [View.readAt_apply]
  exact congrArg _ (whole_emb y)

theorem read_one {κ : Kind} {sp : Space} (v : View sig κ sp S1x1 .f32) (f : v.ty.Contents (Elt Ideal)) (P : FVec Ideal S1x1 .f32) (L : List (View.Piece (Elt Ideal) S1x1 .f32))
    (y : S1x1.Idx) : v.read (Elt Ideal) (v.writes (Elt Ideal) f (⟨Rect.unit (s := S1x1) ![0, 0] S1x1.size inb_S1x1_S1x1_0_0, P⟩ :: L)) y = P y := by
  have := View.read_writes_cons_emb (v := v) (f := f) (Rect.unit (s := S1x1) ![0, 0] S1x1.size inb_S1x1_S1x1_0_0) P L y
  have e : (Rect.unit (s := S1x1) ![0, 0] S1x1.size inb_S1x1_S1x1_0_0).emb y = y := by
    funext a
    fin_cases a <;> apply Fin.ext <;> simp [Rect.emb, Rect.unit]
  rwa [e] at this

theorem trips_eq : (Scf.trips (0#32) (Scalar.addi 0#32 17#32) 1#32) = 16 + 1 := by decide +kernel

section

variable (𝒱 : Variants) (bd : Option 𝒱.V) (v7 : Elt Ideal .i32) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)

/-- The piece of codes a trip stores. -/
theorem trip7 (k : Fin k0_t1_loop.trips) (f7 f9 f10) : (trip_k0_t1 (F := Ideal) 𝒱 c bd i arg2 harg2 arg3 harg3 arg4 harg4 arg5 harg5 arg6 harg6 arg7 harg7 arg8 harg8 arg9 harg9 arg10 harg10 v7 X3 X4 X5 X6 k).1 f7 f9 f10
    = [⟨Rect.unit (s := S4352x128) (k0_off3 k) S256x128.size (k0_off3_inb k), codes (att (tl arg4 arg5 v7 X4 X5 k) (vl arg6 X6)) (sl.r_19 (F := Ideal) arg3 X3)⟩] := by
  unfold trip_k0_t1
  dsimp only
  rw [codes_eq]

/-- The running largest size a trip stores. -/
theorem trip10 (k : Fin k0_t1_loop.trips) (f7 f9 f10) : (trip_k0_t1 (F := Ideal) 𝒱 c bd i arg2 harg2 arg3 harg3 arg4 harg4 arg5 harg5 arg6 harg6 arg7 harg7 arg8 harg8 arg9 harg9 arg10 harg10 v7 X3 X4 X5 X6 k).2.2.1 f7 f9 f10
    = [⟨(Rect.unit (s := S8x256) ![0, 0] S8x256.size inb_S8x256_S8x256_0_0), mx82 (att (tl arg4 arg5 v7 X4 X5 k) (vl arg6 X6)) (View.readAt (Elt Ideal) arg10.view (Rect.unit (s := S8x256) ![0, 0] S8x256.size inb_S8x256_S8x256_0_0).toLoadRect f10)⟩] := by
  unfold trip_k0_t1
  dsimp only
  rw [← mean_eq]
  rfl

variable (G7 : BufTy.Contents (Elt Ideal) arg7.view.ty) (G9 : BufTy.Contents (Elt Ideal) arg9.view.ty) (G10 : BufTy.Contents (Elt Ideal) arg10.view.ty)

/-- The pieces of codes the trips before `n` store. -/
theorem pb7 (n : ℕ) (hn : n ≤ 17) : ∀ pc ∈ (pb_k0_t1 (F := Ideal) 𝒱 c bd i arg2 harg2 arg3 harg3 arg4 harg4 arg5 harg5 arg6 harg6 arg7 harg7 arg8 harg8 arg9 harg9 arg10 harg10 v7 X3 X4 X5 X6 G7 G9 G10 n).1, ∃ k : Fin k0_t1_loop.trips,
    pc = ⟨Rect.unit (s := S4352x128) (k0_off3 k) S256x128.size (k0_off3_inb k), codes (att (tl arg4 arg5 v7 X4 X5 k) (vl arg6 X6)) (sl.r_19 (F := Ideal) arg3 X3)⟩ := by
  induction n with
  | zero => intro pc h; exact absurd h List.not_mem_nil
  | succ n ih =>
    intro pc h
    have e := pb_k0_t1_succ (F := Ideal) 𝒱 c bd i arg2 harg2 arg3 harg3 arg4 harg4 arg5 harg5 arg6 harg6 arg7 harg7 arg8 harg8 arg9 harg9 arg10 harg10 v7 X3 X4 X5 X6 G7 G9 G10 ⟨n, hn⟩
    dsimp only at e
    rw [e] at h
    dsimp only at h
    rw [trip7, List.mem_append] at h
    rcases h with h | h
    · exact ⟨⟨n, hn⟩, List.mem_singleton.1 h⟩
    · exact ih (by omega) pc h

/-- The last trip's store of the running largest size is in front. -/
theorem pb10_succ (n : ℕ) (hn : n < 17) : (pb_k0_t1 (F := Ideal) 𝒱 c bd i arg2 harg2 arg3 harg3 arg4 harg4 arg5 harg5 arg6 harg6 arg7 harg7 arg8 harg8 arg9 harg9 arg10 harg10 v7 X3 X4 X5 X6 G7 G9 G10 (n + 1)).2.2
    = ⟨(Rect.unit (s := S8x256) ![0, 0] S8x256.size inb_S8x256_S8x256_0_0), mx82 (att (tl arg4 arg5 v7 X4 X5 ⟨n, hn⟩) (vl arg6 X6)) (View.readAt (Elt Ideal) arg10.view (Rect.unit (s := S8x256) ![0, 0] S8x256.size inb_S8x256_S8x256_0_0).toLoadRect (arg10.view.writes (Elt Ideal) G10 (pb_k0_t1 (F := Ideal) 𝒱 c bd i arg2 harg2 arg3 harg3 arg4 harg4 arg5 harg5 arg6 harg6 arg7 harg7 arg8 harg8 arg9 harg9 arg10 harg10 v7 X3 X4 X5 X6 G7 G9 G10 n).2.2))⟩ :: (pb_k0_t1 (F := Ideal) 𝒱 c bd i arg2 harg2 arg3 harg3 arg4 harg4 arg5 harg5 arg6 harg6 arg7 harg7 arg8 harg8 arg9 harg9 arg10 harg10 v7 X3 X4 X5 X6 G7 G9 G10 n).2.2 := by
  have e := pb_k0_t1_succ (F := Ideal) 𝒱 c bd i arg2 harg2 arg3 harg3 arg4 harg4 arg5 harg5 arg6 harg6 arg7 harg7 arg8 harg8 arg9 harg9 arg10 harg10 v7 X3 X4 X5 X6 G7 G9 G10 ⟨n, hn⟩
  dsimp only at e
  rw [e]
  dsimp only
  rw [trip10]
  rfl

/-- The running largest size after `n` trips. -/
theorem pb10 (n : ℕ) (hn : n ≤ 17) (r : Fin 8) (q : Fin 256) (B : EReal) : View.read (Elt Ideal) arg10.view (arg10.view.writes (Elt Ideal) G10 (pb_k0_t1 (F := Ideal) 𝒱 c bd i arg2 harg2 arg3 harg3 arg4 harg4 arg5 harg5 arg6 harg6 arg7 harg7 arg8 harg8 arg9 harg9 arg10 harg10 v7 X3 X4 X5 X6 G7 G9 G10 n).2.2) (ix2 r q) ≤ B
    ↔ View.read (Elt Ideal) arg10.view G10 (ix2 r q) ≤ B ∧ ∀ k : Fin k0_t1_loop.trips, k.val < n → ∀ a : Fin 16,
      att (tl arg4 arg5 v7 X4 X5 k) (vl arg6 X6) (ix2 ⟨a.val * 8 + r.val, by omega⟩ q) ⊔ -att (tl arg4 arg5 v7 X4 X5 k) (vl arg6 X6) (ix2 ⟨a.val * 8 + r.val, by omega⟩ q) ≤ B := by
  induction n with
  | zero =>
    refine ⟨fun h => ⟨h, fun k hk => absurd hk (by omega)⟩, fun h => h.1⟩
  | succ n ih =>
    rw [pb10_succ _ _ _ _ _ _ _ _ _ _ _ _ _ _ _ _ _ _ _ _ _ _ _ _ _ _ _ _ _ _ n (by omega), read_whole, mx82_le, readAt_whole, ih (by omega), and_assoc]
    refine and_congr_right fun _ => ⟨fun h k hk => ?_, fun h => ⟨fun k hk => h k (by omega), h ⟨n, hn⟩ (Nat.lt_succ_self n)⟩⟩
    rcases Nat.lt_succ_iff_lt_or_eq.1 hk with h' | h'
    · exact h.1 k h'
    · have ek : k = ⟨n, hn⟩ := Fin.ext h'
      rw [ek]
      exact h.2

/-- Any buffer reads the running largest size the same after the trips. -/
theorem pb10_any {κ : Kind} {sp : Space} (v : View sig κ sp S8x256 .f32) (f : v.ty.Contents (Elt Ideal)) (L : List (View.Piece (Elt Ideal) S8x256 .f32)) (n : ℕ) (hn : n < 17) (y : S8x256.Idx) :
    v.read (Elt Ideal) (v.writes (Elt Ideal) f ((pb_k0_t1 (F := Ideal) 𝒱 c bd i arg2 harg2 arg3 harg3 arg4 harg4 arg5 harg5 arg6 harg6 arg7 harg7 arg8 harg8 arg9 harg9 arg10 harg10 v7 X3 X4 X5 X6 G7 G9 G10 (n + 1)).2.2 ++ L)) y = View.read (Elt Ideal) arg10.view (arg10.view.writes (Elt Ideal) G10 (pb_k0_t1 (F := Ideal) 𝒱 c bd i arg2 harg2 arg3 harg3 arg4 harg4 arg5 harg5 arg6 harg6 arg7 harg7 arg8 harg8 arg9 harg9 arg10 harg10 v7 X3 X4 X5 X6 G7 G9 G10 (n + 1)).2.2) y := by
  rw [pb10_succ _ _ _ _ _ _ _ _ _ _ _ _ _ _ _ _ _ _ _ _ _ _ _ _ _ _ _ _ _ _ n hn, List.cons_append, read_whole, read_whole]

end

variable (x0 : Vec Ideal S2 .i32) (x1 : Vec Ideal S1 .f32) (x2 : Vec Ideal S1x1x4352x128 .bf16) (x3 : Vec Ideal S1x1x4352x128 .bf16) (x4 : Vec Ideal S128x4352 .bf16) (xs1 : Vec Ideal S8x256 .f32)

/-- Entry `(r, d)` of the weighted means of one head of one sequence. -/
def bo (len : BitVec 32) (r : Fin 4352) (d : Fin 128) : EReal := oAt (sK len x2 x3 r) (fun j => x4 (ix2 d j))

theorem r19_eq : sl.r_19 (F := Ideal) arg3 (harg3.unread x1) = x1 (ix1 0) := by
  unfold sl.r_19
  rw [View.readAt_apply, harg3.read_unread]
  congr 1
  funext a
  fin_cases a; apply Fin.ext; simp [ix1, Rect.unit, Shape.Idx.first]

theorem cast_eq (a : Fin 2) : BitVec.toNat (Scalar.indexCast (BitVec.ofNat 32 a.val)) = a.val := by
  revert a; decide

theorem rA_eq : kernelRun0_A.sl.r (F := Ideal) c i arg2 harg2 x0 = x0 (ix1 (i 0)) := by
  unfold kernelRun0_A.sl.r
  rw [View.readAt_apply, harg2.read_unread]
  congr 1
  funext a
  fin_cases a; apply Fin.ext; simp [ix1, Rect.unit, Shape.Idx.first, k0_off1]
  exact cast_eq (i 0)

theorem rB_eq : kernelRun0_B.sl.r (F := Ideal) c i arg2 harg2 x0 = x0 (ix1 (i 0)) := by
  unfold kernelRun0_B.sl.r
  rw [View.readAt_apply, harg2.read_unread]
  congr 1
  funext a
  fin_cases a; apply Fin.ext; simp [ix1, Rect.unit, Shape.Idx.first, k0_off1]
  exact cast_eq (i 0)

theorem rC_eq : kernelRun0_C.sl.r (F := Ideal) c i arg2 harg2 x0 = x0 (ix1 (i 0)) := by
  unfold kernelRun0_C.sl.r
  rw [View.readAt_apply, harg2.read_unread]
  congr 1
  funext a
  fin_cases a; apply Fin.ext; simp [ix1, Rect.unit, Shape.Idx.first, k0_off1]
  exact cast_eq (i 0)

section

variable (𝒱 : Variants) (bd : Option 𝒱.V) (v7 : Elt Ideal .i32) (G7 : BufTy.Contents (Elt Ideal) arg7.view.ty) (G9 : BufTy.Contents (Elt Ideal) arg9.view.ty) (G10 : BufTy.Contents (Elt Ideal) arg10.view.ty)

/-- The block of codes the trips leave. -/
theorem pb_codes (n : ℕ) (hn : n ≤ 17) {κ : Kind} {sp : Space} (v : View sig κ sp S4352x128 .fp8e4m3) (f : v.ty.Contents (Elt Ideal)) (y : S4352x128.Idx)
    (hy : ∃ pc ∈ (pb_k0_t1 (F := Ideal) 𝒱 c bd i arg2 harg2 arg3 harg3 arg4 harg4 arg5 harg5 arg6 harg6 arg7 harg7 arg8 harg8 arg9 harg9 arg10 harg10 v7 (harg3.unread x1) (harg4.unread x2) (harg5.unread x3) (harg6.unread x4) G7 G9 G10 n).1, y ∈ pc.1.set) :
    v.read (Elt Ideal) (v.writes (Elt Ideal) f (pb_k0_t1 (F := Ideal) 𝒱 c bd i arg2 harg2 arg3 harg3 arg4 harg4 arg5 harg5 arg6 harg6 arg7 harg7 arg8 harg8 arg9 harg9 arg10 harg10 v7 (harg3.unread x1) (harg4.unread x2) (harg5.unread x3) (harg6.unread x4) G7 G9 G10 n).1) y
      = code (bo x2 x3 x4 v7 (y 0) (y 1)) (x1 (ix1 0)) := by
  refine View.read_writes_apply_of_pieces (v := v) (f := f) (fun y => code (bo x2 x3 x4 v7 (y 0) (y 1)) (x1 (ix1 0))) _ (fun pc hpc x => ?_) y hy
  obtain ⟨k, rfl⟩ := pb7 _ _ _ _ _ _ _ _ _ _ _ _ _ _ _ _ _ _ _ _ _ _ _ _ _ _ _ _ _ _ n hn pc hpc
  dsimp only at x ⊢
  idx_vars x
  rw [codes_at, trip_at, r19_eq, harg4.read_unread, harg5.read_unread, harg6.read_unread]
  unfold bo
  have e := off3_eq k
  have e0 : (Rect.unit (s := S4352x128) (k0_off3 k) S256x128.size (k0_off3_inb k)).emb (ix2 x0 x1) 0 = (⟨k.val * 256 + x0.val, by have := trips_lt k; omega⟩ : Fin 4352) :=
    Fin.ext (by simp [Rect.emb, Rect.unit, e, ix2])
  have e1 : (Rect.unit (s := S4352x128) (k0_off3 k) S256x128.size (k0_off3_inb k)).emb (ix2 x0 x1) 1 = (x1 : Fin 128) :=
    Fin.ext (by simp [Rect.emb, Rect.unit, e, ix2])
  rw [e0, e1]

/-- The block's sizes read so far, at one entry of the running largest size. -/
theorem pb_size (n : ℕ) (hn : n ≤ 17) (r : Fin 8) (q : Fin 256) (B : EReal) :
    View.read (Elt Ideal) arg10.view (arg10.view.writes (Elt Ideal) G10 (pb_k0_t1 (F := Ideal) 𝒱 c bd i arg2 harg2 arg3 harg3 arg4 harg4 arg5 harg5 arg6 harg6 arg7 harg7 arg8 harg8 arg9 harg9 arg10 harg10 v7 (harg3.unread x1) (harg4.unread x2) (harg5.unread x3) (harg6.unread x4) G7 G9 G10 n).2.2) (ix2 r q) ≤ B
    ↔ View.read (Elt Ideal) arg10.view G10 (ix2 r q) ≤ B ∧ ∀ k : Fin 17, k.val < n → ∀ a : Fin 16, size (bo x2 x3 x4 v7 ⟨k.val * 256 + q.val, by omega⟩ ⟨a.val * 8 + r.val, by omega⟩) ≤ B := by
  rw [pb10 _ _ _ _ _ _ _ _ _ _ _ _ _ _ _ _ _ _ _ _ _ _ _ _ _ _ _ _ _ _ n hn]
  refine and_congr_right fun _ => ?_
  simp only [trip_at, harg4.read_unread, harg5.read_unread, harg6.read_unread]
  exact Iff.rfl

end

/-- The sizes one grid point reads at one entry of the running largest size. -/
def below (r : Fin 8) (q : Fin 256) (B : EReal) : Prop :=
  ∀ (k : Fin 17) (a : Fin 16), size (bo x2 x3 x4 (x0 (ix1 (i 0))) ⟨k.val * 256 + q.val, by omega⟩ ⟨a.val * 8 + r.val, by omega⟩) ≤ B

theorem pay1_at (y : S8x256.Idx) : k0_pay1 (F := Ideal) y = 0 := by
  idx_vars y
  pointwise [k0_pay1]

theorem pay3_le (s : FVec Ideal S8x256 .f32) (B : EReal) : k0_pay3 (F := Ideal) s ≤ B ↔ ∀ r q, s (ix2 r q) ≤ B := by
  have e : k0_pay3 (F := Ideal) s = (Finset.univ : Finset (Fin 8 × Fin 256)).fold max (⊥ : EReal) (fun x => s (ix2 x.1 x.2)) := by
    pointwise [k0_pay3]
    rw [Consts.neg_inf]
  rw [e, Finset.fold_max_le]
  simp only [Finset.mem_univ, bot_le, true_and, forall_true_left, Prod.forall]

theorem runA5 (hc0 : cond0_0 i) (hc1 : ¬cond0_1 i) : (kernelRun0_A (F := Ideal) c i arg2 harg2 arg3 harg3 arg4 harg4 arg5 harg5 arg6 harg6 arg7 harg7 arg8 harg8 arg9 harg9 arg10 harg10 hc0 hc1 x0 x1 x2 x3 x4).1 = (pb_k0_t1 (F := Ideal) Variants.none c none i arg2 harg2 arg3 harg3 arg4 harg4 arg5 harg5 arg6 harg6 arg7 harg7 arg8 harg8 arg9 harg9 arg10 harg10 (kernelRun0_A.sl.r (F := Ideal) c i arg2 harg2 x0) (harg3.unread x1) (harg4.unread x2) (harg5.unread x3) (harg6.unread x4) arg7.view.junk arg9.view.junk (arg10.view.writes (Elt Ideal) arg10.view.junk kernelRun0_A.sl.HS1_1) (Scf.trips (0#32) (Scalar.addi 0#32 17#32) 1#32)).1 := by
  unfold kernelRun0_A
  dsimp only

theorem outA5 (hc0 : cond0_0 i) (hc1 : ¬cond0_1 i) (y : S4352x128.Idx) : out0_A_5 (F := Ideal) c i arg2 harg2 arg3 harg3 arg4 harg4 arg5 harg5 arg6 harg6 arg7 harg7 arg8 harg8 arg9 harg9 arg10 harg10 hc0 hc1 x0 x1 x2 x3 x4 y = code (bo x2 x3 x4 (x0 (ix1 (i 0))) (y 0) (y 1)) (x1 (ix1 0)) := by
  have hy := cover0_A_5 (F := Ideal) c i arg2 harg2 arg3 harg3 arg4 harg4 arg5 harg5 arg6 harg6 arg7 harg7 arg8 harg8 arg9 harg9 arg10 harg10 hc0 hc1 x0 x1 x2 x3 x4 y
  unfold out0_A_5
  rw [runA5] at hy ⊢
  rw [trips_eq] at hy ⊢
  rw [pb_codes (hy := hy) (hn := by norm_num), rA_eq]

theorem runA1 (hc0 : cond0_0 i) (hc1 : ¬cond0_1 i) : (kernelRun0_A (F := Ideal) c i arg2 harg2 arg3 harg3 arg4 harg4 arg5 harg5 arg6 harg6 arg7 harg7 arg8 harg8 arg9 harg9 arg10 harg10 hc0 hc1 x0 x1 x2 x3 x4).2.2.1 = (pb_k0_t1 (F := Ideal) Variants.none c none i arg2 harg2 arg3 harg3 arg4 harg4 arg5 harg5 arg6 harg6 arg7 harg7 arg8 harg8 arg9 harg9 arg10 harg10 (kernelRun0_A.sl.r (F := Ideal) c i arg2 harg2 x0) (harg3.unread x1) (harg4.unread x2) (harg5.unread x3) (harg6.unread x4) arg7.view.junk arg9.view.junk (arg10.view.writes (Elt Ideal) arg10.view.junk kernelRun0_A.sl.HS1_1) (Scf.trips (0#32) (Scalar.addi 0#32 17#32) 1#32)).2.2 ++ kernelRun0_A.sl.HS1_1 := by
  unfold kernelRun0_A
  dsimp only

theorem soutA1 (hc0 : cond0_0 i) (hc1 : ¬cond0_1 i) (r : Fin 8) (q : Fin 256) (B : EReal) : sout0_A_1 (F := Ideal) c i arg2 harg2 arg3 harg3 arg4 harg4 arg5 harg5 arg6 harg6 arg7 harg7 arg8 harg8 arg9 harg9 arg10 harg10 hc0 hc1 x0 x1 x2 x3 x4 (ix2 r q) ≤ B
    ↔ (0 : EReal) ≤ B ∧ below i x0 x2 x3 x4 r q B := by
  unfold sout0_A_1
  rw [runA1, trips_eq, pb10_any (hn := by norm_num), pb_size (hn := by norm_num), rA_eq]
  have e : View.read (Elt Ideal) arg10.view (arg10.view.writes (Elt Ideal) arg10.view.junk kernelRun0_A.sl.HS1_1) (ix2 r q) = (0 : EReal) := by
    unfold kernelRun0_A.sl.HS1_1; rw [read_whole, pay1_at]
  rw [e]
  exact and_congr_right fun _ => ⟨fun h k a => h k (by omega) a, fun h k _ a => h k a⟩

theorem runB5 (hc0 : ¬cond0_0 i) (hc1 : ¬cond0_1 i) : (kernelRun0_B (F := Ideal) c i arg2 harg2 arg3 harg3 arg4 harg4 arg5 harg5 arg6 harg6 arg7 harg7 arg8 harg8 arg9 harg9 arg10 harg10 hc0 hc1 x0 x1 x2 x3 x4 xs1).1 = (pb_k0_t1 (F := Ideal) Variants.none c none i arg2 harg2 arg3 harg3 arg4 harg4 arg5 harg5 arg6 harg6 arg7 harg7 arg8 harg8 arg9 harg9 arg10 harg10 (kernelRun0_B.sl.r (F := Ideal) c i arg2 harg2 x0) (harg3.unread x1) (harg4.unread x2) (harg5.unread x3) (harg6.unread x4) arg7.view.junk arg9.view.junk (harg10.unread xs1) (Scf.trips (0#32) (Scalar.addi 0#32 17#32) 1#32)).1 := by
  unfold kernelRun0_B
  dsimp only

theorem outB5 (hc0 : ¬cond0_0 i) (hc1 : ¬cond0_1 i) (y : S4352x128.Idx) : out0_B_5 (F := Ideal) c i arg2 harg2 arg3 harg3 arg4 harg4 arg5 harg5 arg6 harg6 arg7 harg7 arg8 harg8 arg9 harg9 arg10 harg10 hc0 hc1 x0 x1 x2 x3 x4 xs1 y = code (bo x2 x3 x4 (x0 (ix1 (i 0))) (y 0) (y 1)) (x1 (ix1 0)) := by
  have hy := cover0_B_5 (F := Ideal) c i arg2 harg2 arg3 harg3 arg4 harg4 arg5 harg5 arg6 harg6 arg7 harg7 arg8 harg8 arg9 harg9 arg10 harg10 hc0 hc1 x0 x1 x2 x3 x4 xs1 y
  unfold out0_B_5
  rw [runB5] at hy ⊢
  rw [trips_eq] at hy ⊢
  rw [pb_codes (hy := hy) (hn := by norm_num), rB_eq]

theorem runB1 (hc0 : ¬cond0_0 i) (hc1 : ¬cond0_1 i) : (kernelRun0_B (F := Ideal) c i arg2 harg2 arg3 harg3 arg4 harg4 arg5 harg5 arg6 harg6 arg7 harg7 arg8 harg8 arg9 harg9 arg10 harg10 hc0 hc1 x0 x1 x2 x3 x4 xs1).2.2.1 = (pb_k0_t1 (F := Ideal) Variants.none c none i arg2 harg2 arg3 harg3 arg4 harg4 arg5 harg5 arg6 harg6 arg7 harg7 arg8 harg8 arg9 harg9 arg10 harg10 (kernelRun0_B.sl.r (F := Ideal) c i arg2 harg2 x0) (harg3.unread x1) (harg4.unread x2) (harg5.unread x3) (harg6.unread x4) arg7.view.junk arg9.view.junk (harg10.unread xs1) (Scf.trips (0#32) (Scalar.addi 0#32 17#32) 1#32)).2.2 ++ [] := by
  unfold kernelRun0_B
  exact (List.append_nil _).symm

theorem soutB1 (hc0 : ¬cond0_0 i) (hc1 : ¬cond0_1 i) (r : Fin 8) (q : Fin 256) (B : EReal) : sout0_B_1 (F := Ideal) c i arg2 harg2 arg3 harg3 arg4 harg4 arg5 harg5 arg6 harg6 arg7 harg7 arg8 harg8 arg9 harg9 arg10 harg10 hc0 hc1 x0 x1 x2 x3 x4 xs1 (ix2 r q) ≤ B
    ↔ xs1 (ix2 r q) ≤ B ∧ below i x0 x2 x3 x4 r q B := by
  unfold sout0_B_1
  rw [runB1, trips_eq, pb10_any (hn := by norm_num), pb_size (hn := by norm_num), rB_eq]
  have e : View.read (Elt Ideal) arg10.view (harg10.unread xs1) (ix2 r q) = xs1 (ix2 r q) := by
    rw [harg10.read_unread]
  rw [e]
  exact and_congr_right fun _ => ⟨fun h k a => h k (by omega) a, fun h k _ a => h k a⟩

theorem runC5 (hc0 : ¬cond0_0 i) (hc1 : cond0_1 i) : (kernelRun0_C (F := Ideal) c i arg2 harg2 arg3 harg3 arg4 harg4 arg5 harg5 arg6 harg6 arg7 harg7 arg8 harg8 arg9 harg9 arg10 harg10 hc0 hc1 x0 x1 x2 x3 x4 xs1).1 = (pb_k0_t1 (F := Ideal) Variants.none c none i arg2 harg2 arg3 harg3 arg4 harg4 arg5 harg5 arg6 harg6 arg7 harg7 arg8 harg8 arg9 harg9 arg10 harg10 (kernelRun0_C.sl.r (F := Ideal) c i arg2 harg2 x0) (harg3.unread x1) (harg4.unread x2) (harg5.unread x3) (harg6.unread x4) arg7.view.junk arg9.view.junk (harg10.unread xs1) (Scf.trips (0#32) (Scalar.addi 0#32 17#32) 1#32)).1 := by
  unfold kernelRun0_C
  dsimp only

theorem outC5 (hc0 : ¬cond0_0 i) (hc1 : cond0_1 i) (y : S4352x128.Idx) : out0_C_5 (F := Ideal) c i arg2 harg2 arg3 harg3 arg4 harg4 arg5 harg5 arg6 harg6 arg7 harg7 arg8 harg8 arg9 harg9 arg10 harg10 hc0 hc1 x0 x1 x2 x3 x4 xs1 y = code (bo x2 x3 x4 (x0 (ix1 (i 0))) (y 0) (y 1)) (x1 (ix1 0)) := by
  have hy := cover0_C_5 (F := Ideal) c i arg2 harg2 arg3 harg3 arg4 harg4 arg5 harg5 arg6 harg6 arg7 harg7 arg8 harg8 arg9 harg9 arg10 harg10 hc0 hc1 x0 x1 x2 x3 x4 xs1 y
  unfold out0_C_5
  rw [runC5] at hy ⊢
  rw [trips_eq] at hy ⊢
  rw [pb_codes (hy := hy) (hn := by norm_num), rC_eq]

theorem runC1 (hc0 : ¬cond0_0 i) (hc1 : cond0_1 i) : (kernelRun0_C (F := Ideal) c i arg2 harg2 arg3 harg3 arg4 harg4 arg5 harg5 arg6 harg6 arg7 harg7 arg8 harg8 arg9 harg9 arg10 harg10 hc0 hc1 x0 x1 x2 x3 x4 xs1).2.2.1 = (pb_k0_t1 (F := Ideal) Variants.none c none i arg2 harg2 arg3 harg3 arg4 harg4 arg5 harg5 arg6 harg6 arg7 harg7 arg8 harg8 arg9 harg9 arg10 harg10 (kernelRun0_C.sl.r (F := Ideal) c i arg2 harg2 x0) (harg3.unread x1) (harg4.unread x2) (harg5.unread x3) (harg6.unread x4) arg7.view.junk arg9.view.junk (harg10.unread xs1) (Scf.trips (0#32) (Scalar.addi 0#32 17#32) 1#32)).2.2 ++ [] := by
  unfold kernelRun0_C
  exact (List.append_nil _).symm

theorem soutC1 (hc0 : ¬cond0_0 i) (hc1 : cond0_1 i) (r : Fin 8) (q : Fin 256) (B : EReal) : sout0_C_1 (F := Ideal) c i arg2 harg2 arg3 harg3 arg4 harg4 arg5 harg5 arg6 harg6 arg7 harg7 arg8 harg8 arg9 harg9 arg10 harg10 hc0 hc1 x0 x1 x2 x3 x4 xs1 (ix2 r q) ≤ B
    ↔ xs1 (ix2 r q) ≤ B ∧ below i x0 x2 x3 x4 r q B := by
  unfold sout0_C_1
  rw [runC1, trips_eq, pb10_any (hn := by norm_num), pb_size (hn := by norm_num), rC_eq]
  have e : View.read (Elt Ideal) arg10.view (harg10.unread xs1) (ix2 r q) = xs1 (ix2 r q) := by
    rw [harg10.read_unread]
  rw [e]
  exact and_congr_right fun _ => ⟨fun h k a => h k (by omega) a, fun h k _ a => h k a⟩

set_option maxHeartbeats 1000000 in
/-- The last grid point's largest size. -/
theorem outC6 (hc0 : ¬cond0_0 i) (hc1 : cond0_1 i) (y : S1x1.Idx) (B : EReal) : out0_C_6 (F := Ideal) c i arg2 harg2 arg3 harg3 arg4 harg4 arg5 harg5 arg6 harg6 arg7 harg7 arg8 harg8 arg9 harg9 arg10 harg10 hc0 hc1 x0 x1 x2 x3 x4 xs1 y ≤ B
    ↔ ∀ r q, sout0_C_1 (F := Ideal) c i arg2 harg2 arg3 harg3 arg4 harg4 arg5 harg5 arg6 harg6 arg7 harg7 arg8 harg8 arg9 harg9 arg10 harg10 hc0 hc1 x0 x1 x2 x3 x4 xs1 (ix2 r q) ≤ B := by
  have e : (kernelRun0_C (F := Ideal) c i arg2 harg2 arg3 harg3 arg4 harg4 arg5 harg5 arg6 harg6 arg7 harg7 arg8 harg8 arg9 harg9 arg10 harg10 hc0 hc1 x0 x1 x2 x3 x4 xs1).2.1 = [⟨Rect.unit (s := S1x1) ![0, 0] S1x1.size inb_S1x1_S1x1_0_0, fun x => k0_pay3 (F := Ideal) (View.readAt (Elt Ideal) arg10.view (Rect.unit (s := S8x256) ![0, 0] S8x256.size inb_S8x256_S8x256_0_0).toLoadRect (arg10.view.writes (Elt Ideal) (harg10.unread xs1) (pb_k0_t1 (F := Ideal) Variants.none c none i arg2 harg2 arg3 harg3 arg4 harg4 arg5 harg5 arg6 harg6 arg7 harg7 arg8 harg8 arg9 harg9 arg10 harg10 (kernelRun0_C.sl.r (F := Ideal) c i arg2 harg2 x0) (harg3.unread x1) (harg4.unread x2) (harg5.unread x3) (harg6.unread x4) arg7.view.junk arg9.view.junk (harg10.unread xs1) (Scf.trips (0#32) (Scalar.addi 0#32 17#32) 1#32)).2.2))⟩] := by
    unfold kernelRun0_C
    rfl
  unfold out0_C_6
  rw [e, read_one, pay3_le]
  refine forall_congr' fun r => forall_congr' fun q => ?_
  unfold sout0_C_1
  rw [runC1, readAt_whole, trips_eq, pb10_any (hn := by norm_num)]

end

end Cert.AttIdeal.Closed

end
-- ==== Proof.AttValue.lean ====
/- The attention: the kernel's arrays after its run, entry by entry. -/
module

public import proofs.«01_k».proof.Proof.AttLoop

@[expose] public section

set_option maxRecDepth 16384

noncomputable section

open Idealize.ShloMosaic Idealize.ShloMosaic.TcCoe Idealize.SL.Sem
open Idealize.ShloMosaic.Pipeline (Dat)

namespace Cert.AttIdeal.Closed

open Cert.AttIdeal Cert.AttIdeal.Gen

/-- The score of key `j` for query `i` of head `h` of sequence `b`, before the scale. -/
def sArr (x0 x1 : FVec Ideal S2x12x4352x128 .bf16) (x3 : IVec S2 32) (b : Fin 2) (h : Fin 12) (i j : Fin 4352) : EReal :=
  Scalar.select (seen (x3 (ix1 b)) j.val) (∑ d : Fin 128, x1 (ix4 b h j d) * x0 (ix4 b h i d)) (Ideal.ofBits .f32 0xFF800000#32)

/-- Channel `d` of the values of head `h` of sequence `b`. -/
def vArr (x2 : FVec Ideal S1536x8704 .bf16) (b : Fin 2) (h : Fin 12) (d : Fin 128) (j : Fin 4352) : EReal :=
  x2 (ix2 ⟨h.val * 128 + d.val, by omega⟩ ⟨b.val * 4352 + j.val, by omega⟩)

/-- The weighted mean, entry by entry. -/
def oArr (x0 x1 : FVec Ideal S2x12x4352x128 .bf16) (x2 : FVec Ideal S1536x8704 .bf16) (x3 : IVec S2 32) (b : Fin 2) (h : Fin 12) (i : Fin 4352) (d : Fin 128) : EReal :=
  oAt (sArr x0 x1 x3 b h i) (vArr x2 b h d)

variable (m : (ℓ : Loc nD τ sig) → Buf (Elt Ideal) ℓ)

/-- Where each window's block lies at grid point `t`: head `t % 12` of sequence `t / 12`. -/
theorem idx : ∀ t : Fin cfg0.N, win0_0.index t = ![0] ∧ win0_1.index t = ![0] ∧ win0_2.index t = ![t.val / 12, t.val % 12, 0, 0]
    ∧ win0_3.index t = ![t.val / 12, t.val % 12, 0, 0] ∧ win0_4.index t = ![t.val % 12, t.val / 12] ∧ win0_5.index t = ![t.val / 12, t.val % 12] ∧ win0_6.index t = ![0, 0] :=
  (by decide +kernel : ∀ t : Fin grid0.N, _)

theorem coord : ∀ t : Fin cfg0.N, (grid0.coords t 0).val = t.val / 12 :=
  (by decide +kernel : ∀ t : Fin grid0.N, _)

theorem len_at (c : Dev nD) (t : Fin cfg0.N) (a : Fin 2) :
    (iblk m c 0 t : IVec S2 32) (ix1 a) = (m ((c : Thread nD τ).loc main_arg3) : IVec S2 32) (ix1 a) := by
  blk_point [iblk, V, idx t]

theorem sa_at (c : Dev nD) (t : Fin cfg0.N) :
    (iblk m c 1 t : FVec Ideal S1 .f32) (ix1 0) = (m ((c : Thread nD τ).loc main_arg4) : FVec Ideal S1 .f32) (ix1 0) := by
  blk_point [iblk, V, idx t]

theorem q_at (c : Dev nD) (t : Fin cfg0.N) (i : Fin 4352) (d : Fin 128) :
    (iblk m c 2 t : FVec Ideal S1x1x4352x128 .bf16) (ix4 0 0 i d)
      = (m ((c : Thread nD τ).loc main_arg0) : FVec Ideal S2x12x4352x128 .bf16) (ix4 ⟨t.val / 12, by have : t.val < 24 := t.isLt; omega⟩ ⟨t.val % 12, by omega⟩ i d) := by
  blk_point [iblk, V, idx t]

theorem k_at (c : Dev nD) (t : Fin cfg0.N) (i : Fin 4352) (d : Fin 128) :
    (iblk m c 3 t : FVec Ideal S1x1x4352x128 .bf16) (ix4 0 0 i d)
      = (m ((c : Thread nD τ).loc main_arg1) : FVec Ideal S2x12x4352x128 .bf16) (ix4 ⟨t.val / 12, by have : t.val < 24 := t.isLt; omega⟩ ⟨t.val % 12, by omega⟩ i d) := by
  blk_point [iblk, V, idx t]

theorem v_at (c : Dev nD) (t : Fin cfg0.N) (d : Fin 128) (j : Fin 4352) :
    (iblk m c 4 t : FVec Ideal S128x4352 .bf16) (ix2 d j)
      = (m ((c : Thread nD τ).loc main_arg2) : FVec Ideal S1536x8704 .bf16) (ix2 ⟨t.val % 12 * 128 + d.val, by omega⟩ ⟨t.val / 12 * 4352 + j.val, by have : t.val < 24 := t.isLt; omega⟩) := by
  blk_point [iblk, V, idx t]

/-- The weighted mean of the arguments. -/
abbrev om (c : Dev nD) (b : Fin 2) (h : Fin 12) (i : Fin 4352) (d : Fin 128) : EReal :=
  oArr (m ((c : Thread nD τ).loc main_arg0)) (m ((c : Thread nD τ).loc main_arg1)) (m ((c : Thread nD τ).loc main_arg2)) (m ((c : Thread nD τ).loc main_arg3)) b h i d

theorem bo_eq (c : Dev nD) (t : Fin cfg0.N) (r : Fin 4352) (d : Fin 128) :
    bo (iblk m c 2 t) (iblk m c 3 t) (iblk m c 4 t) ((iblk m c 0 t : IVec S2 32) (ix1 (grid0.coords t 0))) r d
      = om m c ⟨t.val / 12, by have : t.val < 24 := t.isLt; omega⟩ ⟨t.val % 12, by omega⟩ r d := by
  have hb : t.val / 12 < 2 := by have : t.val < 24 := t.isLt; omega
  have hc : (iblk m c 0 t : IVec S2 32) (ix1 (grid0.coords t 0)) = (m ((c : Thread nD τ).loc main_arg3) : IVec S2 32) (ix1 (⟨t.val / 12, hb⟩ : Fin 2)) :=
    (congrArg (fun a : Fin 2 => (iblk m c 0 t : IVec S2 32) (ix1 a)) (Fin.ext (coord t) : (grid0.coords t 0 : Fin 2) = (⟨t.val / 12, hb⟩ : Fin 2))).trans (len_at m c t _)
  refine (congrArg (fun l => bo (iblk m c 2 t) (iblk m c 3 t) (iblk m c 4 t) l r d) hc).trans ?_
  unfold bo om oArr sArr vArr
  refine congrArg₂ oAt (funext fun j => ?_) (funext fun j => v_at m c t d j)
  unfold sK
  simp only [q_at, k_at]

theorem out5 (c : Dev nD) (t : Fin cfg0.N) (y : S4352x128.Idx) : (outsAt0 m c t.val t.isLt).1 y
    = code (om m c ⟨t.val / 12, by have : t.val < 24 := t.isLt; omega⟩ ⟨t.val % 12, by omega⟩ (y 0) (y 1)) ((m ((c : Thread nD τ).loc main_arg4) : FVec Ideal S1 .f32) (ix1 0)) := by
  by_cases h0 : t.val % 24 = 0
  · have h1 : ¬t.val % 24 = 23 := by omega
    rw [outsAt0_A m c t h0 h1]
    dsimp only
    exact (outA5 ..).trans (congrArg₂ code (bo_eq m c t _ _) (sa_at m c t))
  · by_cases h1 : t.val % 24 = 23
    · rw [outsAt0_C m c t h0 h1]
      dsimp only
      exact (outC5 ..).trans (congrArg₂ code (bo_eq m c t _ _) (sa_at m c t))
    · rw [outsAt0_B m c t h0 h1]
      dsimp only
      exact (outB5 ..).trans (congrArg₂ code (bo_eq m c t _ _) (sa_at m c t))

/-- The kernel's codes after its run, entry by entry. -/
theorem final5 (c : Dev nD) : (dats m 0 c).arrAt 5 cfg0.N
    = fun y : S8704x1536.Idx => code (om m c ⟨(y 0).val / 4352, by have : (y 0).val < 8704 := (y 0).isLt; omega⟩ ⟨(y 1).val / 128, by have : (y 1).val < 1536 := (y 1).isLt; omega⟩
        ⟨(y 0).val % 4352, by omega⟩ ⟨(y 1).val % 128, by omega⟩) ((m ((c : Thread nD τ).loc main_arg4) : FVec Ideal S1 .f32) (ix1 0)) := by
  refine (dats m 0 c).arrAt_eq_of_covers 5 _ (by decide +kernel) fun t _ y => ?_
  blk_simp
  rw [after0_5, out5]
  idx_vars y
  have hlt : t.val < 24 := t.isLt
  have hy0 : y0.val < 4352 := y0.isLt
  have hy1 : y1.val < 128 := y1.isLt
  have i0 : win0_5.index t 0 = t.val / 12 := by rw [(idx t).2.2.2.2.2.1]; rfl
  have i1 : win0_5.index t 1 = t.val % 12 := by rw [(idx t).2.2.2.2.2.1]; rfl
  have hom : ∀ (b b' : Fin 2) (h h' : Fin 12) (i i' : Fin 4352) (d d' : Fin 128), b.val = b'.val → h.val = h'.val → i.val = i'.val → d.val = d'.val → om m c b h i d = om m c b' h' i' d' := by
    intro b b' h h' i i' d d' e0 e1 e2 e3
    rw [Fin.ext e0, Fin.ext e1, Fin.ext e2, Fin.ext e3]
  refine congrArg (fun o => code o _) (hom _ _ _ _ _ _ _ _ ?_ ?_ ?_ ?_) <;> simp only [i0, i1, ix2_0, ix2_1] <;> omega

/-- The sizes read at grid point `t`, at one entry of the running largest size. -/
theorem below_iff (c : Dev nD) (t : Fin cfg0.N) (r : Fin 8) (q : Fin 256) (B : EReal) :
    below (grid0.coords t) (iblk m c 0 t) (iblk m c 2 t) (iblk m c 3 t) (iblk m c 4 t) r q B
      ↔ ∀ (k : Fin 17) (a : Fin 16), size (om m c ⟨t.val / 12, by have : t.val < 24 := t.isLt; omega⟩ ⟨t.val % 12, by omega⟩ ⟨k.val * 256 + q.val, by omega⟩ ⟨a.val * 8 + r.val, by omega⟩) ≤ B := by
  unfold below
  exact forall_congr' fun k => forall_congr' fun a => by
    rw [show bo (iblk m c 2 t) (iblk m c 3 t) (iblk m c 4 t) _ _ _ = _ from bo_eq m c t _ _]

/-- The running largest size after grid point `n`, by its upper bounds. -/
theorem sweep (c : Dev nD) (r : Fin 8) (q : Fin 256) (B : EReal) : ∀ (n : ℕ) (hn : n < 24),
    (outsAt0 m c n hn).2.2 (ix2 r q) ≤ B
      ↔ 0 ≤ B ∧ ∀ (u : Fin 24), u.val ≤ n → ∀ (k : Fin 17) (a : Fin 16), size (om m c ⟨u.val / 12, by omega⟩ ⟨u.val % 12, by omega⟩ ⟨k.val * 256 + q.val, by omega⟩ ⟨a.val * 8 + r.val, by omega⟩) ≤ B := by
  intro n
  induction n with
  | zero =>
    intro hn
    have e := outsAt0_A m c ⟨0, hn⟩ rfl (by dsimp only; omega)
    dsimp only at e
    rw [e]
    dsimp only
    refine (soutA1 ..).trans ?_
    refine and_congr_right fun _ => (below_iff m c ⟨0, hn⟩ r q B).trans ⟨fun h u hu => ?_, fun h => h ⟨0, hn⟩ (le_refl _)⟩
    obtain rfl : u = ⟨0, hn⟩ := Fin.ext (Nat.le_zero.1 hu)
    exact h
  | succ n ih =>
    intro hn
    have e2 : (outsAt0 m c (n + 1) hn).2.2 (ix2 r q) ≤ B ↔ (outsAt0 m c n (Nat.lt_of_succ_lt hn)).2.2 (ix2 r q) ≤ B
        ∧ below (grid0.coords ⟨n + 1, hn⟩) (iblk m c 0 ⟨n + 1, hn⟩) (iblk m c 2 ⟨n + 1, hn⟩) (iblk m c 3 ⟨n + 1, hn⟩) (iblk m c 4 ⟨n + 1, hn⟩) r q B := by
      have h0 : ¬(n + 1) % 24 = 0 := by omega
      by_cases h1 : (n + 1) % 24 = 23
      · have e := outsAt0_C m c ⟨n + 1, hn⟩ h0 h1
        dsimp only at e
        rw [e]
        exact soutC1 ..
      · have e := outsAt0_B m c ⟨n + 1, hn⟩ h0 h1
        dsimp only at e
        rw [e]
        exact soutB1 ..
    rw [e2, ih (Nat.lt_of_succ_lt hn), and_assoc, below_iff]
    refine and_congr_right fun _ => ⟨fun h u hu => ?_, fun h => ⟨fun u hu => h u (by omega), h ⟨n + 1, hn⟩ (le_refl _)⟩⟩
    rcases Nat.lt_or_ge n u.val with h' | h'
    · obtain rfl : u = ⟨n + 1, hn⟩ := Fin.ext (by dsimp only; omega)
      exact h.2
    · exact h.1 u h'

theorem size_nonneg (g : EReal) : 0 ≤ size g := by
  unfold size
  rcases le_total 0 g with h | h
  · exact h.trans (le_max_left _ _)
  · exact (EReal.neg_nonneg.2 h).trans (le_max_right _ _)

/-- The last point's largest size, by its upper bounds. -/
theorem amax_le (c : Dev nD) (t : Fin cfg0.N) (h1 : t.val % 24 = 23) (y) (B : EReal) : (outsAt0 m c t.val t.isLt).2.1 y ≤ B
    ↔ ∀ (b : Fin 2) (i : Fin 4352) (h : Fin 12) (d : Fin 128), size (om m c b h i d) ≤ B := by
  have hlt : t.val < 24 := t.isLt
  have h0 : ¬t.val % 24 = 0 := by omega
  have e : (outsAt0 m c t.val t.isLt).2.1 y ≤ B ↔ ∀ r q, (outsAt0 m c t.val t.isLt).2.2 (ix2 r q) ≤ B := by
    rw [outsAt0_C m c t h0 h1]
    exact outC6 ..
  rw [e]
  simp only [sweep m c _ _ B t.val hlt]
  constructor
  · intro hh b i h d
    have h' := (hh ⟨d.val % 8, by omega⟩ ⟨i.val % 256, by omega⟩).2 ⟨b.val * 12 + h.val, by omega⟩ (by dsimp only; omega) ⟨i.val / 256, by omega⟩ ⟨d.val / 8, by omega⟩
    have e0 : (⟨(b.val * 12 + h.val) / 12, by omega⟩ : Fin 2) = b := Fin.ext (by dsimp only; omega)
    have e1 : (⟨(b.val * 12 + h.val) % 12, by omega⟩ : Fin 12) = h := Fin.ext (by dsimp only; omega)
    have e2 : (⟨i.val / 256 * 256 + i.val % 256, by omega⟩ : Fin 4352) = i := Fin.ext (by dsimp only; omega)
    have e3 : (⟨d.val / 8 * 8 + d.val % 8, by omega⟩ : Fin 128) = d := Fin.ext (by dsimp only; omega)
    dsimp only at h'
    rw [e0, e1, e2, e3] at h'
    exact h'
  · intro hh r q
    exact ⟨(size_nonneg _).trans (hh 0 0 0 0), fun u _ k a => hh _ _ _ _⟩

/-- The largest size of all. -/
def amaxArr (c : Dev nD) : EReal := ⨆ b : Fin 2, ⨆ i : Fin 4352, ⨆ h : Fin 12, ⨆ d : Fin 128, size (om m c b h i d)

/-- The kernel's largest size after its run. -/
theorem final6 (c : Dev nD) : (dats m 0 c).arrAt 6 cfg0.N = fun y : S1x1.Idx => amaxArr m c := by
  refine (dats m 0 c).arrAt_eq_of_covers 6 _ (by decide +kernel) fun t ht y => ?_
  have h1 : t.val % 24 = 23 := (by decide +kernel : ∀ t : Fin grid0.N, win0_6.flush t = true → t.val % 24 = 23) t ht
  blk_simp
  rw [after0_6]
  refine eq_of_forall_ge_iff (α := EReal) fun B => ?_
  rw [amax_le m c t h1]
  unfold amaxArr
  simp only [iSup_le_iff]

end Cert.AttIdeal.Closed

end
-- ==== Proof.AttRefValue.lean ====
/- What the reference of the attention computes, entry by entry. -/
module

public import proofs.«01_k».proof.Proof.Gen.AttRefIdeal.Read
public import proofs.«01_k».proof.Proof.Consts
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttRefIdeal.Closed

open Cert.AttRefIdeal Cert.AttRefIdeal.Read

/-- Whether key `j` is seen: a text token before the text's length, or an image token. -/
def seen (len : BitVec 32) (j : ℕ) : BitVec 1 :=
  IntOp.ori (IntOp.cmpi .slt (BitVec.ofNat 32 j) len) (IntOp.cmpi .sge (BitVec.ofNat 32 j) 256#32)

/-- The scaled score of a key, in units of a factor of two. -/
def s2 (len : BitVec 32) (t : EReal) (j : ℕ) : EReal :=
  Scalar.select (seen len j) (t * Ideal.ofBits .f32 0x3DB504F3#32 * Ideal.ofBits .f32 0x3FB8AA3B#32) (Ideal.ofBits .f32 0xFF800000#32)

/-- The weight of key `j`: two to the power of its score, less the largest score rounded up. -/
def wAt (s : Fin 4352 → EReal) (j : Fin 4352) : EReal :=
  FloatOps.hostPowf (F := Ideal) (φ := .f32) (Ideal.ofBits .f32 0x40000000#32)
    (s j - FloatOps.ceil (F := Ideal) (φ := .f32) (Finset.univ.fold max ⊥ s))

/-- The weighted mean of the values `v`. -/
def mean (s v : Fin 4352 → EReal) : EReal := Ideal.div (∑ j, v j * wAt s j) (∑ j, wAt s j)

section

variable (x0 x1 : FVec Ideal S2x12x4352x128 .bf16) (x2 : FVec Ideal S1536x8704 .bf16) (x3 : IVec S2 32) (x4 : FVec Ideal S1 .f32)

/-- The scores of query `i` of head `h` of sequence `b`. -/
def scores (b : Fin 2) (h : Fin 12) (i : Fin 4352) (j : Fin 4352) : EReal :=
  s2 (x3 (ix1 b)) (∑ d : Fin 128, x0 (ix4 b h i d) * x1 (ix4 b h j d)) j.val

/-- Channel `d` of the values of head `h` of sequence `b`. -/
def vals (b : Fin 2) (h : Fin 12) (d : Fin 128) (j : Fin 4352) : EReal :=
  x2 (ix2 ⟨h.val * 128 + d.val, by omega⟩ ⟨b.val * 4352 + j.val, by omega⟩)

theorem v14_at (b : Fin 2) (h : Fin 12) (i j : Fin 4352) : val_main_v14 (F := Ideal) x0 x1 (ix4 b h i j) = ∑ d : Fin 128, x0 (ix4 b h i d) * x1 (ix4 b h j d) := by
  rw [val_main_v14_apply]
  refine Finset.sum_congr rfl fun d _ => ?_
  have e1 : lidx_main_v14 (ix4 b h i j) d = ix4 b h i d := by
    funext a; fin_cases a <;> rfl
  have e2 : ridx_main_v14 (ix4 b h i j) d = ix4 b h j d := by
    funext a; fin_cases a <;> rfl
  rw [e1, e2]

theorem v17_at (b : Fin 2) (h : Fin 12) (i j : Fin 4352) : val_main_v17 (F := Ideal) x3 (ix4 b h i j) = seen (x3 (ix1 b)) j.val := by
  unfold seen
  pointwise [val_main_v17, val_main_v13, val_main_v12, val_main_v11, val_main_v10, val_main_v9, val_main_v8, val_main_v7, val_main_v6, val_main_v5, val_main_v4, val_main_v3, val_main_v2, val_main_c]

theorem v21_at (b : Fin 2) (h : Fin 12) (i j : Fin 4352) :
    val_main_v21 (F := Ideal) x0 x1 x3 (ix4 b h i j) = scores x0 x1 x3 b h i j := by
  unfold scores s2
  rw [← v17_at, ← v14_at]
  rfl

theorem v22_at (b : Fin 2) (h : Fin 12) (i : Fin 4352) :
    val_main_v22 (F := Ideal) x0 x1 x3 (ix3 b h i) = Finset.univ.fold max ⊥ (scores x0 x1 x3 b h i) := by
  pointwise [val_main_v22, val_main_cst_2]
  simp only [v21_at, Consts.neg_inf]

theorem v24_at (b : Fin 2) (h : Fin 12) (i : Fin 4352) :
    val_main_v24 (F := Ideal) x0 x1 x3 (ix4 b h i 0) = FloatOps.ceil (F := Ideal) (φ := .f32) (Finset.univ.fold max ⊥ (scores x0 x1 x3 b h i)) := by
  have e : idx_main_v23 (ix4 b h i 0) = ix3 b h i := by
    funext a; fin_cases a <;> rfl
  rw [val_main_v24_apply, val_main_v23_apply, e, v22_at, Ideal.hostUnary_ceil_def, Ideal.ceil_def]

theorem v28_at (b : Fin 2) (h : Fin 12) (i j : Fin 4352) :
    val_main_v28 (F := Ideal) x0 x1 x3 (ix4 b h i j) = wAt (scores x0 x1 x3 b h i) j := by
  have e : idx_main_v25 (ix4 b h i j) = ix4 b h i 0 := by
    funext a; fin_cases a <;> rfl
  have e2 : val_main_v27 (F := Ideal) (ix4 b h i j) = Ideal.ofBits .f32 0x40000000#32 := by
    rw [val_main_v27_apply]; rfl
  unfold wAt
  rw [val_main_v28_apply, e2, val_main_v26_apply, v21_at, val_main_v25_apply, e, v24_at, Ideal.subf_def]

theorem v1_at (b : Fin 2) (j : Fin 4352) (h : Fin 12) (d : Fin 128) :
    val_main_v1 (F := Ideal) x2 (ix4 b j h d) = vals x2 b h d j := by
  unfold vals
  pointwise [val_main_v1, val_main_v0]

theorem v36_at (b : Fin 2) (i : Fin 4352) (h : Fin 12) (d : Fin 128) :
    val_main_v36 (F := Ideal) x0 x1 x2 x3 (ix4 b i h d) = mean (scores x0 x1 x3 b h i) (vals x2 b h d) := by
  unfold mean
  pointwise [val_main_v36, val_main_v35, val_main_v34, val_main_v33, val_main_v32, val_main_v31, val_main_v30, val_main_v29, val_main_cst_4]
  simp only [v28_at, v1_at]

/-- One code. -/
def code (x s : EReal) : EReal :=
  min (Ideal.ofBits .f32 0x43E00000#32) (max (Ideal.ofBits .f32 0xC3E00000#32) (Ideal.div x s))

theorem v45_at (b : Fin 2) (i : Fin 4352) (h : Fin 12) (d : Fin 128) :
    val_main_v45 (F := Ideal) x0 x1 x2 x3 x4 (ix2 ⟨b.val * 4352 + i.val, by omega⟩ ⟨h.val * 128 + d.val, by omega⟩)
      = code (mean (scores x0 x1 x3 b h i) (vals x2 b h d)) (x4 (ix1 0)) := by
  unfold code
  rw [← v36_at]
  pointwise [val_main_v45, val_main_v44, val_main_v43, val_main_v42, val_main_v41, val_main_v40, val_main_call0_v0, val_main_call0_v1, val_main_call0_v2, val_main_call0_v3, val_main_call0_v4, val_main_cst_6, val_main_cst_7, id_eq]

/-- The largest size of all. -/
theorem v39_le (B : EReal) : val_main_v39 (F := Ideal) x0 x1 x2 x3 (ix2 0 0) ≤ B
    ↔ ∀ (b : Fin 2) (i : Fin 4352) (h : Fin 12) (d : Fin 128), (mean (scores x0 x1 x3 b h i) (vals x2 b h d)) ⊔ -(mean (scores x0 x1 x3 b h i) (vals x2 b h d)) ≤ B := by
  have e : val_main_v39 (F := Ideal) x0 x1 x2 x3 (ix2 0 0) = Finset.fold max (Ideal.ofBits .f32 0xFF800000#32)
      (fun x => FloatOps.absf (F := Ideal) (φ := .f32) (val_main_v36 (F := Ideal) x0 x1 x2 x3 x)) {i | Gen.reducesTo_S2x4352x12x128_S_d0_1_2_3.drop i = ix0} := by
    pointwise [val_main_v39, val_main_v38, val_main_v37, val_main_cst_5]
  rw [e, Consts.neg_inf, Finset.fold_max_le]
  constructor
  · intro h' b i h d
    have := h'.2 (ix4 b i h d) (Finset.mem_filter.2 ⟨Finset.mem_univ _, funext fun a => a.elim0⟩)
    rw [v36_at] at this
    exact this
  · refine fun h' => ⟨bot_le, fun x _ => ?_⟩
    idx_vars x
    rw [v36_at]
    exact h' _ _ _ _

end

end Cert.AttRefIdeal.Closed

end
-- ==== Proof.AttEq.lean ====
/- The attention's claims: the one named constant is the kernel's own to within rounding, and the ideal kernel's results are
   the reference's: its scores carry the scale after the largest is taken, the reference's before. -/
module

public import proofs.«01_k».proof.Defs
public import proofs.«01_k».proof.Proof.AttValue
public import proofs.«01_k».proof.Proof.AttRefValue

@[expose] public section

set_option maxRecDepth 16384

noncomputable section

open Idealize.ShloMosaic Idealize.ShloMosaic.TcCoe Idealize.SL.Sem

namespace Cert.AttIdeal.Closed

open Cert.AttRefIdeal.Closed (s2 wAt mean scores vals)

/-- The one replaced constant has its named value. -/
theorem preserves : Cert.preserves_Att_AttIdeal :=
  IdealRules.named_const.statement Cert.AttIdeal.κ "score_scale" .f32 0x3E0293EE#32 _ rfl

theorem scale_eq : scale = ((143571859112449 / 1125899906842624 : ℝ) : EReal) :=
  IdealRules.named_const.ideal_named_scalar (κ := κ) (name := "score_scale") (φ := .f32) _ _ rfl

/-- The two factors of the reference's scale are the kernel's one. -/
theorem factors : Ideal.ofBits .f32 0x3DB504F3#32 * Ideal.ofBits .f32 0x3FB8AA3B#32 = scale := by
  rw [scale_eq, Consts.head_scale, Consts.log2e, ← EReal.coe_mul]
  congr 1
  norm_num

theorem s2_eq (len : BitVec 32) (t : EReal) (j : ℕ) : s2 len t j = Scalar.select (seen len j) t (Ideal.ofBits .f32 0xFF800000#32) * scale := by
  unfold s2
  rw [mul_assoc, factors]
  have e : Cert.AttRefIdeal.Closed.seen len j = seen len j := rfl
  rw [e]
  have hb : Ideal.ofBits .f32 0xFF800000#32 = Ideal.ofBits .f32 0xFF800000#32 * scale := by
    rw [Consts.neg_inf, scale_eq, EReal.bot_mul_coe_of_pos (by norm_num)]
  unfold Scalar.select
  split
  · rfl
  · exact hb

/-- The largest of the scaled scores is the largest score, scaled. -/
theorem sup_eq (s : Fin 4352 → EReal) : Finset.univ.fold max ⊥ (fun j => s j * scale) = (⨆ j, s j) * scale := by
  have hp : (0 : EReal) < scale := by
    rw [scale_eq]; exact_mod_cast (by norm_num : (0 : ℝ) < 143571859112449 / 1125899906842624)
  have ht : scale ≠ ⊤ := by
    rw [scale_eq]; exact EReal.coe_ne_top _
  refine eq_of_forall_ge_iff (α := EReal) fun B => ?_
  rw [Finset.fold_max_le, ← EReal.le_div_iff_mul_le hp ht, iSup_le_iff]
  simp only [Finset.mem_univ, bot_le, true_and, forall_true_left, EReal.le_div_iff_mul_le hp ht]

theorem pow_two (x : EReal) : FloatOps.hostPowf (F := Ideal) (φ := .f32) (Ideal.ofBits .f32 0x40000000#32) x = Ideal.exp2 x := by
  rw [Consts.two]
  show Ideal.pow ((2 : ℝ) : EReal) x = _
  induction x with
  | bot => rw [Ideal.pow_coe_bot, if_neg (by norm_num), if_pos (by norm_num)]; rfl
  | top => rw [Ideal.pow_coe_top, if_neg (by norm_num), if_pos (by norm_num)]; rfl
  | coe r => rw [Ideal.pow_coe_coe]; rfl

theorem w_eq (s : Fin 4352 → EReal) (j : Fin 4352) : wAt (fun j => s j * scale) j = pAt s j := by
  unfold wAt pAt mAt
  rw [pow_two, sup_eq]

/-- The reference's weighted mean is the kernel's. -/
theorem mean_link (s v : Fin 4352 → EReal) : mean (fun j => s j * scale) v = oAt s v := by
  unfold mean oAt
  simp only [w_eq]

theorem o_eq (x0 x1 : FVec Ideal S2x12x4352x128 .bf16) (x2 : FVec Ideal S1536x8704 .bf16) (x3 : IVec S2 32) (b : Fin 2) (h : Fin 12) (i : Fin 4352) (d : Fin 128) :
    mean (scores x0 x1 x3 b h i) (vals x2 b h d) = oArr x0 x1 x2 x3 b h i d := by
  have e : scores x0 x1 x3 b h i = fun j => sArr x0 x1 x3 b h i j * scale := by
    funext j
    unfold scores sArr
    rw [s2_eq]
    simp only [mul_comm (x0 _)]
  rw [e, mean_link]
  rfl

theorem codes_link (x0 x1 : FVec Ideal S2x12x4352x128 .bf16) (x2 : FVec Ideal S1536x8704 .bf16) (x3 : IVec S2 32) (x4 : FVec Ideal S1 .f32) :
    Cert.AttRefIdeal.Read.val_main_v45 (F := Ideal) x0 x1 x2 x3 x4
      = fun y : S8704x1536.Idx => code (oArr x0 x1 x2 x3 ⟨(y 0).val / 4352, by have : (y 0).val < 8704 := (y 0).isLt; omega⟩ ⟨(y 1).val / 128, by have : (y 1).val < 1536 := (y 1).isLt; omega⟩
        ⟨(y 0).val % 4352, by omega⟩ ⟨(y 1).val % 128, by omega⟩) (x4 (ix1 0)) := by
  funext y
  idx_vars y
  have h := Cert.AttRefIdeal.Closed.v45_at x0 x1 x2 x3 x4 ⟨y0.val / 4352, by omega⟩ ⟨y0.val % 4352, by omega⟩ ⟨y1.val / 128, by omega⟩ ⟨y1.val % 128, by omega⟩
  have e0 : (⟨y0.val / 4352 * 4352 + y0.val % 4352, by omega⟩ : Fin 8704) = y0 := Fin.ext (by dsimp only; omega)
  have e1 : (⟨y1.val / 128 * 128 + y1.val % 128, by omega⟩ : Fin 1536) = y1 := Fin.ext (by dsimp only; omega)
  dsimp only at h
  rw [e0, e1, o_eq] at h
  exact h

theorem amax_link (x0 x1 : FVec Ideal S2x12x4352x128 .bf16) (x2 : FVec Ideal S1536x8704 .bf16) (x3 : IVec S2 32) :
    Cert.AttRefIdeal.Read.val_main_v39 (F := Ideal) x0 x1 x2 x3
      = fun y : S1x1.Idx => (⨆ b : Fin 2, ⨆ i : Fin 4352, ⨆ h : Fin 12, ⨆ d : Fin 128, size (oArr x0 x1 x2 x3 b h i d)) := by
  funext y
  have ey : y = ix2 0 0 := by
    funext a
    fin_cases a <;> exact Subsingleton.elim (α := Fin 1) _ _
  rw [ey]
  refine eq_of_forall_ge_iff (α := EReal) fun B => ?_
  rw [Cert.AttRefIdeal.Closed.v39_le]
  simp only [o_eq, iSup_le_iff]
  exact Iff.rfl

set_option maxHeartbeats 2000000 in
/-- From agreeing arguments the ideal kernel and the ideal reference both run, and end with the same results. -/
theorem algebraic : Cert.algebraic_AttIdeal_AttRefIdeal (hAttIdeal := Cert.AttIdeal.Gen.facts)
    (hAttRefIdeal := Cert.AttRefIdeal.Gen.facts) := by
  pair_intro
  · run_from Cert.AttIdeal.Gen.run_main m g
  · refine (θ_run (Cert.AttRefIdeal.defs (F := Ideal)) _ _).mono (fun r h c => ?_) (Cert.AttRefIdeal.Value.run (F := Ideal) m' g')
    obtain ⟨h0, h1, h2, h3, h4⟩ := hagree c
    refine ⟨(h c).1.trans ?_, (h c).2.1.trans ?_, (h c).2.2⟩
    · rw [Cert.AttRefIdeal.Read.val_main_v45_eq, h0, h1, h2, h3, h4]
      exact (codes_link _ _ _ _ _).trans (final5 m c).symm
    · rw [Cert.AttRefIdeal.Read.val_main_v39_eq, h0, h1, h2, h3]
      exact (amax_link _ _ _ _).trans (final6 m c).symm

/-- The reference's arguments end unchanged; it declares no semaphore. -/
theorem ref_frame : Cert.quiescent_AttRefIdeal (hAttRefIdeal := Cert.AttRefIdeal.Gen.facts) := by
  intro m g _
  exact (θ_run (Cert.AttRefIdeal.defs (F := Ideal)) _ _).mono (fun r h => ⟨fun c => (h c).2.2, sem_eq_zero_of_no_sems (by decide) r.2⟩)
    (Cert.AttRefIdeal.Value.run (F := Ideal) m g)

end Cert.AttIdeal.Closed

end
-- ==== Proof.OutRefValue.lean ====
/- What the reference of the output projection computes, entry by entry. -/
module

public import proofs.«01_k».proof.Proof.Gen.OutRefIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutRefIdeal.Closed

open Cert.OutRefIdeal Cert.OutRefIdeal.Gen

variable (m : (ℓ : Loc nD τ sig) → Buf (Elt Ideal) ℓ)

/-- One entry of the output projection: the residual row plus the gate times the two dequantised products, of the
    attention codes with the first 1536 rows of the weight and of the mlp codes with the other 6144. -/
def outAt (a : FVec Ideal S8704x1536 .fp8e4m3) (mm : FVec Ideal S8704x6144 .fp8e4m3) (w : FVec Ideal S7680x3072 .fp8e4m3)
    (ws b : FVec Ideal S1x3072 .f32) (gate : FVec Ideal S2x3072 .f32) (x : FVec Ideal S8704x3072 .bf16)
    (s : FVec Ideal S2 .f32) (r : Fin 8704) (k : Fin 3072) : EReal :=
  x (ix2 r k) + gate (ix2 ⟨r.val / 4352, by omega⟩ k)
    * ((s (ix1 0) * (∑ l : Fin 1536, a (ix2 r l) * w (ix2 ⟨l.val, by omega⟩ k))
        + s (ix1 1) * (∑ l : Fin 6144, mm (ix2 r l) * w (ix2 ⟨1536 + l.val, by omega⟩ k))) * ws (ix2 0 k) + b (ix2 0 k))

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0] ∧ win0_8.index t = ![0, 0] :=
  (by decide +kernel : ∀ t : Fin grid0.N, _)

/-- The reference's array after its run, entry by entry. -/
theorem final (c : Dev nD) : (dats m 0 c).arrAt 8 cfg0.N
    = fun y : S8704x3072.Idx => outAt (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (y 0) (y 1) := by
  refine (dats m 0 c).arrAt_eq_of_covers 8 _ (by decide +kernel) fun t _ y => ?_
  blk_simp
  rw [after0_8]; unfold outsAt0; frame_out
  simp only [read_unread_whole]
  idx_vars y
  have he : ((cfg0.win 8).blk t).view.emb (ix2 y0 y1) = (ix2 y0 y1 : S8704x3072.Idx) := by blk_ext [idx t]
  rw [he]
  unfold outAt
  pointwise [k0_pay1]
  blk_point [iblk, V, idx t]

end Cert.OutRefIdeal.Closed

end
-- ==== Proof.OutValue.lean ====
/- The output projection: every tile of 256 columns of every block of 256 rows is the reference's entries there. -/
module

public import proofs.«01_k».proof.Proof.Gen.OutIdeal.Value
public import proofs.«01_k».proof.Proof.OutRefValue

@[expose] public section

set_option maxRecDepth 16384

noncomputable section

open Idealize.ShloMosaic Idealize.ShloMosaic.TcCoe Idealize.SL.Sem
open Idealize.ShloMosaic.Pipeline (Dat)
open Cert.OutRefIdeal.Closed (outAt)

namespace Cert.OutIdeal.Closed

open Cert.OutIdeal Cert.OutIdeal.Gen

variable (m : (ℓ : Loc nD τ sig) → Buf (Elt Ideal) ℓ)

theorem idx : ∀ t : Fin cfg0.N, win0_0.index t = ![0] ∧ win0_1.index t = ![t.val, 0] ∧ win0_2.index t = ![t.val, 0]
    ∧ win0_3.index t = ![0, 0] ∧ win0_4.index t = ![0, 0] ∧ win0_5.index t = ![0, 0]
    ∧ win0_6.index t = ![t.val / 17, 0, 0]
    ∧ win0_7.index t = ![t.val, 0] ∧ win0_8.index t = ![t.val, 0] :=
  (by decide +kernel : ∀ t : Fin grid0.N, _)

/-- The kernel's array after its run, entry by entry. -/
theorem final (c : Dev nD) : (dats m 0 c).arrAt 8 cfg0.N
    = fun y : S8704x3072.Idx => outAt (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (y 0) (y 1) := by
  refine (dats m 0 c).arrAt_eq_of_covers 8 _ (by decide +kernel) fun t _ y => ?_
  blk_simp
  rw [after0_8]; unfold outsAt0; frame_out
  have hR : ((((cfg0.win 8).blk t).view.emb y 0).val : ℕ) = t.val * 256 + (y 0).val := by blk_simp [idx t]
  have hC : ((((cfg0.win 8).blk t).view.emb y 1).val : ℕ) = (y 1).val := by blk_simp [idx t]
  generalize ((cfg0.win 8).blk t).view.emb y 0 = R at hR ⊢
  generalize ((cfg0.win 8).blk t).view.emb y 1 = C at hC ⊢
  change Fin 8704 at R
  change Fin 3072 at C
  canon_tiles x h
  all_goals
    idx_vars x
    unfold outAt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, h0, h1]
    blk_point [iblk, V, idx t]

end Cert.OutIdeal.Closed

end
-- ==== Proof.OutEq.lean ====
/- The output projection's claims: nothing is rewritten, and the ideal kernel's result is the reference's. -/
module

public import proofs.«01_k».proof.Defs
public import proofs.«01_k».proof.Proof.OutValue

@[expose] public section

noncomputable section

open Idealize.ShloMosaic Idealize.ShloMosaic.TcCoe Idealize.SL.Sem

namespace Cert.OutIdeal.Closed

/-- Nothing is replaced in this call's ideal program. -/
theorem preserves : Cert.preserves_Out_OutIdeal := trivial

/-- From agreeing arguments the ideal kernel and the ideal reference both run, and end with the same result. -/
theorem algebraic : Cert.algebraic_OutIdeal_OutRefIdeal (hOutIdeal := Cert.OutIdeal.Gen.facts)
    (hOutRefIdeal := Cert.OutRefIdeal.Gen.facts) := by
  pair_intro
  · run_from Cert.OutIdeal.Gen.run_main m g
  · run_from Cert.OutRefIdeal.Gen.run_main m' g'
    obtain ⟨h0, h1, h2, h3, h4, h5, h6, h7⟩ := hagree c
    have e := OutRefIdeal.Closed.final m' c
    rw [h0, h1, h2, h3, h4, h5, h6, h7] at e
    exact e.trans (final m c).symm

end Cert.OutIdeal.Closed

end
-- ==== Proof.lean ====
/- The claims, put together: each call's frame from its generated run, each ideal kernel's value from the modules beside
   this one. -/
module

public import proofs.«01_k».proof.Defs
public import proofs.«01_k».proof.Proof.Gen.Ln.Frame
public import proofs.«01_k».proof.Proof.Gen.LnIdeal.Frame
public import proofs.«01_k».proof.Proof.Gen.LnRefIdeal.Frame
public import proofs.«01_k».proof.Proof.Gen.Qkv.Frame
public import proofs.«01_k».proof.Proof.Gen.QkvIdeal.Frame
public import proofs.«01_k».proof.Proof.Gen.QkvRefIdeal.Frame
public import proofs.«01_k».proof.Proof.Gen.Mlp.Frame
public import proofs.«01_k».proof.Proof.Gen.MlpIdeal.Frame
public import proofs.«01_k».proof.Proof.Gen.MlpRefIdeal.Frame
public import proofs.«01_k».proof.Proof.Gen.Out.Frame
public import proofs.«01_k».proof.Proof.Gen.OutIdeal.Frame
public import proofs.«01_k».proof.Proof.Gen.OutRefIdeal.Frame
public import proofs.«01_k».proof.Proof.AttFrame
public import proofs.«01_k».proof.Proof.AttIdealFrame
public import proofs.«01_k».proof.Proof.LnEq
public import proofs.«01_k».proof.Proof.QkvEq
public import proofs.«01_k».proof.Proof.MlpEq
public import proofs.«01_k».proof.Proof.AttEq
public import proofs.«01_k».proof.Proof.OutEq

@[expose] public section

noncomputable section

namespace Cert.Proof

open Idealize.ShloMosaic

theorem claim : Cert.Claim :=
  ⟨Cert.Ln.Gen.facts, Cert.LnIdeal.Gen.facts, Cert.LnRefIdeal.Gen.facts, Cert.Qkv.Gen.facts,
   Cert.QkvIdeal.Gen.facts, Cert.QkvRefIdeal.Gen.facts, Cert.Mlp.Gen.facts, Cert.MlpIdeal.Gen.facts,
   Cert.MlpRefIdeal.Gen.facts, Cert.Att.Gen.facts, Cert.AttIdeal.Gen.facts, Cert.AttRefIdeal.Gen.facts,
   Cert.Out.Gen.facts, Cert.OutIdeal.Gen.facts, Cert.OutRefIdeal.Gen.facts, fun m ρ _ => Cert.Ln.Gen.frame m ρ,
   fun m ρ _ => Cert.LnIdeal.Gen.frame m ρ, fun m ρ _ => Cert.LnRefIdeal.Gen.frame m ρ,
   fun m ρ _ => Cert.Qkv.Gen.frame m ρ, fun m ρ _ => Cert.QkvIdeal.Gen.frame m ρ,
   fun m ρ _ => Cert.QkvRefIdeal.Gen.frame m ρ, fun m ρ _ => Cert.Mlp.Gen.frame m ρ,
   fun m ρ _ => Cert.MlpIdeal.Gen.frame m ρ, fun m ρ _ => Cert.MlpRefIdeal.Gen.frame m ρ,
   fun m ρ _ => Cert.Att.Gen.frame m ρ, fun m ρ _ => Cert.AttIdeal.Gen.frame m ρ, AttIdeal.Closed.ref_frame,
   fun m ρ _ => Cert.Out.Gen.frame m ρ, fun m ρ _ => Cert.OutIdeal.Gen.frame m ρ,
   fun m ρ _ => Cert.OutRefIdeal.Gen.frame m ρ, LnIdeal.Closed.preserves, LnIdeal.Closed.algebraic,
   QkvIdeal.Closed.preserves, QkvIdeal.Closed.algebraic, MlpIdeal.Closed.preserves, MlpIdeal.Closed.algebraic,
   AttIdeal.Closed.preserves, AttIdeal.Closed.algebraic, OutIdeal.Closed.preserves, OutIdeal.Closed.algebraic⟩

end Cert.Proof

end
